-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_WeightTRefIdeal (m : (ℓ : Loc Cert.WeightTRefIdeal.nD Cert.WeightTRefIdeal.τ Cert.WeightTRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite [hPre_finite : Cert.Pre_finite.Facts] (m : (ℓ : Loc Cert.NormIdeal.nD Cert.NormIdeal.τ Cert.NormIdeal.sig) → Buf (Elt Ideal) ℓ) : Prop :=
  ∀ c : Dev Cert.NormIdeal.nD,
    (Cert.Pre_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).1 = (fun _ => 1#1)
    ∧ (Cert.Pre_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.1 = (fun _ => 1#1)
    ∧ (Cert.Pre_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.1 = (fun _ => 1#1)
    ∧ (Cert.Pre_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.1 = (fun _ => 1#1)
    ∧ (Cert.Pre_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.2.1 = (fun _ => 1#1)
    ∧ (Cert.Pre_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.2.2.1 = (fun _ => 1#1)
    ∧ (Cert.Pre_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite [hPre_finite : Cert.Pre_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).1 = (fun _ => 1#1)
    ∧ (Cert.Pre_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.1 = (fun _ => 1#1)
    ∧ (Cert.Pre_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.1 = (fun _ => 1#1)
    ∧ (Cert.Pre_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.1 = (fun _ => 1#1)
    ∧ (Cert.Pre_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.2.1 = (fun _ => 1#1)
    ∧ (Cert.Pre_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.2.2.1 = (fun _ => 1#1)
    ∧ (Cert.Pre_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_finite_hidden [hPre_finite_hidden : Cert.Pre_finite_hidden.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_finite_hidden.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5))).1 = (fun _ => 1#1)
    ∧ (Cert.Pre_finite_hidden.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5))).2.1 = (fun _ => 1#1)
    ∧ (Cert.Pre_finite_hidden.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5))).2.2.1 = (fun _ => 1#1)
    ∧ (Cert.Pre_finite_hidden.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5))).2.2.2.1 = (fun _ => 1#1)
    ∧ (Cert.Pre_finite_hidden.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5))).2.2.2.2.1 = (fun _ => 1#1)
    ∧ (Cert.Pre_finite_hidden.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5))).2.2.2.2.2 = (fun _ => 1#1)

def Pre_HiddenRefIdeal (m : (ℓ : Loc Cert.HiddenRefIdeal.nD Cert.HiddenRefIdeal.τ Cert.HiddenRefIdeal.sig) → Buf (Elt Ideal) ℓ) : Prop :=
  True

def Pre_HiddenRefIdeal_finite_hidden [hPre_finite_hidden : Cert.Pre_finite_hidden.Facts] (m : (ℓ : Loc Cert.HiddenRefIdeal.nD Cert.HiddenRefIdeal.τ Cert.HiddenRefIdeal.sig) → Buf (Elt Ideal) ℓ) : Prop :=
  ∀ c : Dev Cert.HiddenRefIdeal.nD,
    (Cert.Pre_finite_hidden.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5))).1 = (fun _ => 1#1)
    ∧ (Cert.Pre_finite_hidden.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5))).2.1 = (fun _ => 1#1)
    ∧ (Cert.Pre_finite_hidden.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5))).2.2.1 = (fun _ => 1#1)
    ∧ (Cert.Pre_finite_hidden.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5))).2.2.2.1 = (fun _ => 1#1)
    ∧ (Cert.Pre_finite_hidden.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5))).2.2.2.2.1 = (fun _ => 1#1)
    ∧ (Cert.Pre_finite_hidden.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5))).2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7))).2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))).2.2.2.2.2.2 = (fun _ => 1#1)

def Pre_WeightIn (m : (ℓ : Loc Cert.WeightIn.nD Cert.WeightIn.τ Cert.WeightIn.sig) → Buf (Elt Bits) ℓ) : Prop :=
  True

def Pre_WeightInIdeal (m : (ℓ : Loc Cert.WeightInIdeal.nD Cert.WeightInIdeal.τ Cert.WeightInIdeal.sig) → Buf (Elt Ideal) ℓ) : Prop :=
  True

def Pre_WeightInRefIdeal (m : (ℓ : Loc Cert.WeightInRefIdeal.nD Cert.WeightInRefIdeal.τ Cert.WeightInRefIdeal.sig) → Buf (Elt Ideal) ℓ) : Prop :=
  True

def Pre_WeightScan (m : (ℓ : Loc Cert.WeightScan.nD Cert.WeightScan.τ Cert.WeightScan.sig) → Buf (Elt Bits) ℓ) : Prop :=
  True

def Pre_WeightScanIdeal (m : (ℓ : Loc Cert.WeightScanIdeal.nD Cert.WeightScanIdeal.τ Cert.WeightScanIdeal.sig) → Buf (Elt Ideal) ℓ) : Prop :=
  True

def Pre_WeightScanRefIdeal (m : (ℓ : Loc Cert.WeightScanRefIdeal.nD Cert.WeightScanRefIdeal.τ Cert.WeightScanRefIdeal.sig) → Buf (Elt Ideal) ℓ) : Prop :=
  True

def Pre_WeightGate (m : (ℓ : Loc Cert.WeightGate.nD Cert.WeightGate.τ Cert.WeightGate.sig) → Buf (Elt Bits) ℓ) : Prop :=
  True

def Pre_WeightGateIdeal (m : (ℓ : Loc Cert.WeightGateIdeal.nD Cert.WeightGateIdeal.τ Cert.WeightGateIdeal.sig) → Buf (Elt Ideal) ℓ) : Prop :=
  True

def Pre_WeightGateRefIdeal (m : (ℓ : Loc Cert.WeightGateRefIdeal.nD Cert.WeightGateRefIdeal.τ Cert.WeightGateRefIdeal.sig) → Buf (Elt Ideal) ℓ) : Prop :=
  True

def Pre_WeightOut (m : (ℓ : Loc Cert.WeightOut.nD Cert.WeightOut.τ Cert.WeightOut.sig) → Buf (Elt Bits) ℓ) : Prop :=
  True

def Pre_WeightOutIdeal (m : (ℓ : Loc Cert.WeightOutIdeal.nD Cert.WeightOutIdeal.τ Cert.WeightOutIdeal.sig) → Buf (Elt Ideal) ℓ) : Prop :=
  True

def Pre_WeightOutRefIdeal (m : (ℓ : Loc Cert.WeightOutRefIdeal.nD Cert.WeightOutRefIdeal.τ Cert.WeightOutRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_ProjScan (m : (ℓ : Loc Cert.ProjScan.nD Cert.ProjScan.τ Cert.ProjScan.sig) → Buf (Elt Bits) ℓ) : Prop :=
  True

def Pre_ProjScanIdeal (m : (ℓ : Loc Cert.ProjScanIdeal.nD Cert.ProjScanIdeal.τ Cert.ProjScanIdeal.sig) → Buf (Elt Ideal) ℓ) : Prop :=
  True

def Pre_ProjScanRefIdeal (m : (ℓ : Loc Cert.ProjScanRefIdeal.nD Cert.ProjScanRefIdeal.τ Cert.ProjScanRefIdeal.sig) → Buf (Elt Ideal) ℓ) : Prop :=
  True

def Pre_Unmerge (m : (ℓ : Loc Cert.Unmerge.nD Cert.Unmerge.τ Cert.Unmerge.sig) → Buf (Elt Bits) ℓ) : Prop :=
  True

def Pre_UnmergeIdeal (m : (ℓ : Loc Cert.UnmergeIdeal.nD Cert.UnmergeIdeal.τ Cert.UnmergeIdeal.sig) → Buf (Elt Ideal) ℓ) : Prop :=
  True

def Pre_UnmergeRefIdeal (m : (ℓ : Loc Cert.UnmergeRefIdeal.nD Cert.UnmergeRefIdeal.τ Cert.UnmergeRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_WeightTRefIdeal [hWeightTRefIdeal : Cert.WeightTRefIdeal.Facts] : Prop :=
  ∀ (m : (ℓ : Loc Cert.WeightTRefIdeal.nD Cert.WeightTRefIdeal.τ Cert.WeightTRefIdeal.sig) → Buf (Elt Ideal) ℓ) (g : Dev Cert.WeightTRefIdeal.nD → PrngReg), Pre_WeightTRefIdeal m →
    θ_run (Cert.WeightTRefIdeal.defs (F := Ideal)) (onTc (τ := Cert.WeightTRefIdeal.τ) (Cert.WeightTRefIdeal.main (F := Ideal))) ⟨m, fun _ => 0, g⟩ (fun r => (∀ c : Dev Cert.WeightTRefIdeal.nD,
      r.2.mem ((c.tc : Thread Cert.WeightTRefIdeal.nD Cert.WeightTRefIdeal.τ).loc Cert.WeightTRefIdeal.main_arg0) = m ((c.tc : Thread Cert.WeightTRefIdeal.nD Cert.WeightTRefIdeal.τ).loc Cert.WeightTRefIdeal.main_arg0)
      ∧ r.2.mem ((c.tc : Thread Cert.WeightTRefIdeal.nD Cert.WeightTRefIdeal.τ).loc Cert.WeightTRefIdeal.main_arg1) = m ((c.tc : Thread Cert.WeightTRefIdeal.nD Cert.WeightTRefIdeal.τ).loc Cert.WeightTRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormIdeal_pre_finite [hNormIdeal : Cert.NormIdeal.Facts] [hPre_finite : Cert.Pre_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_NormRefIdeal_pre_finite [hNormRefIdeal : Cert.NormRefIdeal.Facts] [hPre_finite : Cert.Pre_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4)
      ∧ r.2.mem ((c.tc : Thread Cert.Hidden.nD Cert.Hidden.τ).loc Cert.Hidden.main_arg5) = m ((c.tc : Thread Cert.Hidden.nD Cert.Hidden.τ).loc Cert.Hidden.main_arg5))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ r.2.sem = fun _ => 0)

def quiescent_HiddenIdeal_pre_finite_hidden [hHiddenIdeal : Cert.HiddenIdeal.Facts] [hPre_finite_hidden : Cert.Pre_finite_hidden.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_finite_hidden m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3)
      ∧ r.2.mem ((c.tc : Thread Cert.HiddenRefIdeal.nD Cert.HiddenRefIdeal.τ).loc Cert.HiddenRefIdeal.main_arg4) = m ((c.tc : Thread Cert.HiddenRefIdeal.nD Cert.HiddenRefIdeal.τ).loc Cert.HiddenRefIdeal.main_arg4)
      ∧ r.2.mem ((c.tc : Thread Cert.HiddenRefIdeal.nD Cert.HiddenRefIdeal.τ).loc Cert.HiddenRefIdeal.main_arg5) = m ((c.tc : Thread Cert.HiddenRefIdeal.nD Cert.HiddenRefIdeal.τ).loc Cert.HiddenRefIdeal.main_arg5))
      ∧ r.2.sem = fun _ => 0)

def quiescent_HiddenRefIdeal_pre_finite_hidden [hHiddenRefIdeal : Cert.HiddenRefIdeal.Facts] [hPre_finite_hidden : Cert.Pre_finite_hidden.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal_finite_hidden m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3)
      ∧ r.2.mem ((c.tc : Thread Cert.HiddenRefIdeal.nD Cert.HiddenRefIdeal.τ).loc Cert.HiddenRefIdeal.main_arg4) = m ((c.tc : Thread Cert.HiddenRefIdeal.nD Cert.HiddenRefIdeal.τ).loc Cert.HiddenRefIdeal.main_arg4)
      ∧ r.2.mem ((c.tc : Thread Cert.HiddenRefIdeal.nD Cert.HiddenRefIdeal.τ).loc Cert.HiddenRefIdeal.main_arg5) = m ((c.tc : Thread Cert.HiddenRefIdeal.nD Cert.HiddenRefIdeal.τ).loc Cert.HiddenRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_WeightIn [hWeightIn : Cert.WeightIn.Facts] : Prop :=
  ∀ (m : (ℓ : Loc Cert.WeightIn.nD Cert.WeightIn.τ Cert.WeightIn.sig) → Buf (Elt Bits) ℓ) (g : Dev Cert.WeightIn.nD → PrngReg), Pre_WeightIn m →
    θ_run (Cert.WeightIn.defs (F := Bits)) (onTc (τ := Cert.WeightIn.τ) (Cert.WeightIn.main (F := Bits))) ⟨m, fun _ => 0, g⟩ (fun r => (∀ c : Dev Cert.WeightIn.nD,
      r.2.mem ((c.tc : Thread Cert.WeightIn.nD Cert.WeightIn.τ).loc Cert.WeightIn.main_arg0) = m ((c.tc : Thread Cert.WeightIn.nD Cert.WeightIn.τ).loc Cert.WeightIn.main_arg0)
      ∧ r.2.mem ((c.tc : Thread Cert.WeightIn.nD Cert.WeightIn.τ).loc Cert.WeightIn.main_arg1) = m ((c.tc : Thread Cert.WeightIn.nD Cert.WeightIn.τ).loc Cert.WeightIn.main_arg1))
      ∧ r.2.sem = fun _ => 0)

def quiescent_WeightInIdeal [hWeightInIdeal : Cert.WeightInIdeal.Facts] : Prop :=
  ∀ (m : (ℓ : Loc Cert.WeightInIdeal.nD Cert.WeightInIdeal.τ Cert.WeightInIdeal.sig) → Buf (Elt Ideal) ℓ) (g : Dev Cert.WeightInIdeal.nD → PrngReg), Pre_WeightInIdeal m →
    θ_run (Cert.WeightInIdeal.defs (F := Ideal)) (onTc (τ := Cert.WeightInIdeal.τ) (Cert.WeightInIdeal.main (F := Ideal))) ⟨m, fun _ => 0, g⟩ (fun r => (∀ c : Dev Cert.WeightInIdeal.nD,
      r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
      ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ r.2.sem = fun _ => 0)

def quiescent_WeightInRefIdeal [hWeightInRefIdeal : Cert.WeightInRefIdeal.Facts] : Prop :=
  ∀ (m : (ℓ : Loc Cert.WeightInRefIdeal.nD Cert.WeightInRefIdeal.τ Cert.WeightInRefIdeal.sig) → Buf (Elt Ideal) ℓ) (g : Dev Cert.WeightInRefIdeal.nD → PrngReg), Pre_WeightInRefIdeal m →
    θ_run (Cert.WeightInRefIdeal.defs (F := Ideal)) (onTc (τ := Cert.WeightInRefIdeal.τ) (Cert.WeightInRefIdeal.main (F := Ideal))) ⟨m, fun _ => 0, g⟩ (fun r => (∀ c : Dev Cert.WeightInRefIdeal.nD,
      r.2.mem ((c.tc : Thread Cert.WeightInRefIdeal.nD Cert.WeightInRefIdeal.τ).loc Cert.WeightInRefIdeal.main_arg0) = m ((c.tc : Thread Cert.WeightInRefIdeal.nD Cert.WeightInRefIdeal.τ).loc Cert.WeightInRefIdeal.main_arg0)
      ∧ r.2.mem ((c.tc : Thread Cert.WeightInRefIdeal.nD Cert.WeightInRefIdeal.τ).loc Cert.WeightInRefIdeal.main_arg1) = m ((c.tc : Thread Cert.WeightInRefIdeal.nD Cert.WeightInRefIdeal.τ).loc Cert.WeightInRefIdeal.main_arg1))
      ∧ r.2.sem = fun _ => 0)

def quiescent_WeightScan [hWeightScan : Cert.WeightScan.Facts] : Prop :=
  ∀ (m : (ℓ : Loc Cert.WeightScan.nD Cert.WeightScan.τ Cert.WeightScan.sig) → Buf (Elt Bits) ℓ) (g : Dev Cert.WeightScan.nD → PrngReg), Pre_WeightScan m →
    θ_run (Cert.WeightScan.defs (F := Bits)) (onTc (τ := Cert.WeightScan.τ) (Cert.WeightScan.main (F := Bits))) ⟨m, fun _ => 0, g⟩ (fun r => (∀ c : Dev Cert.WeightScan.nD,
      r.2.mem ((c.tc : Thread Cert.WeightScan.nD Cert.WeightScan.τ).loc Cert.WeightScan.main_arg0) = m ((c.tc : Thread Cert.WeightScan.nD Cert.WeightScan.τ).loc Cert.WeightScan.main_arg0)
      ∧ r.2.mem ((c.tc : Thread Cert.WeightScan.nD Cert.WeightScan.τ).loc Cert.WeightScan.main_arg1) = m ((c.tc : Thread Cert.WeightScan.nD Cert.WeightScan.τ).loc Cert.WeightScan.main_arg1))
      ∧ r.2.sem = fun _ => 0)

def quiescent_WeightScanIdeal [hWeightScanIdeal : Cert.WeightScanIdeal.Facts] : Prop :=
  ∀ (m : (ℓ : Loc Cert.WeightScanIdeal.nD Cert.WeightScanIdeal.τ Cert.WeightScanIdeal.sig) → Buf (Elt Ideal) ℓ) (g : Dev Cert.WeightScanIdeal.nD → PrngReg), Pre_WeightScanIdeal m →
    θ_run (Cert.WeightScanIdeal.defs (F := Ideal)) (onTc (τ := Cert.WeightScanIdeal.τ) (Cert.WeightScanIdeal.main (F := Ideal))) ⟨m, fun _ => 0, g⟩ (fun r => (∀ c : Dev Cert.WeightScanIdeal.nD,
      r.2.mem ((c.tc : Thread Cert.WeightScanIdeal.nD Cert.WeightScanIdeal.τ).loc Cert.WeightScanIdeal.main_arg0) = m ((c.tc : Thread Cert.WeightScanIdeal.nD Cert.WeightScanIdeal.τ).loc Cert.WeightScanIdeal.main_arg0)
      ∧ r.2.mem ((c.tc : Thread Cert.WeightScanIdeal.nD Cert.WeightScanIdeal.τ).loc Cert.WeightScanIdeal.main_arg1) = m ((c.tc : Thread Cert.WeightScanIdeal.nD Cert.WeightScanIdeal.τ).loc Cert.WeightScanIdeal.main_arg1))
      ∧ r.2.sem = fun _ => 0)

def quiescent_WeightScanRefIdeal [hWeightScanRefIdeal : Cert.WeightScanRefIdeal.Facts] : Prop :=
  ∀ (m : (ℓ : Loc Cert.WeightScanRefIdeal.nD Cert.WeightScanRefIdeal.τ Cert.WeightScanRefIdeal.sig) → Buf (Elt Ideal) ℓ) (g : Dev Cert.WeightScanRefIdeal.nD → PrngReg), Pre_WeightScanRefIdeal m →
    θ_run (Cert.WeightScanRefIdeal.defs (F := Ideal)) (onTc (τ := Cert.WeightScanRefIdeal.τ) (Cert.WeightScanRefIdeal.main (F := Ideal))) ⟨m, fun _ => 0, g⟩ (fun r => (∀ c : Dev Cert.WeightScanRefIdeal.nD,
      r.2.mem ((c.tc : Thread Cert.WeightScanRefIdeal.nD Cert.WeightScanRefIdeal.τ).loc Cert.WeightScanRefIdeal.main_arg0) = m ((c.tc : Thread Cert.WeightScanRefIdeal.nD Cert.WeightScanRefIdeal.τ).loc Cert.WeightScanRefIdeal.main_arg0)
      ∧ r.2.mem ((c.tc : Thread Cert.WeightScanRefIdeal.nD Cert.WeightScanRefIdeal.τ).loc Cert.WeightScanRefIdeal.main_arg1) = m ((c.tc : Thread Cert.WeightScanRefIdeal.nD Cert.WeightScanRefIdeal.τ).loc Cert.WeightScanRefIdeal.main_arg1))
      ∧ r.2.sem = fun _ => 0)

def quiescent_WeightGate [hWeightGate : Cert.WeightGate.Facts] : Prop :=
  ∀ (m : (ℓ : Loc Cert.WeightGate.nD Cert.WeightGate.τ Cert.WeightGate.sig) → Buf (Elt Bits) ℓ) (g : Dev Cert.WeightGate.nD → PrngReg), Pre_WeightGate m →
    θ_run (Cert.WeightGate.defs (F := Bits)) (onTc (τ := Cert.WeightGate.τ) (Cert.WeightGate.main (F := Bits))) ⟨m, fun _ => 0, g⟩ (fun r => (∀ c : Dev Cert.WeightGate.nD,
      r.2.mem ((c.tc : Thread Cert.WeightGate.nD Cert.WeightGate.τ).loc Cert.WeightGate.main_arg0) = m ((c.tc : Thread Cert.WeightGate.nD Cert.WeightGate.τ).loc Cert.WeightGate.main_arg0)
      ∧ r.2.mem ((c.tc : Thread Cert.WeightGate.nD Cert.WeightGate.τ).loc Cert.WeightGate.main_arg1) = m ((c.tc : Thread Cert.WeightGate.nD Cert.WeightGate.τ).loc Cert.WeightGate.main_arg1))
      ∧ r.2.sem = fun _ => 0)

def quiescent_WeightGateIdeal [hWeightGateIdeal : Cert.WeightGateIdeal.Facts] : Prop :=
  ∀ (m : (ℓ : Loc Cert.WeightGateIdeal.nD Cert.WeightGateIdeal.τ Cert.WeightGateIdeal.sig) → Buf (Elt Ideal) ℓ) (g : Dev Cert.WeightGateIdeal.nD → PrngReg), Pre_WeightGateIdeal m →
    θ_run (Cert.WeightGateIdeal.defs (F := Ideal)) (onTc (τ := Cert.WeightGateIdeal.τ) (Cert.WeightGateIdeal.main (F := Ideal))) ⟨m, fun _ => 0, g⟩ (fun r => (∀ c : Dev Cert.WeightGateIdeal.nD,
      r.2.mem ((c.tc : Thread Cert.WeightGateIdeal.nD Cert.WeightGateIdeal.τ).loc Cert.WeightGateIdeal.main_arg0) = m ((c.tc : Thread Cert.WeightGateIdeal.nD Cert.WeightGateIdeal.τ).loc Cert.WeightGateIdeal.main_arg0)
      ∧ r.2.mem ((c.tc : Thread Cert.WeightGateIdeal.nD Cert.WeightGateIdeal.τ).loc Cert.WeightGateIdeal.main_arg1) = m ((c.tc : Thread Cert.WeightGateIdeal.nD Cert.WeightGateIdeal.τ).loc Cert.WeightGateIdeal.main_arg1))
      ∧ r.2.sem = fun _ => 0)

def quiescent_WeightGateRefIdeal [hWeightGateRefIdeal : Cert.WeightGateRefIdeal.Facts] : Prop :=
  ∀ (m : (ℓ : Loc Cert.WeightGateRefIdeal.nD Cert.WeightGateRefIdeal.τ Cert.WeightGateRefIdeal.sig) → Buf (Elt Ideal) ℓ) (g : Dev Cert.WeightGateRefIdeal.nD → PrngReg), Pre_WeightGateRefIdeal m →
    θ_run (Cert.WeightGateRefIdeal.defs (F := Ideal)) (onTc (τ := Cert.WeightGateRefIdeal.τ) (Cert.WeightGateRefIdeal.main (F := Ideal))) ⟨m, fun _ => 0, g⟩ (fun r => (∀ c : Dev Cert.WeightGateRefIdeal.nD,
      r.2.mem ((c.tc : Thread Cert.WeightGateRefIdeal.nD Cert.WeightGateRefIdeal.τ).loc Cert.WeightGateRefIdeal.main_arg0) = m ((c.tc : Thread Cert.WeightGateRefIdeal.nD Cert.WeightGateRefIdeal.τ).loc Cert.WeightGateRefIdeal.main_arg0)
      ∧ r.2.mem ((c.tc : Thread Cert.WeightGateRefIdeal.nD Cert.WeightGateRefIdeal.τ).loc Cert.WeightGateRefIdeal.main_arg1) = m ((c.tc : Thread Cert.WeightGateRefIdeal.nD Cert.WeightGateRefIdeal.τ).loc Cert.WeightGateRefIdeal.main_arg1))
      ∧ r.2.sem = fun _ => 0)

def quiescent_WeightOut [hWeightOut : Cert.WeightOut.Facts] : Prop :=
  ∀ (m : (ℓ : Loc Cert.WeightOut.nD Cert.WeightOut.τ Cert.WeightOut.sig) → Buf (Elt Bits) ℓ) (g : Dev Cert.WeightOut.nD → PrngReg), Pre_WeightOut m →
    θ_run (Cert.WeightOut.defs (F := Bits)) (onTc (τ := Cert.WeightOut.τ) (Cert.WeightOut.main (F := Bits))) ⟨m, fun _ => 0, g⟩ (fun r => (∀ c : Dev Cert.WeightOut.nD,
      r.2.mem ((c.tc : Thread Cert.WeightOut.nD Cert.WeightOut.τ).loc Cert.WeightOut.main_arg0) = m ((c.tc : Thread Cert.WeightOut.nD Cert.WeightOut.τ).loc Cert.WeightOut.main_arg0)
      ∧ r.2.mem ((c.tc : Thread Cert.WeightOut.nD Cert.WeightOut.τ).loc Cert.WeightOut.main_arg1) = m ((c.tc : Thread Cert.WeightOut.nD Cert.WeightOut.τ).loc Cert.WeightOut.main_arg1))
      ∧ r.2.sem = fun _ => 0)

def quiescent_WeightOutIdeal [hWeightOutIdeal : Cert.WeightOutIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg), Pre_WeightOutIdeal m →
    θ_run (Cert.WeightOutIdeal.defs (F := Ideal)) (onTc (τ := Cert.WeightOutIdeal.τ) (Cert.WeightOutIdeal.main (F := Ideal))) ⟨m, fun _ => 0, g⟩ (fun r => (∀ c : Dev Cert.WeightOutIdeal.nD,
      r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
      ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ r.2.sem = fun _ => 0)

def quiescent_WeightOutRefIdeal [hWeightOutRefIdeal : Cert.WeightOutRefIdeal.Facts] : Prop :=
  ∀ (m : (ℓ : Loc Cert.WeightOutRefIdeal.nD Cert.WeightOutRefIdeal.τ Cert.WeightOutRefIdeal.sig) → Buf (Elt Ideal) ℓ) (g : Dev Cert.WeightOutRefIdeal.nD → PrngReg), Pre_WeightOutRefIdeal m →
    θ_run (Cert.WeightOutRefIdeal.defs (F := Ideal)) (onTc (τ := Cert.WeightOutRefIdeal.τ) (Cert.WeightOutRefIdeal.main (F := Ideal))) ⟨m, fun _ => 0, g⟩ (fun r => (∀ c : Dev Cert.WeightOutRefIdeal.nD,
      r.2.mem ((c.tc : Thread Cert.WeightOutRefIdeal.nD Cert.WeightOutRefIdeal.τ).loc Cert.WeightOutRefIdeal.main_arg0) = m ((c.tc : Thread Cert.WeightOutRefIdeal.nD Cert.WeightOutRefIdeal.τ).loc Cert.WeightOutRefIdeal.main_arg0)
      ∧ r.2.mem ((c.tc : Thread Cert.WeightOutRefIdeal.nD Cert.WeightOutRefIdeal.τ).loc Cert.WeightOutRefIdeal.main_arg1) = m ((c.tc : Thread Cert.WeightOutRefIdeal.nD Cert.WeightOutRefIdeal.τ).loc Cert.WeightOutRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1))
      ∧ r.2.sem = fun _ => 0)

def quiescent_ProjScan [hProjScan : Cert.ProjScan.Facts] : Prop :=
  ∀ (m : (ℓ : Loc Cert.ProjScan.nD Cert.ProjScan.τ Cert.ProjScan.sig) → Buf (Elt Bits) ℓ) (g : Dev Cert.ProjScan.nD → PrngReg), Pre_ProjScan m →
    θ_run (Cert.ProjScan.defs (F := Bits)) (onTc (τ := Cert.ProjScan.τ) (Cert.ProjScan.main (F := Bits))) ⟨m, fun _ => 0, g⟩ (fun r => (∀ c : Dev Cert.ProjScan.nD,
      r.2.mem ((c.tc : Thread Cert.ProjScan.nD Cert.ProjScan.τ).loc Cert.ProjScan.main_arg0) = m ((c.tc : Thread Cert.ProjScan.nD Cert.ProjScan.τ).loc Cert.ProjScan.main_arg0)
      ∧ r.2.mem ((c.tc : Thread Cert.ProjScan.nD Cert.ProjScan.τ).loc Cert.ProjScan.main_arg1) = m ((c.tc : Thread Cert.ProjScan.nD Cert.ProjScan.τ).loc Cert.ProjScan.main_arg1))
      ∧ r.2.sem = fun _ => 0)

def quiescent_ProjScanIdeal [hProjScanIdeal : Cert.ProjScanIdeal.Facts] : Prop :=
  ∀ (m : (ℓ : Loc Cert.ProjScanIdeal.nD Cert.ProjScanIdeal.τ Cert.ProjScanIdeal.sig) → Buf (Elt Ideal) ℓ) (g : Dev Cert.ProjScanIdeal.nD → PrngReg), Pre_ProjScanIdeal m →
    θ_run (Cert.ProjScanIdeal.defs (F := Ideal)) (onTc (τ := Cert.ProjScanIdeal.τ) (Cert.ProjScanIdeal.main (F := Ideal))) ⟨m, fun _ => 0, g⟩ (fun r => (∀ c : Dev Cert.ProjScanIdeal.nD,
      r.2.mem ((c.tc : Thread Cert.ProjScanIdeal.nD Cert.ProjScanIdeal.τ).loc Cert.ProjScanIdeal.main_arg0) = m ((c.tc : Thread Cert.ProjScanIdeal.nD Cert.ProjScanIdeal.τ).loc Cert.ProjScanIdeal.main_arg0)
      ∧ r.2.mem ((c.tc : Thread Cert.ProjScanIdeal.nD Cert.ProjScanIdeal.τ).loc Cert.ProjScanIdeal.main_arg1) = m ((c.tc : Thread Cert.ProjScanIdeal.nD Cert.ProjScanIdeal.τ).loc Cert.ProjScanIdeal.main_arg1))
      ∧ r.2.sem = fun _ => 0)

def quiescent_ProjScanRefIdeal [hProjScanRefIdeal : Cert.ProjScanRefIdeal.Facts] : Prop :=
  ∀ (m : (ℓ : Loc Cert.ProjScanRefIdeal.nD Cert.ProjScanRefIdeal.τ Cert.ProjScanRefIdeal.sig) → Buf (Elt Ideal) ℓ) (g : Dev Cert.ProjScanRefIdeal.nD → PrngReg), Pre_ProjScanRefIdeal m →
    θ_run (Cert.ProjScanRefIdeal.defs (F := Ideal)) (onTc (τ := Cert.ProjScanRefIdeal.τ) (Cert.ProjScanRefIdeal.main (F := Ideal))) ⟨m, fun _ => 0, g⟩ (fun r => (∀ c : Dev Cert.ProjScanRefIdeal.nD,
      r.2.mem ((c.tc : Thread Cert.ProjScanRefIdeal.nD Cert.ProjScanRefIdeal.τ).loc Cert.ProjScanRefIdeal.main_arg0) = m ((c.tc : Thread Cert.ProjScanRefIdeal.nD Cert.ProjScanRefIdeal.τ).loc Cert.ProjScanRefIdeal.main_arg0)
      ∧ r.2.mem ((c.tc : Thread Cert.ProjScanRefIdeal.nD Cert.ProjScanRefIdeal.τ).loc Cert.ProjScanRefIdeal.main_arg1) = m ((c.tc : Thread Cert.ProjScanRefIdeal.nD Cert.ProjScanRefIdeal.τ).loc Cert.ProjScanRefIdeal.main_arg1))
      ∧ r.2.sem = fun _ => 0)

def quiescent_Unmerge [hUnmerge : Cert.Unmerge.Facts] : Prop :=
  ∀ (m : (ℓ : Loc Cert.Unmerge.nD Cert.Unmerge.τ Cert.Unmerge.sig) → Buf (Elt Bits) ℓ) (g : Dev Cert.Unmerge.nD → PrngReg), Pre_Unmerge m →
    θ_run (Cert.Unmerge.defs (F := Bits)) (onTc (τ := Cert.Unmerge.τ) (Cert.Unmerge.main (F := Bits))) ⟨m, fun _ => 0, g⟩ (fun r => (∀ c : Dev Cert.Unmerge.nD,
      r.2.mem ((c.tc : Thread Cert.Unmerge.nD Cert.Unmerge.τ).loc Cert.Unmerge.main_arg0) = m ((c.tc : Thread Cert.Unmerge.nD Cert.Unmerge.τ).loc Cert.Unmerge.main_arg0)
      ∧ r.2.mem ((c.tc : Thread Cert.Unmerge.nD Cert.Unmerge.τ).loc Cert.Unmerge.main_arg1) = m ((c.tc : Thread Cert.Unmerge.nD Cert.Unmerge.τ).loc Cert.Unmerge.main_arg1)
      ∧ r.2.mem ((c.tc : Thread Cert.Unmerge.nD Cert.Unmerge.τ).loc Cert.Unmerge.main_arg2) = m ((c.tc : Thread Cert.Unmerge.nD Cert.Unmerge.τ).loc Cert.Unmerge.main_arg2)
      ∧ r.2.mem ((c.tc : Thread Cert.Unmerge.nD Cert.Unmerge.τ).loc Cert.Unmerge.main_arg3) = m ((c.tc : Thread Cert.Unmerge.nD Cert.Unmerge.τ).loc Cert.Unmerge.main_arg3)
      ∧ r.2.mem ((c.tc : Thread Cert.Unmerge.nD Cert.Unmerge.τ).loc Cert.Unmerge.main_arg4) = m ((c.tc : Thread Cert.Unmerge.nD Cert.Unmerge.τ).loc Cert.Unmerge.main_arg4)
      ∧ r.2.mem ((c.tc : Thread Cert.Unmerge.nD Cert.Unmerge.τ).loc Cert.Unmerge.main_arg5) = m ((c.tc : Thread Cert.Unmerge.nD Cert.Unmerge.τ).loc Cert.Unmerge.main_arg5)
      ∧ r.2.mem ((c.tc : Thread Cert.Unmerge.nD Cert.Unmerge.τ).loc Cert.Unmerge.main_arg6) = m ((c.tc : Thread Cert.Unmerge.nD Cert.Unmerge.τ).loc Cert.Unmerge.main_arg6))
      ∧ r.2.sem = fun _ => 0)

def quiescent_UnmergeIdeal [hUnmergeIdeal : Cert.UnmergeIdeal.Facts] : Prop :=
  ∀ (m : (ℓ : Loc Cert.UnmergeIdeal.nD Cert.UnmergeIdeal.τ Cert.UnmergeIdeal.sig) → Buf (Elt Ideal) ℓ) (g : Dev Cert.UnmergeIdeal.nD → PrngReg), Pre_UnmergeIdeal m →
    θ_run (Cert.UnmergeIdeal.defs (F := Ideal)) (onTc (τ := Cert.UnmergeIdeal.τ) (Cert.UnmergeIdeal.main (F := Ideal))) ⟨m, fun _ => 0, g⟩ (fun r => (∀ c : Dev Cert.UnmergeIdeal.nD,
      r.2.mem ((c.tc : Thread Cert.UnmergeIdeal.nD Cert.UnmergeIdeal.τ).loc Cert.UnmergeIdeal.main_arg0) = m ((c.tc : Thread Cert.UnmergeIdeal.nD Cert.UnmergeIdeal.τ).loc Cert.UnmergeIdeal.main_arg0)
      ∧ r.2.mem ((c.tc : Thread Cert.UnmergeIdeal.nD Cert.UnmergeIdeal.τ).loc Cert.UnmergeIdeal.main_arg1) = m ((c.tc : Thread Cert.UnmergeIdeal.nD Cert.UnmergeIdeal.τ).loc Cert.UnmergeIdeal.main_arg1)
      ∧ r.2.mem ((c.tc : Thread Cert.UnmergeIdeal.nD Cert.UnmergeIdeal.τ).loc Cert.UnmergeIdeal.main_arg2) = m ((c.tc : Thread Cert.UnmergeIdeal.nD Cert.UnmergeIdeal.τ).loc Cert.UnmergeIdeal.main_arg2)
      ∧ r.2.mem ((c.tc : Thread Cert.UnmergeIdeal.nD Cert.UnmergeIdeal.τ).loc Cert.UnmergeIdeal.main_arg3) = m ((c.tc : Thread Cert.UnmergeIdeal.nD Cert.UnmergeIdeal.τ).loc Cert.UnmergeIdeal.main_arg3)
      ∧ r.2.mem ((c.tc : Thread Cert.UnmergeIdeal.nD Cert.UnmergeIdeal.τ).loc Cert.UnmergeIdeal.main_arg4) = m ((c.tc : Thread Cert.UnmergeIdeal.nD Cert.UnmergeIdeal.τ).loc Cert.UnmergeIdeal.main_arg4)
      ∧ r.2.mem ((c.tc : Thread Cert.UnmergeIdeal.nD Cert.UnmergeIdeal.τ).loc Cert.UnmergeIdeal.main_arg5) = m ((c.tc : Thread Cert.UnmergeIdeal.nD Cert.UnmergeIdeal.τ).loc Cert.UnmergeIdeal.main_arg5)
      ∧ r.2.mem ((c.tc : Thread Cert.UnmergeIdeal.nD Cert.UnmergeIdeal.τ).loc Cert.UnmergeIdeal.main_arg6) = m ((c.tc : Thread Cert.UnmergeIdeal.nD Cert.UnmergeIdeal.τ).loc Cert.UnmergeIdeal.main_arg6))
      ∧ r.2.sem = fun _ => 0)

def quiescent_UnmergeRefIdeal [hUnmergeRefIdeal : Cert.UnmergeRefIdeal.Facts] : Prop :=
  ∀ (m : (ℓ : Loc Cert.UnmergeRefIdeal.nD Cert.UnmergeRefIdeal.τ Cert.UnmergeRefIdeal.sig) → Buf (Elt Ideal) ℓ) (g : Dev Cert.UnmergeRefIdeal.nD → PrngReg), Pre_UnmergeRefIdeal m →
    θ_run (Cert.UnmergeRefIdeal.defs (F := Ideal)) (onTc (τ := Cert.UnmergeRefIdeal.τ) (Cert.UnmergeRefIdeal.main (F := Ideal))) ⟨m, fun _ => 0, g⟩ (fun r => (∀ c : Dev Cert.UnmergeRefIdeal.nD,
      r.2.mem ((c.tc : Thread Cert.UnmergeRefIdeal.nD Cert.UnmergeRefIdeal.τ).loc Cert.UnmergeRefIdeal.main_arg0) = m ((c.tc : Thread Cert.UnmergeRefIdeal.nD Cert.UnmergeRefIdeal.τ).loc Cert.UnmergeRefIdeal.main_arg0)
      ∧ r.2.mem ((c.tc : Thread Cert.UnmergeRefIdeal.nD Cert.UnmergeRefIdeal.τ).loc Cert.UnmergeRefIdeal.main_arg1) = m ((c.tc : Thread Cert.UnmergeRefIdeal.nD Cert.UnmergeRefIdeal.τ).loc Cert.UnmergeRefIdeal.main_arg1)
      ∧ r.2.mem ((c.tc : Thread Cert.UnmergeRefIdeal.nD Cert.UnmergeRefIdeal.τ).loc Cert.UnmergeRefIdeal.main_arg2) = m ((c.tc : Thread Cert.UnmergeRefIdeal.nD Cert.UnmergeRefIdeal.τ).loc Cert.UnmergeRefIdeal.main_arg2)
      ∧ r.2.mem ((c.tc : Thread Cert.UnmergeRefIdeal.nD Cert.UnmergeRefIdeal.τ).loc Cert.UnmergeRefIdeal.main_arg3) = m ((c.tc : Thread Cert.UnmergeRefIdeal.nD Cert.UnmergeRefIdeal.τ).loc Cert.UnmergeRefIdeal.main_arg3)
      ∧ r.2.mem ((c.tc : Thread Cert.UnmergeRefIdeal.nD Cert.UnmergeRefIdeal.τ).loc Cert.UnmergeRefIdeal.main_arg4) = m ((c.tc : Thread Cert.UnmergeRefIdeal.nD Cert.UnmergeRefIdeal.τ).loc Cert.UnmergeRefIdeal.main_arg4)
      ∧ r.2.mem ((c.tc : Thread Cert.UnmergeRefIdeal.nD Cert.UnmergeRefIdeal.τ).loc Cert.UnmergeRefIdeal.main_arg5) = m ((c.tc : Thread Cert.UnmergeRefIdeal.nD Cert.UnmergeRefIdeal.τ).loc Cert.UnmergeRefIdeal.main_arg5)
      ∧ r.2.mem ((c.tc : Thread Cert.UnmergeRefIdeal.nD Cert.UnmergeRefIdeal.τ).loc Cert.UnmergeRefIdeal.main_arg6) = m ((c.tc : Thread Cert.UnmergeRefIdeal.nD Cert.UnmergeRefIdeal.τ).loc Cert.UnmergeRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v6) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def algebraic_WeightIdeal_WeightTRefIdeal [hWeightIdeal : Cert.WeightIdeal.Facts] [hWeightTRefIdeal : Cert.WeightTRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightTRefIdeal.nD Cert.WeightTRefIdeal.τ Cert.WeightTRefIdeal.sig) → Buf (Elt Ideal) ℓ) (g' : Dev Cert.WeightTRefIdeal.nD → PrngReg), Pre_WeightIdeal m →
    (∀ c : Dev Cert.WeightIdeal.nD,
      m' ((c.tc : Thread Cert.WeightTRefIdeal.nD Cert.WeightTRefIdeal.τ).loc Cert.WeightTRefIdeal.main_arg0) = m ((c.tc : Thread Cert.WeightIdeal.nD Cert.WeightIdeal.τ).loc Cert.WeightIdeal.main_arg0)
      ∧ m' ((c.tc : Thread Cert.WeightTRefIdeal.nD Cert.WeightTRefIdeal.τ).loc Cert.WeightTRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightTRefIdeal.defs (F := Ideal)) (onTc (τ := Cert.WeightTRefIdeal.τ) (Cert.WeightTRefIdeal.main (F := Ideal))) ⟨m', fun _ => 0, g'⟩ (fun r => ∀ c : Dev Cert.WeightTRefIdeal.nD,
          r.2.mem ((c.tc : Thread Cert.WeightTRefIdeal.nD Cert.WeightTRefIdeal.τ).loc Cert.WeightTRefIdeal.main_v8) = v0 c
          ∧ r.2.mem ((c.tc : Thread Cert.WeightTRefIdeal.nD Cert.WeightTRefIdeal.τ).loc Cert.WeightTRefIdeal.main_arg0) = m' ((c.tc : Thread Cert.WeightTRefIdeal.nD Cert.WeightTRefIdeal.τ).loc Cert.WeightTRefIdeal.main_arg0)
          ∧ r.2.mem ((c.tc : Thread Cert.WeightTRefIdeal.nD Cert.WeightTRefIdeal.τ).loc Cert.WeightTRefIdeal.main_arg1) = m' ((c.tc : Thread Cert.WeightTRefIdeal.nD Cert.WeightTRefIdeal.τ).loc Cert.WeightTRefIdeal.main_arg1))

def preserves_Norm_NormIdeal : Prop :=
  True

def algebraic_NormIdeal_NormRefIdeal_pre_finite [hNormIdeal : Cert.NormIdeal.Facts] [hNormRefIdeal : Cert.NormRefIdeal.Facts] [hPre_finite : Cert.Pre_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v62) = v0 c
          ∧ r.2.mem ((c.tc : Thread Cert.NormRefIdeal.nD Cert.NormRefIdeal.τ).loc Cert.NormRefIdeal.main_v35) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_v47) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_v15) = v1 c
          ∧ r.2.mem ((c.tc : Thread Cert.UpRefIdeal.nD Cert.UpRefIdeal.τ).loc Cert.UpRefIdeal.main_v16) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v8) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Hidden_HiddenIdeal : Prop :=
  True

def algebraic_HiddenIdeal_HiddenRefIdeal_pre_finite_hidden [hHiddenIdeal : Cert.HiddenIdeal.Facts] [hHiddenRefIdeal : Cert.HiddenRefIdeal.Facts] [hPre_finite_hidden : Cert.Pre_finite_hidden.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal_finite_hidden m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)
      ∧ m' ((c.tc : Thread Cert.HiddenRefIdeal.nD Cert.HiddenRefIdeal.τ).loc Cert.HiddenRefIdeal.main_arg4) = m ((c.tc : Thread Cert.HiddenIdeal.nD Cert.HiddenIdeal.τ).loc Cert.HiddenIdeal.main_arg4)
      ∧ m' ((c.tc : Thread Cert.HiddenRefIdeal.nD Cert.HiddenRefIdeal.τ).loc Cert.HiddenRefIdeal.main_arg5) = m ((c.tc : Thread Cert.HiddenIdeal.nD Cert.HiddenIdeal.τ).loc Cert.HiddenIdeal.main_arg5)) →
    ∃ (v0 : (c : Dev Cert.HiddenIdeal.nD) → Buf (Elt Ideal) ((c.tc : Thread Cert.HiddenIdeal.nD Cert.HiddenIdeal.τ).loc Cert.HiddenIdeal.main_v8_0)) (v1 : (c : Dev Cert.HiddenIdeal.nD) → Buf (Elt Ideal) ((c.tc : Thread Cert.HiddenIdeal.nD Cert.HiddenIdeal.τ).loc Cert.HiddenIdeal.main_v8_1)) (v2 : (c : Dev Cert.HiddenIdeal.nD) → Buf (Elt Ideal) ((c.tc : Thread Cert.HiddenIdeal.nD Cert.HiddenIdeal.τ).loc Cert.HiddenIdeal.main_v8_2)) (v3 : (c : Dev Cert.HiddenIdeal.nD) → Buf (Elt Ideal) ((c.tc : Thread Cert.HiddenIdeal.nD Cert.HiddenIdeal.τ).loc Cert.HiddenIdeal.main_v8_3)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v8_0) = v0 c
          ∧ r.2.mem ((c.tc : Thread Cert.HiddenIdeal.nD Cert.HiddenIdeal.τ).loc Cert.HiddenIdeal.main_v8_1) = v1 c
          ∧ r.2.mem ((c.tc : Thread Cert.HiddenIdeal.nD Cert.HiddenIdeal.τ).loc Cert.HiddenIdeal.main_v8_2) = v2 c
          ∧ r.2.mem ((c.tc : Thread Cert.HiddenIdeal.nD Cert.HiddenIdeal.τ).loc Cert.HiddenIdeal.main_v8_3) = v3 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
          ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v20) = v0 c
          ∧ r.2.mem ((c.tc : Thread Cert.HiddenRefIdeal.nD Cert.HiddenRefIdeal.τ).loc Cert.HiddenRefIdeal.main_v21) = v1 c
          ∧ r.2.mem ((c.tc : Thread Cert.HiddenRefIdeal.nD Cert.HiddenRefIdeal.τ).loc Cert.HiddenRefIdeal.main_v22) = v2 c
          ∧ r.2.mem ((c.tc : Thread Cert.HiddenRefIdeal.nD Cert.HiddenRefIdeal.τ).loc Cert.HiddenRefIdeal.main_v11) = v3 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3)
          ∧ r.2.mem ((c.tc : Thread Cert.HiddenRefIdeal.nD Cert.HiddenRefIdeal.τ).loc Cert.HiddenRefIdeal.main_arg4) = m' ((c.tc : Thread Cert.HiddenRefIdeal.nD Cert.HiddenRefIdeal.τ).loc Cert.HiddenRefIdeal.main_arg4)
          ∧ r.2.mem ((c.tc : Thread Cert.HiddenRefIdeal.nD Cert.HiddenRefIdeal.τ).loc Cert.HiddenRefIdeal.main_arg5) = m' ((c.tc : Thread Cert.HiddenRefIdeal.nD Cert.HiddenRefIdeal.τ).loc Cert.HiddenRefIdeal.main_arg5))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)) (v2 : (c : Dev Cert.MixIdeal.nD) → Buf (Elt Ideal) ((c.tc : Thread Cert.MixIdeal.nD Cert.MixIdeal.τ).loc Cert.MixIdeal.main_v3_2)) (v3 : (c : Dev Cert.MixIdeal.nD) → Buf (Elt Ideal) ((c.tc : Thread Cert.MixIdeal.nD Cert.MixIdeal.τ).loc Cert.MixIdeal.main_v3_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_v3_2) = v2 c
          ∧ r.2.mem ((c.tc : Thread Cert.MixIdeal.nD Cert.MixIdeal.τ).loc Cert.MixIdeal.main_v3_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v61) = v0 c
          ∧ r.2.mem ((c.tc : Thread Cert.MixRefIdeal.nD Cert.MixRefIdeal.τ).loc Cert.MixRefIdeal.main_v34) = v1 c
          ∧ r.2.mem ((c.tc : Thread Cert.MixRefIdeal.nD Cert.MixRefIdeal.τ).loc Cert.MixRefIdeal.main_v37) = v2 c
          ∧ r.2.mem ((c.tc : Thread Cert.MixRefIdeal.nD Cert.MixRefIdeal.τ).loc Cert.MixRefIdeal.main_v46) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_WeightIn_WeightInIdeal : Prop :=
  True

def algebraic_WeightInIdeal_WeightInRefIdeal [hWeightInIdeal : Cert.WeightInIdeal.Facts] [hWeightInRefIdeal : Cert.WeightInRefIdeal.Facts] : Prop :=
  ∀ (m : (ℓ : Loc Cert.WeightInIdeal.nD Cert.WeightInIdeal.τ Cert.WeightInIdeal.sig) → Buf (Elt Ideal) ℓ) (g : Dev Cert.WeightInIdeal.nD → PrngReg)
    (m' : (ℓ : Loc Cert.WeightInRefIdeal.nD Cert.WeightInRefIdeal.τ Cert.WeightInRefIdeal.sig) → Buf (Elt Ideal) ℓ) (g' : Dev Cert.WeightInRefIdeal.nD → PrngReg), Pre_WeightInIdeal m →
    (∀ c : Dev Cert.WeightInIdeal.nD,
      m' ((c.tc : Thread Cert.WeightInRefIdeal.nD Cert.WeightInRefIdeal.τ).loc Cert.WeightInRefIdeal.main_arg0) = m ((c.tc : Thread Cert.WeightInIdeal.nD Cert.WeightInIdeal.τ).loc Cert.WeightInIdeal.main_arg0)
      ∧ m' ((c.tc : Thread Cert.WeightInRefIdeal.nD Cert.WeightInRefIdeal.τ).loc Cert.WeightInRefIdeal.main_arg1) = m ((c.tc : Thread Cert.WeightInIdeal.nD Cert.WeightInIdeal.τ).loc Cert.WeightInIdeal.main_arg1)) →
    ∃ (v0 : (c : Dev Cert.WeightInIdeal.nD) → Buf (Elt Ideal) ((c.tc : Thread Cert.WeightInIdeal.nD Cert.WeightInIdeal.τ).loc Cert.WeightInIdeal.main_v0)),
      θ_run (Cert.WeightInIdeal.defs (F := Ideal)) (onTc (τ := Cert.WeightInIdeal.τ) (Cert.WeightInIdeal.main (F := Ideal))) ⟨m, fun _ => 0, g⟩ (fun r => ∀ c : Dev Cert.WeightInIdeal.nD,
          r.2.mem ((c.tc : Thread Cert.WeightInIdeal.nD Cert.WeightInIdeal.τ).loc Cert.WeightInIdeal.main_v0) = v0 c
          ∧ r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
          ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ θ_run (Cert.WeightInRefIdeal.defs (F := Ideal)) (onTc (τ := Cert.WeightInRefIdeal.τ) (Cert.WeightInRefIdeal.main (F := Ideal))) ⟨m', fun _ => 0, g'⟩ (fun r => ∀ c : Dev Cert.WeightInRefIdeal.nD,
          r.2.mem ((c.tc : Thread Cert.WeightInRefIdeal.nD Cert.WeightInRefIdeal.τ).loc Cert.WeightInRefIdeal.main_v6) = v0 c
          ∧ r.2.mem ((c.tc : Thread Cert.WeightInRefIdeal.nD Cert.WeightInRefIdeal.τ).loc Cert.WeightInRefIdeal.main_arg0) = m' ((c.tc : Thread Cert.WeightInRefIdeal.nD Cert.WeightInRefIdeal.τ).loc Cert.WeightInRefIdeal.main_arg0)
          ∧ r.2.mem ((c.tc : Thread Cert.WeightInRefIdeal.nD Cert.WeightInRefIdeal.τ).loc Cert.WeightInRefIdeal.main_arg1) = m' ((c.tc : Thread Cert.WeightInRefIdeal.nD Cert.WeightInRefIdeal.τ).loc Cert.WeightInRefIdeal.main_arg1))

def preserves_WeightScan_WeightScanIdeal : Prop :=
  True

def algebraic_WeightScanIdeal_WeightScanRefIdeal [hWeightScanIdeal : Cert.WeightScanIdeal.Facts] [hWeightScanRefIdeal : Cert.WeightScanRefIdeal.Facts] : Prop :=
  ∀ (m : (ℓ : Loc Cert.WeightScanIdeal.nD Cert.WeightScanIdeal.τ Cert.WeightScanIdeal.sig) → Buf (Elt Ideal) ℓ) (g : Dev Cert.WeightScanIdeal.nD → PrngReg)
    (m' : (ℓ : Loc Cert.WeightScanRefIdeal.nD Cert.WeightScanRefIdeal.τ Cert.WeightScanRefIdeal.sig) → Buf (Elt Ideal) ℓ) (g' : Dev Cert.WeightScanRefIdeal.nD → PrngReg), Pre_WeightScanIdeal m →
    (∀ c : Dev Cert.WeightScanIdeal.nD,
      m' ((c.tc : Thread Cert.WeightScanRefIdeal.nD Cert.WeightScanRefIdeal.τ).loc Cert.WeightScanRefIdeal.main_arg0) = m ((c.tc : Thread Cert.WeightScanIdeal.nD Cert.WeightScanIdeal.τ).loc Cert.WeightScanIdeal.main_arg0)
      ∧ m' ((c.tc : Thread Cert.WeightScanRefIdeal.nD Cert.WeightScanRefIdeal.τ).loc Cert.WeightScanRefIdeal.main_arg1) = m ((c.tc : Thread Cert.WeightScanIdeal.nD Cert.WeightScanIdeal.τ).loc Cert.WeightScanIdeal.main_arg1)) →
    ∃ (v0 : (c : Dev Cert.WeightScanIdeal.nD) → Buf (Elt Ideal) ((c.tc : Thread Cert.WeightScanIdeal.nD Cert.WeightScanIdeal.τ).loc Cert.WeightScanIdeal.main_v0)),
      θ_run (Cert.WeightScanIdeal.defs (F := Ideal)) (onTc (τ := Cert.WeightScanIdeal.τ) (Cert.WeightScanIdeal.main (F := Ideal))) ⟨m, fun _ => 0, g⟩ (fun r => ∀ c : Dev Cert.WeightScanIdeal.nD,
          r.2.mem ((c.tc : Thread Cert.WeightScanIdeal.nD Cert.WeightScanIdeal.τ).loc Cert.WeightScanIdeal.main_v0) = v0 c
          ∧ r.2.mem ((c.tc : Thread Cert.WeightScanIdeal.nD Cert.WeightScanIdeal.τ).loc Cert.WeightScanIdeal.main_arg0) = m ((c.tc : Thread Cert.WeightScanIdeal.nD Cert.WeightScanIdeal.τ).loc Cert.WeightScanIdeal.main_arg0)
          ∧ r.2.mem ((c.tc : Thread Cert.WeightScanIdeal.nD Cert.WeightScanIdeal.τ).loc Cert.WeightScanIdeal.main_arg1) = m ((c.tc : Thread Cert.WeightScanIdeal.nD Cert.WeightScanIdeal.τ).loc Cert.WeightScanIdeal.main_arg1))
      ∧ θ_run (Cert.WeightScanRefIdeal.defs (F := Ideal)) (onTc (τ := Cert.WeightScanRefIdeal.τ) (Cert.WeightScanRefIdeal.main (F := Ideal))) ⟨m', fun _ => 0, g'⟩ (fun r => ∀ c : Dev Cert.WeightScanRefIdeal.nD,
          r.2.mem ((c.tc : Thread Cert.WeightScanRefIdeal.nD Cert.WeightScanRefIdeal.τ).loc Cert.WeightScanRefIdeal.main_v6) = v0 c
          ∧ r.2.mem ((c.tc : Thread Cert.WeightScanRefIdeal.nD Cert.WeightScanRefIdeal.τ).loc Cert.WeightScanRefIdeal.main_arg0) = m' ((c.tc : Thread Cert.WeightScanRefIdeal.nD Cert.WeightScanRefIdeal.τ).loc Cert.WeightScanRefIdeal.main_arg0)
          ∧ r.2.mem ((c.tc : Thread Cert.WeightScanRefIdeal.nD Cert.WeightScanRefIdeal.τ).loc Cert.WeightScanRefIdeal.main_arg1) = m' ((c.tc : Thread Cert.WeightScanRefIdeal.nD Cert.WeightScanRefIdeal.τ).loc Cert.WeightScanRefIdeal.main_arg1))

def preserves_WeightGate_WeightGateIdeal : Prop :=
  True

def algebraic_WeightGateIdeal_WeightGateRefIdeal [hWeightGateIdeal : Cert.WeightGateIdeal.Facts] [hWeightGateRefIdeal : Cert.WeightGateRefIdeal.Facts] : Prop :=
  ∀ (m : (ℓ : Loc Cert.WeightGateIdeal.nD Cert.WeightGateIdeal.τ Cert.WeightGateIdeal.sig) → Buf (Elt Ideal) ℓ) (g : Dev Cert.WeightGateIdeal.nD → PrngReg)
    (m' : (ℓ : Loc Cert.WeightGateRefIdeal.nD Cert.WeightGateRefIdeal.τ Cert.WeightGateRefIdeal.sig) → Buf (Elt Ideal) ℓ) (g' : Dev Cert.WeightGateRefIdeal.nD → PrngReg), Pre_WeightGateIdeal m →
    (∀ c : Dev Cert.WeightGateIdeal.nD,
      m' ((c.tc : Thread Cert.WeightGateRefIdeal.nD Cert.WeightGateRefIdeal.τ).loc Cert.WeightGateRefIdeal.main_arg0) = m ((c.tc : Thread Cert.WeightGateIdeal.nD Cert.WeightGateIdeal.τ).loc Cert.WeightGateIdeal.main_arg0)
      ∧ m' ((c.tc : Thread Cert.WeightGateRefIdeal.nD Cert.WeightGateRefIdeal.τ).loc Cert.WeightGateRefIdeal.main_arg1) = m ((c.tc : Thread Cert.WeightGateIdeal.nD Cert.WeightGateIdeal.τ).loc Cert.WeightGateIdeal.main_arg1)) →
    ∃ (v0 : (c : Dev Cert.WeightGateIdeal.nD) → Buf (Elt Ideal) ((c.tc : Thread Cert.WeightGateIdeal.nD Cert.WeightGateIdeal.τ).loc Cert.WeightGateIdeal.main_v0)),
      θ_run (Cert.WeightGateIdeal.defs (F := Ideal)) (onTc (τ := Cert.WeightGateIdeal.τ) (Cert.WeightGateIdeal.main (F := Ideal))) ⟨m, fun _ => 0, g⟩ (fun r => ∀ c : Dev Cert.WeightGateIdeal.nD,
          r.2.mem ((c.tc : Thread Cert.WeightGateIdeal.nD Cert.WeightGateIdeal.τ).loc Cert.WeightGateIdeal.main_v0) = v0 c
          ∧ r.2.mem ((c.tc : Thread Cert.WeightGateIdeal.nD Cert.WeightGateIdeal.τ).loc Cert.WeightGateIdeal.main_arg0) = m ((c.tc : Thread Cert.WeightGateIdeal.nD Cert.WeightGateIdeal.τ).loc Cert.WeightGateIdeal.main_arg0)
          ∧ r.2.mem ((c.tc : Thread Cert.WeightGateIdeal.nD Cert.WeightGateIdeal.τ).loc Cert.WeightGateIdeal.main_arg1) = m ((c.tc : Thread Cert.WeightGateIdeal.nD Cert.WeightGateIdeal.τ).loc Cert.WeightGateIdeal.main_arg1))
      ∧ θ_run (Cert.WeightGateRefIdeal.defs (F := Ideal)) (onTc (τ := Cert.WeightGateRefIdeal.τ) (Cert.WeightGateRefIdeal.main (F := Ideal))) ⟨m', fun _ => 0, g'⟩ (fun r => ∀ c : Dev Cert.WeightGateRefIdeal.nD,
          r.2.mem ((c.tc : Thread Cert.WeightGateRefIdeal.nD Cert.WeightGateRefIdeal.τ).loc Cert.WeightGateRefIdeal.main_v6) = v0 c
          ∧ r.2.mem ((c.tc : Thread Cert.WeightGateRefIdeal.nD Cert.WeightGateRefIdeal.τ).loc Cert.WeightGateRefIdeal.main_arg0) = m' ((c.tc : Thread Cert.WeightGateRefIdeal.nD Cert.WeightGateRefIdeal.τ).loc Cert.WeightGateRefIdeal.main_arg0)
          ∧ r.2.mem ((c.tc : Thread Cert.WeightGateRefIdeal.nD Cert.WeightGateRefIdeal.τ).loc Cert.WeightGateRefIdeal.main_arg1) = m' ((c.tc : Thread Cert.WeightGateRefIdeal.nD Cert.WeightGateRefIdeal.τ).loc Cert.WeightGateRefIdeal.main_arg1))

def preserves_WeightOut_WeightOutIdeal : Prop :=
  True

def algebraic_WeightOutIdeal_WeightOutRefIdeal [hWeightOutIdeal : Cert.WeightOutIdeal.Facts] [hWeightOutRefIdeal : Cert.WeightOutRefIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg)
    (m' : (ℓ : Loc Cert.WeightOutRefIdeal.nD Cert.WeightOutRefIdeal.τ Cert.WeightOutRefIdeal.sig) → Buf (Elt Ideal) ℓ) (g' : Dev Cert.WeightOutRefIdeal.nD → PrngReg), Pre_WeightOutIdeal m →
    (∀ c : Dev Cert.WeightOutIdeal.nD,
      m' ((c.tc : Thread Cert.WeightOutRefIdeal.nD Cert.WeightOutRefIdeal.τ).loc Cert.WeightOutRefIdeal.main_arg0) = m ((c.tc : Thread Cert.WeightOutIdeal.nD Cert.WeightOutIdeal.τ).loc Cert.WeightOutIdeal.main_arg0)
      ∧ m' ((c.tc : Thread Cert.WeightOutRefIdeal.nD Cert.WeightOutRefIdeal.τ).loc Cert.WeightOutRefIdeal.main_arg1) = m ((c.tc : Thread Cert.WeightOutIdeal.nD Cert.WeightOutIdeal.τ).loc Cert.WeightOutIdeal.main_arg1)) →
    ∃ (v0 : (c : Dev Cert.WeightOutIdeal.nD) → Buf (Elt Ideal) ((c.tc : Thread Cert.WeightOutIdeal.nD Cert.WeightOutIdeal.τ).loc Cert.WeightOutIdeal.main_v0)),
      θ_run (Cert.WeightOutIdeal.defs (F := Ideal)) (onTc (τ := Cert.WeightOutIdeal.τ) (Cert.WeightOutIdeal.main (F := Ideal))) ⟨m, fun _ => 0, g⟩ (fun r => ∀ c : Dev Cert.WeightOutIdeal.nD,
          r.2.mem ((c.tc : Thread Cert.WeightOutIdeal.nD Cert.WeightOutIdeal.τ).loc Cert.WeightOutIdeal.main_v0) = v0 c
          ∧ r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
          ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ θ_run (Cert.WeightOutRefIdeal.defs (F := Ideal)) (onTc (τ := Cert.WeightOutRefIdeal.τ) (Cert.WeightOutRefIdeal.main (F := Ideal))) ⟨m', fun _ => 0, g'⟩ (fun r => ∀ c : Dev Cert.WeightOutRefIdeal.nD,
          r.2.mem ((c.tc : Thread Cert.WeightOutRefIdeal.nD Cert.WeightOutRefIdeal.τ).loc Cert.WeightOutRefIdeal.main_v6) = v0 c
          ∧ r.2.mem ((c.tc : Thread Cert.WeightOutRefIdeal.nD Cert.WeightOutRefIdeal.τ).loc Cert.WeightOutRefIdeal.main_arg0) = m' ((c.tc : Thread Cert.WeightOutRefIdeal.nD Cert.WeightOutRefIdeal.τ).loc Cert.WeightOutRefIdeal.main_arg0)
          ∧ r.2.mem ((c.tc : Thread Cert.WeightOutRefIdeal.nD Cert.WeightOutRefIdeal.τ).loc Cert.WeightOutRefIdeal.main_arg1) = m' ((c.tc : Thread Cert.WeightOutRefIdeal.nD Cert.WeightOutRefIdeal.τ).loc Cert.WeightOutRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v3) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v3) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v3) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1))

def preserves_ProjScan_ProjScanIdeal : Prop :=
  True

def algebraic_ProjScanIdeal_ProjScanRefIdeal [hProjScanIdeal : Cert.ProjScanIdeal.Facts] [hProjScanRefIdeal : Cert.ProjScanRefIdeal.Facts] : Prop :=
  ∀ (m : (ℓ : Loc Cert.ProjScanIdeal.nD Cert.ProjScanIdeal.τ Cert.ProjScanIdeal.sig) → Buf (Elt Ideal) ℓ) (g : Dev Cert.ProjScanIdeal.nD → PrngReg)
    (m' : (ℓ : Loc Cert.ProjScanRefIdeal.nD Cert.ProjScanRefIdeal.τ Cert.ProjScanRefIdeal.sig) → Buf (Elt Ideal) ℓ) (g' : Dev Cert.ProjScanRefIdeal.nD → PrngReg), Pre_ProjScanIdeal m →
    (∀ c : Dev Cert.ProjScanIdeal.nD,
      m' ((c.tc : Thread Cert.ProjScanRefIdeal.nD Cert.ProjScanRefIdeal.τ).loc Cert.ProjScanRefIdeal.main_arg0) = m ((c.tc : Thread Cert.ProjScanIdeal.nD Cert.ProjScanIdeal.τ).loc Cert.ProjScanIdeal.main_arg0)
      ∧ m' ((c.tc : Thread Cert.ProjScanRefIdeal.nD Cert.ProjScanRefIdeal.τ).loc Cert.ProjScanRefIdeal.main_arg1) = m ((c.tc : Thread Cert.ProjScanIdeal.nD Cert.ProjScanIdeal.τ).loc Cert.ProjScanIdeal.main_arg1)) →
    ∃ (v0 : (c : Dev Cert.ProjScanIdeal.nD) → Buf (Elt Ideal) ((c.tc : Thread Cert.ProjScanIdeal.nD Cert.ProjScanIdeal.τ).loc Cert.ProjScanIdeal.main_v0)),
      θ_run (Cert.ProjScanIdeal.defs (F := Ideal)) (onTc (τ := Cert.ProjScanIdeal.τ) (Cert.ProjScanIdeal.main (F := Ideal))) ⟨m, fun _ => 0, g⟩ (fun r => ∀ c : Dev Cert.ProjScanIdeal.nD,
          r.2.mem ((c.tc : Thread Cert.ProjScanIdeal.nD Cert.ProjScanIdeal.τ).loc Cert.ProjScanIdeal.main_v0) = v0 c
          ∧ r.2.mem ((c.tc : Thread Cert.ProjScanIdeal.nD Cert.ProjScanIdeal.τ).loc Cert.ProjScanIdeal.main_arg0) = m ((c.tc : Thread Cert.ProjScanIdeal.nD Cert.ProjScanIdeal.τ).loc Cert.ProjScanIdeal.main_arg0)
          ∧ r.2.mem ((c.tc : Thread Cert.ProjScanIdeal.nD Cert.ProjScanIdeal.τ).loc Cert.ProjScanIdeal.main_arg1) = m ((c.tc : Thread Cert.ProjScanIdeal.nD Cert.ProjScanIdeal.τ).loc Cert.ProjScanIdeal.main_arg1))
      ∧ θ_run (Cert.ProjScanRefIdeal.defs (F := Ideal)) (onTc (τ := Cert.ProjScanRefIdeal.τ) (Cert.ProjScanRefIdeal.main (F := Ideal))) ⟨m', fun _ => 0, g'⟩ (fun r => ∀ c : Dev Cert.ProjScanRefIdeal.nD,
          r.2.mem ((c.tc : Thread Cert.ProjScanRefIdeal.nD Cert.ProjScanRefIdeal.τ).loc Cert.ProjScanRefIdeal.main_v2) = v0 c
          ∧ r.2.mem ((c.tc : Thread Cert.ProjScanRefIdeal.nD Cert.ProjScanRefIdeal.τ).loc Cert.ProjScanRefIdeal.main_arg0) = m' ((c.tc : Thread Cert.ProjScanRefIdeal.nD Cert.ProjScanRefIdeal.τ).loc Cert.ProjScanRefIdeal.main_arg0)
          ∧ r.2.mem ((c.tc : Thread Cert.ProjScanRefIdeal.nD Cert.ProjScanRefIdeal.τ).loc Cert.ProjScanRefIdeal.main_arg1) = m' ((c.tc : Thread Cert.ProjScanRefIdeal.nD Cert.ProjScanRefIdeal.τ).loc Cert.ProjScanRefIdeal.main_arg1))

def preserves_Unmerge_UnmergeIdeal : Prop :=
  True

def algebraic_UnmergeIdeal_UnmergeRefIdeal [hUnmergeIdeal : Cert.UnmergeIdeal.Facts] [hUnmergeRefIdeal : Cert.UnmergeRefIdeal.Facts] : Prop :=
  ∀ (m : (ℓ : Loc Cert.UnmergeIdeal.nD Cert.UnmergeIdeal.τ Cert.UnmergeIdeal.sig) → Buf (Elt Ideal) ℓ) (g : Dev Cert.UnmergeIdeal.nD → PrngReg)
    (m' : (ℓ : Loc Cert.UnmergeRefIdeal.nD Cert.UnmergeRefIdeal.τ Cert.UnmergeRefIdeal.sig) → Buf (Elt Ideal) ℓ) (g' : Dev Cert.UnmergeRefIdeal.nD → PrngReg), Pre_UnmergeIdeal m →
    (∀ c : Dev Cert.UnmergeIdeal.nD,
      m' ((c.tc : Thread Cert.UnmergeRefIdeal.nD Cert.UnmergeRefIdeal.τ).loc Cert.UnmergeRefIdeal.main_arg0) = m ((c.tc : Thread Cert.UnmergeIdeal.nD Cert.UnmergeIdeal.τ).loc Cert.UnmergeIdeal.main_arg0)
      ∧ m' ((c.tc : Thread Cert.UnmergeRefIdeal.nD Cert.UnmergeRefIdeal.τ).loc Cert.UnmergeRefIdeal.main_arg1) = m ((c.tc : Thread Cert.UnmergeIdeal.nD Cert.UnmergeIdeal.τ).loc Cert.UnmergeIdeal.main_arg1)
      ∧ m' ((c.tc : Thread Cert.UnmergeRefIdeal.nD Cert.UnmergeRefIdeal.τ).loc Cert.UnmergeRefIdeal.main_arg2) = m ((c.tc : Thread Cert.UnmergeIdeal.nD Cert.UnmergeIdeal.τ).loc Cert.UnmergeIdeal.main_arg2)
      ∧ m' ((c.tc : Thread Cert.UnmergeRefIdeal.nD Cert.UnmergeRefIdeal.τ).loc Cert.UnmergeRefIdeal.main_arg3) = m ((c.tc : Thread Cert.UnmergeIdeal.nD Cert.UnmergeIdeal.τ).loc Cert.UnmergeIdeal.main_arg3)
      ∧ m' ((c.tc : Thread Cert.UnmergeRefIdeal.nD Cert.UnmergeRefIdeal.τ).loc Cert.UnmergeRefIdeal.main_arg4) = m ((c.tc : Thread Cert.UnmergeIdeal.nD Cert.UnmergeIdeal.τ).loc Cert.UnmergeIdeal.main_arg4)
      ∧ m' ((c.tc : Thread Cert.UnmergeRefIdeal.nD Cert.UnmergeRefIdeal.τ).loc Cert.UnmergeRefIdeal.main_arg5) = m ((c.tc : Thread Cert.UnmergeIdeal.nD Cert.UnmergeIdeal.τ).loc Cert.UnmergeIdeal.main_arg5)
      ∧ m' ((c.tc : Thread Cert.UnmergeRefIdeal.nD Cert.UnmergeRefIdeal.τ).loc Cert.UnmergeRefIdeal.main_arg6) = m ((c.tc : Thread Cert.UnmergeIdeal.nD Cert.UnmergeIdeal.τ).loc Cert.UnmergeIdeal.main_arg6)) →
    ∃ (v0 : (c : Dev Cert.UnmergeIdeal.nD) → Buf (Elt Ideal) ((c.tc : Thread Cert.UnmergeIdeal.nD Cert.UnmergeIdeal.τ).loc Cert.UnmergeIdeal.main_v0_0)) (v1 : (c : Dev Cert.UnmergeIdeal.nD) → Buf (Elt Ideal) ((c.tc : Thread Cert.UnmergeIdeal.nD Cert.UnmergeIdeal.τ).loc Cert.UnmergeIdeal.main_v0_1)) (v2 : (c : Dev Cert.UnmergeIdeal.nD) → Buf (Elt Ideal) ((c.tc : Thread Cert.UnmergeIdeal.nD Cert.UnmergeIdeal.τ).loc Cert.UnmergeIdeal.main_v0_2)) (v3 : (c : Dev Cert.UnmergeIdeal.nD) → Buf (Elt Ideal) ((c.tc : Thread Cert.UnmergeIdeal.nD Cert.UnmergeIdeal.τ).loc Cert.UnmergeIdeal.main_v0_3)) (v4 : (c : Dev Cert.UnmergeIdeal.nD) → Buf (Elt Ideal) ((c.tc : Thread Cert.UnmergeIdeal.nD Cert.UnmergeIdeal.τ).loc Cert.UnmergeIdeal.main_v0_4)),
      θ_run (Cert.UnmergeIdeal.defs (F := Ideal)) (onTc (τ := Cert.UnmergeIdeal.τ) (Cert.UnmergeIdeal.main (F := Ideal))) ⟨m, fun _ => 0, g⟩ (fun r => ∀ c : Dev Cert.UnmergeIdeal.nD,
          r.2.mem ((c.tc : Thread Cert.UnmergeIdeal.nD Cert.UnmergeIdeal.τ).loc Cert.UnmergeIdeal.main_v0_0) = v0 c
          ∧ r.2.mem ((c.tc : Thread Cert.UnmergeIdeal.nD Cert.UnmergeIdeal.τ).loc Cert.UnmergeIdeal.main_v0_1) = v1 c
          ∧ r.2.mem ((c.tc : Thread Cert.UnmergeIdeal.nD Cert.UnmergeIdeal.τ).loc Cert.UnmergeIdeal.main_v0_2) = v2 c
          ∧ r.2.mem ((c.tc : Thread Cert.UnmergeIdeal.nD Cert.UnmergeIdeal.τ).loc Cert.UnmergeIdeal.main_v0_3) = v3 c
          ∧ r.2.mem ((c.tc : Thread Cert.UnmergeIdeal.nD Cert.UnmergeIdeal.τ).loc Cert.UnmergeIdeal.main_v0_4) = v4 c
          ∧ r.2.mem ((c.tc : Thread Cert.UnmergeIdeal.nD Cert.UnmergeIdeal.τ).loc Cert.UnmergeIdeal.main_arg0) = m ((c.tc : Thread Cert.UnmergeIdeal.nD Cert.UnmergeIdeal.τ).loc Cert.UnmergeIdeal.main_arg0)
          ∧ r.2.mem ((c.tc : Thread Cert.UnmergeIdeal.nD Cert.UnmergeIdeal.τ).loc Cert.UnmergeIdeal.main_arg1) = m ((c.tc : Thread Cert.UnmergeIdeal.nD Cert.UnmergeIdeal.τ).loc Cert.UnmergeIdeal.main_arg1)
          ∧ r.2.mem ((c.tc : Thread Cert.UnmergeIdeal.nD Cert.UnmergeIdeal.τ).loc Cert.UnmergeIdeal.main_arg2) = m ((c.tc : Thread Cert.UnmergeIdeal.nD Cert.UnmergeIdeal.τ).loc Cert.UnmergeIdeal.main_arg2)
          ∧ r.2.mem ((c.tc : Thread Cert.UnmergeIdeal.nD Cert.UnmergeIdeal.τ).loc Cert.UnmergeIdeal.main_arg3) = m ((c.tc : Thread Cert.UnmergeIdeal.nD Cert.UnmergeIdeal.τ).loc Cert.UnmergeIdeal.main_arg3)
          ∧ r.2.mem ((c.tc : Thread Cert.UnmergeIdeal.nD Cert.UnmergeIdeal.τ).loc Cert.UnmergeIdeal.main_arg4) = m ((c.tc : Thread Cert.UnmergeIdeal.nD Cert.UnmergeIdeal.τ).loc Cert.UnmergeIdeal.main_arg4)
          ∧ r.2.mem ((c.tc : Thread Cert.UnmergeIdeal.nD Cert.UnmergeIdeal.τ).loc Cert.UnmergeIdeal.main_arg5) = m ((c.tc : Thread Cert.UnmergeIdeal.nD Cert.UnmergeIdeal.τ).loc Cert.UnmergeIdeal.main_arg5)
          ∧ r.2.mem ((c.tc : Thread Cert.UnmergeIdeal.nD Cert.UnmergeIdeal.τ).loc Cert.UnmergeIdeal.main_arg6) = m ((c.tc : Thread Cert.UnmergeIdeal.nD Cert.UnmergeIdeal.τ).loc Cert.UnmergeIdeal.main_arg6))
      ∧ θ_run (Cert.UnmergeRefIdeal.defs (F := Ideal)) (onTc (τ := Cert.UnmergeRefIdeal.τ) (Cert.UnmergeRefIdeal.main (F := Ideal))) ⟨m', fun _ => 0, g'⟩ (fun r => ∀ c : Dev Cert.UnmergeRefIdeal.nD,
          r.2.mem ((c.tc : Thread Cert.UnmergeRefIdeal.nD Cert.UnmergeRefIdeal.τ).loc Cert.UnmergeRefIdeal.main_v44) = v0 c
          ∧ r.2.mem ((c.tc : Thread Cert.UnmergeRefIdeal.nD Cert.UnmergeRefIdeal.τ).loc Cert.UnmergeRefIdeal.main_v45) = v1 c
          ∧ r.2.mem ((c.tc : Thread Cert.UnmergeRefIdeal.nD Cert.UnmergeRefIdeal.τ).loc Cert.UnmergeRefIdeal.main_v46) = v2 c
          ∧ r.2.mem ((c.tc : Thread Cert.UnmergeRefIdeal.nD Cert.UnmergeRefIdeal.τ).loc Cert.UnmergeRefIdeal.main_v47) = v3 c
          ∧ r.2.mem ((c.tc : Thread Cert.UnmergeRefIdeal.nD Cert.UnmergeRefIdeal.τ).loc Cert.UnmergeRefIdeal.main_v8) = v4 c
          ∧ r.2.mem ((c.tc : Thread Cert.UnmergeRefIdeal.nD Cert.UnmergeRefIdeal.τ).loc Cert.UnmergeRefIdeal.main_arg0) = m' ((c.tc : Thread Cert.UnmergeRefIdeal.nD Cert.UnmergeRefIdeal.τ).loc Cert.UnmergeRefIdeal.main_arg0)
          ∧ r.2.mem ((c.tc : Thread Cert.UnmergeRefIdeal.nD Cert.UnmergeRefIdeal.τ).loc Cert.UnmergeRefIdeal.main_arg1) = m' ((c.tc : Thread Cert.UnmergeRefIdeal.nD Cert.UnmergeRefIdeal.τ).loc Cert.UnmergeRefIdeal.main_arg1)
          ∧ r.2.mem ((c.tc : Thread Cert.UnmergeRefIdeal.nD Cert.UnmergeRefIdeal.τ).loc Cert.UnmergeRefIdeal.main_arg2) = m' ((c.tc : Thread Cert.UnmergeRefIdeal.nD Cert.UnmergeRefIdeal.τ).loc Cert.UnmergeRefIdeal.main_arg2)
          ∧ r.2.mem ((c.tc : Thread Cert.UnmergeRefIdeal.nD Cert.UnmergeRefIdeal.τ).loc Cert.UnmergeRefIdeal.main_arg3) = m' ((c.tc : Thread Cert.UnmergeRefIdeal.nD Cert.UnmergeRefIdeal.τ).loc Cert.UnmergeRefIdeal.main_arg3)
          ∧ r.2.mem ((c.tc : Thread Cert.UnmergeRefIdeal.nD Cert.UnmergeRefIdeal.τ).loc Cert.UnmergeRefIdeal.main_arg4) = m' ((c.tc : Thread Cert.UnmergeRefIdeal.nD Cert.UnmergeRefIdeal.τ).loc Cert.UnmergeRefIdeal.main_arg4)
          ∧ r.2.mem ((c.tc : Thread Cert.UnmergeRefIdeal.nD Cert.UnmergeRefIdeal.τ).loc Cert.UnmergeRefIdeal.main_arg5) = m' ((c.tc : Thread Cert.UnmergeRefIdeal.nD Cert.UnmergeRefIdeal.τ).loc Cert.UnmergeRefIdeal.main_arg5)
          ∧ r.2.mem ((c.tc : Thread Cert.UnmergeRefIdeal.nD Cert.UnmergeRefIdeal.τ).loc Cert.UnmergeRefIdeal.main_arg6) = m' ((c.tc : Thread Cert.UnmergeRefIdeal.nD Cert.UnmergeRefIdeal.τ).loc Cert.UnmergeRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_v23) = v1 c
          ∧ r.2.mem ((c.tc : Thread Cert.MergeRefIdeal.nD Cert.MergeRefIdeal.τ).loc Cert.MergeRefIdeal.main_v26) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def Claim : Prop :=
  ∃ (hKernel : Cert.Kernel.Facts) (hKernelIdeal : Cert.KernelIdeal.Facts) (hReferenceIdeal : Cert.ReferenceIdeal.Facts) (hWeight : Cert.Weight.Facts) (hWeightIdeal : Cert.WeightIdeal.Facts) (hWeightRefIdeal : Cert.WeightRefIdeal.Facts) (hWeightTRefIdeal : Cert.WeightTRefIdeal.Facts) (hNorm : Cert.Norm.Facts) (hNormIdeal : Cert.NormIdeal.Facts) (hNormRefIdeal : Cert.NormRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hHidden : Cert.Hidden.Facts) (hHiddenIdeal : Cert.HiddenIdeal.Facts) (hHiddenRefIdeal : Cert.HiddenRefIdeal.Facts) (hMix : Cert.Mix.Facts) (hMixIdeal : Cert.MixIdeal.Facts) (hMixRefIdeal : Cert.MixRefIdeal.Facts) (hWeightIn : Cert.WeightIn.Facts) (hWeightInIdeal : Cert.WeightInIdeal.Facts) (hWeightInRefIdeal : Cert.WeightInRefIdeal.Facts) (hWeightScan : Cert.WeightScan.Facts) (hWeightScanIdeal : Cert.WeightScanIdeal.Facts) (hWeightScanRefIdeal : Cert.WeightScanRefIdeal.Facts) (hWeightGate : Cert.WeightGate.Facts) (hWeightGateIdeal : Cert.WeightGateIdeal.Facts) (hWeightGateRefIdeal : Cert.WeightGateRefIdeal.Facts) (hWeightOut : Cert.WeightOut.Facts) (hWeightOutIdeal : Cert.WeightOutIdeal.Facts) (hWeightOutRefIdeal : Cert.WeightOutRefIdeal.Facts) (hProjIn : Cert.ProjIn.Facts) (hProjInIdeal : Cert.ProjInIdeal.Facts) (hProjInRefIdeal : Cert.ProjInRefIdeal.Facts) (hProjGate : Cert.ProjGate.Facts) (hProjGateIdeal : Cert.ProjGateIdeal.Facts) (hProjGateRefIdeal : Cert.ProjGateRefIdeal.Facts) (hProjOut : Cert.ProjOut.Facts) (hProjOutIdeal : Cert.ProjOutIdeal.Facts) (hProjOutRefIdeal : Cert.ProjOutRefIdeal.Facts) (hProjScan : Cert.ProjScan.Facts) (hProjScanIdeal : Cert.ProjScanIdeal.Facts) (hProjScanRefIdeal : Cert.ProjScanRefIdeal.Facts) (hUnmerge : Cert.Unmerge.Facts) (hUnmergeIdeal : Cert.UnmergeIdeal.Facts) (hUnmergeRefIdeal : Cert.UnmergeRefIdeal.Facts) (hMerge : Cert.Merge.Facts) (hMergeIdeal : Cert.MergeIdeal.Facts) (hMergeRefIdeal : Cert.MergeRefIdeal.Facts) (hPre_finite : Cert.Pre_finite.Facts) (hPre_finite_up : Cert.Pre_finite_up.Facts) (hPre_finite_hidden : Cert.Pre_finite_hidden.Facts) (hPre_finite_mix : Cert.Pre_finite_mix.Facts),
    quiescent_Kernel (hKernel := hKernel)
    ∧ quiescent_KernelIdeal (hKernelIdeal := hKernelIdeal)
    ∧ quiescent_ReferenceIdeal (hReferenceIdeal := hReferenceIdeal)
    ∧ quiescent_Weight (hWeight := hWeight)
    ∧ quiescent_WeightIdeal (hWeightIdeal := hWeightIdeal)
    ∧ quiescent_WeightRefIdeal (hWeightRefIdeal := hWeightRefIdeal)
    ∧ quiescent_WeightTRefIdeal (hWeightTRefIdeal := hWeightTRefIdeal)
    ∧ quiescent_Norm (hNorm := hNorm)
    ∧ quiescent_NormIdeal (hNormIdeal := hNormIdeal)
    ∧ quiescent_NormIdeal_pre_finite (hNormIdeal := hNormIdeal) (hPre_finite := hPre_finite)
    ∧ quiescent_NormRefIdeal (hNormRefIdeal := hNormRefIdeal)
    ∧ quiescent_NormRefIdeal_pre_finite (hNormRefIdeal := hNormRefIdeal) (hPre_finite := hPre_finite)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Down (hDown := hDown)
    ∧ quiescent_DownIdeal (hDownIdeal := hDownIdeal)
    ∧ quiescent_DownRefIdeal (hDownRefIdeal := hDownRefIdeal)
    ∧ quiescent_Hidden (hHidden := hHidden)
    ∧ quiescent_HiddenIdeal (hHiddenIdeal := hHiddenIdeal)
    ∧ quiescent_HiddenIdeal_pre_finite_hidden (hHiddenIdeal := hHiddenIdeal) (hPre_finite_hidden := hPre_finite_hidden)
    ∧ quiescent_HiddenRefIdeal (hHiddenRefIdeal := hHiddenRefIdeal)
    ∧ quiescent_HiddenRefIdeal_pre_finite_hidden (hHiddenRefIdeal := hHiddenRefIdeal) (hPre_finite_hidden := hPre_finite_hidden)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_WeightIn (hWeightIn := hWeightIn)
    ∧ quiescent_WeightInIdeal (hWeightInIdeal := hWeightInIdeal)
    ∧ quiescent_WeightInRefIdeal (hWeightInRefIdeal := hWeightInRefIdeal)
    ∧ quiescent_WeightScan (hWeightScan := hWeightScan)
    ∧ quiescent_WeightScanIdeal (hWeightScanIdeal := hWeightScanIdeal)
    ∧ quiescent_WeightScanRefIdeal (hWeightScanRefIdeal := hWeightScanRefIdeal)
    ∧ quiescent_WeightGate (hWeightGate := hWeightGate)
    ∧ quiescent_WeightGateIdeal (hWeightGateIdeal := hWeightGateIdeal)
    ∧ quiescent_WeightGateRefIdeal (hWeightGateRefIdeal := hWeightGateRefIdeal)
    ∧ quiescent_WeightOut (hWeightOut := hWeightOut)
    ∧ quiescent_WeightOutIdeal (hWeightOutIdeal := hWeightOutIdeal)
    ∧ quiescent_WeightOutRefIdeal (hWeightOutRefIdeal := hWeightOutRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_ProjScan (hProjScan := hProjScan)
    ∧ quiescent_ProjScanIdeal (hProjScanIdeal := hProjScanIdeal)
    ∧ quiescent_ProjScanRefIdeal (hProjScanRefIdeal := hProjScanRefIdeal)
    ∧ quiescent_Unmerge (hUnmerge := hUnmerge)
    ∧ quiescent_UnmergeIdeal (hUnmergeIdeal := hUnmergeIdeal)
    ∧ quiescent_UnmergeRefIdeal (hUnmergeRefIdeal := hUnmergeRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal (hKernelIdeal := hKernelIdeal) (hReferenceIdeal := hReferenceIdeal)
    ∧ preserves_Weight_WeightIdeal
    ∧ algebraic_WeightIdeal_WeightRefIdeal (hWeightIdeal := hWeightIdeal) (hWeightRefIdeal := hWeightRefIdeal)
    ∧ algebraic_WeightIdeal_WeightTRefIdeal (hWeightIdeal := hWeightIdeal) (hWeightTRefIdeal := hWeightTRefIdeal)
    ∧ preserves_Norm_NormIdeal
    ∧ algebraic_NormIdeal_NormRefIdeal_pre_finite (hNormIdeal := hNormIdeal) (hNormRefIdeal := hNormRefIdeal) (hPre_finite := hPre_finite)
    ∧ preserves_Up_UpIdeal
    ∧ algebraic_UpIdeal_UpRefIdeal_pre_finite_up (hUpIdeal := hUpIdeal) (hUpRefIdeal := hUpRefIdeal) (hPre_finite_up := hPre_finite_up)
    ∧ preserves_Down_DownIdeal
    ∧ algebraic_DownIdeal_DownRefIdeal (hDownIdeal := hDownIdeal) (hDownRefIdeal := hDownRefIdeal)
    ∧ preserves_Hidden_HiddenIdeal
    ∧ algebraic_HiddenIdeal_HiddenRefIdeal_pre_finite_hidden (hHiddenIdeal := hHiddenIdeal) (hHiddenRefIdeal := hHiddenRefIdeal) (hPre_finite_hidden := hPre_finite_hidden)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_WeightIn_WeightInIdeal
    ∧ algebraic_WeightInIdeal_WeightInRefIdeal (hWeightInIdeal := hWeightInIdeal) (hWeightInRefIdeal := hWeightInRefIdeal)
    ∧ preserves_WeightScan_WeightScanIdeal
    ∧ algebraic_WeightScanIdeal_WeightScanRefIdeal (hWeightScanIdeal := hWeightScanIdeal) (hWeightScanRefIdeal := hWeightScanRefIdeal)
    ∧ preserves_WeightGate_WeightGateIdeal
    ∧ algebraic_WeightGateIdeal_WeightGateRefIdeal (hWeightGateIdeal := hWeightGateIdeal) (hWeightGateRefIdeal := hWeightGateRefIdeal)
    ∧ preserves_WeightOut_WeightOutIdeal
    ∧ algebraic_WeightOutIdeal_WeightOutRefIdeal (hWeightOutIdeal := hWeightOutIdeal) (hWeightOutRefIdeal := hWeightOutRefIdeal)
    ∧ preserves_ProjIn_ProjInIdeal
    ∧ algebraic_ProjInIdeal_ProjInRefIdeal (hProjInIdeal := hProjInIdeal) (hProjInRefIdeal := hProjInRefIdeal)
    ∧ preserves_ProjGate_ProjGateIdeal
    ∧ algebraic_ProjGateIdeal_ProjGateRefIdeal (hProjGateIdeal := hProjGateIdeal) (hProjGateRefIdeal := hProjGateRefIdeal)
    ∧ preserves_ProjOut_ProjOutIdeal
    ∧ algebraic_ProjOutIdeal_ProjOutRefIdeal (hProjOutIdeal := hProjOutIdeal) (hProjOutRefIdeal := hProjOutRefIdeal)
    ∧ preserves_ProjScan_ProjScanIdeal
    ∧ algebraic_ProjScanIdeal_ProjScanRefIdeal (hProjScanIdeal := hProjScanIdeal) (hProjScanRefIdeal := hProjScanRefIdeal)
    ∧ preserves_Unmerge_UnmergeIdeal
    ∧ algebraic_UnmergeIdeal_UnmergeRefIdeal (hUnmergeIdeal := hUnmergeIdeal) (hUnmergeRefIdeal := hUnmergeRefIdeal)
    ∧ preserves_Merge_MergeIdeal
    ∧ algebraic_MergeIdeal_MergeRefIdeal (hMergeIdeal := hMergeIdeal) (hMergeRefIdeal := hMergeRefIdeal)
-- ==== Pre_finite.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩

class Facts : Prop where
  bitsLt_bf16_f32 : FTy.bits .bf16 < FTy.bits .f32
  bcast_S_S4x2048x2816 : S_.BroadcastsInDim S4x2048x2816 (![] : Fin 0 → Fin S4x2048x2816.rank)
  bcast_S_S2816x1024 : S_.BroadcastsInDim S2816x1024 (![] : Fin 0 → Fin S2816x1024.rank)
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S4x1x1024 : S_.BroadcastsInDim S4x1x1024 (![] : Fin 0 → Fin S4x1x1024.rank)

variable [Facts]

def fn_part1 {F : FTy → Type} [FloatOps F] (main_arg5 : FVec F S1x1024 .f32) (main_arg6 : FVec F S4x1x1024 .f32) (main_v3 : IVec S4x2048x2816 1) (main_v7 : IVec S4x2048x2816 1) (main_v11 : IVec S2816x1024 1) (main_v15 : IVec S2816x1024 1) (main_v18 : IVec S4x2048x1024 1) : IVec S4x2048x2816 1 × IVec S4x2048x2816 1 × IVec S2816x1024 1 × IVec S2816x1024 1 × IVec S4x2048x1024 1 × IVec S1x1024 1 × IVec S4x1x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S4x1x1024 .f32 := Host.absf main_arg6
  let main_cst_5 : FVec F S_ .f32 := constant S_ .f32 0x7F800000#32
  let main_v23 : FVec F S4x1x1024 .f32 := broadcastInDim S4x1x1024 ![] bcast_S_S4x1x1024 main_cst_5
  let main_v24 : IVec S4x1x1024 1 := cmpf .olt main_v22 main_v23
  (main_v3, main_v7, main_v11, main_v15, main_v18, main_v21, main_v24)

def fn {F : FTy → Type} [FloatOps F] (main_arg0 : FVec F S4x2048x2816 .bf16) (main_arg1 : FVec F S4x2048x2816 .bf16) (main_arg2 : FVec F S2816x1024 .bf16) (main_arg3 : FVec F S2816x1024 .bf16) (main_arg4 : FVec F S4x2048x1024 .f32) (main_arg5 : FVec F S1x1024 .f32) (main_arg6 : FVec F S4x1x1024 .f32) (main_arg7 : FVec F S4x2048x1024 .f32) : IVec S4x2048x2816 1 × IVec S4x2048x2816 1 × IVec S2816x1024 1 × IVec S2816x1024 1 × IVec S4x2048x1024 1 × IVec S1x1024 1 × IVec S4x1x1024 1 :=
  let main_v0 : FVec F S4x2048x2816 .f32 := (extf .f32 · bitsLt_bf16_f32) main_arg0
  let main_v1 : FVec F S4x2048x2816 .f32 := Host.absf main_v0
  let main_cst : FVec F S_ .f32 := constant S_ .f32 0x7F800000#32
  let main_v2 : FVec F S4x2048x2816 .f32 := broadcastInDim S4x2048x2816 ![] bcast_S_S4x2048x2816 main_cst
  let main_v3 : IVec S4x2048x2816 1 := cmpf .olt main_v1 main_v2
  let main_v4 : FVec F S4x2048x2816 .f32 := (extf .f32 · bitsLt_bf16_f32) main_arg1
  let main_v5 : FVec F S4x2048x2816 .f32 := Host.absf main_v4
  let main_cst_0 : FVec F S_ .f32 := constant S_ .f32 0x7F800000#32
  let main_v6 : FVec F S4x2048x2816 .f32 := broadcastInDim S4x2048x2816 ![] bcast_S_S4x2048x2816 main_cst_0
  let main_v7 : IVec S4x2048x2816 1 := cmpf .olt main_v5 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S2816x1024 .f32 := (extf .f32 · bitsLt_bf16_f32) main_arg3
  let main_v13 : FVec F S2816x1024 .f32 := Host.absf main_v12
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  let main_v16 : FVec F S4x2048x1024 .f32 := Host.absf main_arg4
  let main_cst_3 : FVec F S_ .f32 := constant S_ .f32 0x7F800000#32
  let main_v17 : FVec F S4x2048x1024 .f32 := broadcastInDim S4x2048x1024 ![] bcast_S_S4x2048x1024 main_cst_3
  let main_v18 : IVec S4x2048x1024 1 := cmpf .olt main_v16 main_v17
  fn_part1 (F := F) main_arg5 main_arg6 main_v3 main_v7 main_v11 main_v15 main_v18
-- ==== Pre_finite_hidden.lean ====
abbrev S4x2048x1024 : Shape := ⟨3, ![4, 2048, 1024]⟩
abbrev S4x1x1024 : Shape := ⟨3, ![4, 1, 1024]⟩
abbrev S4x2048x2816 : Shape := ⟨3, ![4, 2048, 2816]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  bcast_S_S4x1x1024 : S_.BroadcastsInDim S4x1x1024 (![] : Fin 0 → Fin S4x1x1024.rank)
  bitsLt_bf16_f32 : FTy.bits .bf16 < FTy.bits .f32
  bcast_S_S4x2048x2816 : S_.BroadcastsInDim S4x2048x2816 (![] : Fin 0 → Fin S4x2048x2816.rank)
  bcast_S_S2816x1024 : S_.BroadcastsInDim S2816x1024 (![] : Fin 0 → Fin S2816x1024.rank)

variable [Facts]

def fn_part1 {F : FTy → Type} [FloatOps F] (main_v2 : IVec S4x2048x1024 1) (main_v5 : IVec S4x1x1024 1) (main_v9 : IVec S4x2048x1024 1) (main_v12 : IVec S4x2048x2816 1) (main_v15 : IVec S4x2048x2816 1) (main_v17 : FVec F S2816x1024 .f32) (main_cst_4 : FVec F S_ .f32) : IVec S4x2048x1024 1 × IVec S4x1x1024 1 × IVec S4x2048x1024 1 × IVec S4x2048x2816 1 × IVec S4x2048x2816 1 × IVec S2816x1024 1 :=
  let main_v18 : FVec F S2816x1024 .f32 := broadcastInDim S2816x1024 ![] bcast_S_S2816x1024 main_cst_4
  let main_v19 : IVec S2816x1024 1 := cmpf .olt main_v17 main_v18
  (main_v2, main_v5, main_v9, main_v12, main_v15, main_v19)

def fn {F : FTy → Type} [FloatOps F] (main_arg0 : FVec F S4x2048x1024 .f32) (main_arg1 : FVec F S4x1x1024 .f32) (main_arg2 : FVec F S4x2048x1024 .bf16) (main_arg3 : FVec F S4x2048x2816 .f32) (main_arg4 : FVec F S4x2048x2816 .f32) (main_arg5 : FVec F S2816x1024 .bf16) : IVec S4x2048x1024 1 × IVec S4x1x1024 1 × IVec S4x2048x1024 1 × IVec S4x2048x2816 1 × IVec S4x2048x2816 1 × IVec S2816x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x1x1024 .f32 := Host.absf main_arg1
  let main_cst_0 : FVec F S_ .f32 := constant S_ .f32 0x7F800000#32
  let main_v4 : FVec F S4x1x1024 .f32 := broadcastInDim S4x1x1024 ![] bcast_S_S4x1x1024 main_cst_0
  let main_v5 : IVec S4x1x1024 1 := cmpf .olt main_v3 main_v4
  let main_v6 : FVec F S4x2048x1024 .f32 := (extf .f32 · bitsLt_bf16_f32) main_arg2
  let main_v7 : FVec F S4x2048x1024 .f32 := Host.absf main_v6
  let main_cst_1 : FVec F S_ .f32 := constant S_ .f32 0x7F800000#32
  let main_v8 : FVec F S4x2048x1024 .f32 := broadcastInDim S4x2048x1024 ![] bcast_S_S4x2048x1024 main_cst_1
  let main_v9 : IVec S4x2048x1024 1 := cmpf .olt main_v7 main_v8
  let main_v10 : FVec F S4x2048x2816 .f32 := Host.absf main_arg3
  let main_cst_2 : FVec F S_ .f32 := constant S_ .f32 0x7F800000#32
  let main_v11 : FVec F S4x2048x2816 .f32 := broadcastInDim S4x2048x2816 ![] bcast_S_S4x2048x2816 main_cst_2
  let main_v12 : IVec S4x2048x2816 1 := cmpf .olt main_v10 main_v11
  let main_v13 : FVec F S4x2048x2816 .f32 := Host.absf main_arg4
  let main_cst_3 : FVec F S_ .f32 := constant S_ .f32 0x7F800000#32
  let main_v14 : FVec F S4x2048x2816 .f32 := broadcastInDim S4x2048x2816 ![] bcast_S_S4x2048x2816 main_cst_3
  let main_v15 : IVec S4x2048x2816 1 := cmpf .olt main_v13 main_v14
  let main_v16 : FVec F S2816x1024 .f32 := (extf .f32 · bitsLt_bf16_f32) main_arg5
  let main_v17 : FVec F S2816x1024 .f32 := Host.absf main_v16
  let main_cst_4 : FVec F S_ .f32 := constant S_ .f32 0x7F800000#32
  fn_part1 (F := F) main_v2 main_v5 main_v9 main_v12 main_v15 main_v17 main_cst_4
-- ==== Pre_finite_mix.lean ====
abbrev S4x2048x3072 : Shape := ⟨3, ![4, 2048, 3072]⟩
abbrev S4x2048x512 : Shape := ⟨3, ![4, 2048, 512]⟩
abbrev S4x2048x2048 : Shape := ⟨3, ![4, 2048, 2048]⟩
abbrev S1024x5632 : Shape := ⟨2, ![1024, 5632]⟩
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩

class Facts : Prop where
  bitsLt_bf16_f32 : FTy.bits .bf16 < FTy.bits .f32
  bcast_S_S4x2048x3072 : S_.BroadcastsInDim S4x2048x3072 (![] : Fin 0 → Fin S4x2048x3072.rank)
  bcast_S_S4x2048x512 : S_.BroadcastsInDim S4x2048x512 (![] : Fin 0 → Fin S4x2048x512.rank)
  bcast_S_S4x2048x2048 : S_.BroadcastsInDim S4x2048x2048 (![] : Fin 0 → Fin S4x2048x2048.rank)
  bcast_S_S1024x5632 : S_.BroadcastsInDim S1024x5632 (![] : Fin 0 → Fin S1024x5632.rank)
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S4x1x1024 : S_.BroadcastsInDim S4x1x1024 (![] : Fin 0 → Fin S4x1x1024.rank)

variable [Facts]

def fn_part1 {F : FTy → Type} [FloatOps F] (main_arg5 : FVec F S1x1024 .f32) (main_arg6 : FVec F S4x1x1024 .f32) (main_v3 : IVec S4x2048x3072 1) (main_v7 : IVec S4x2048x512 1) (main_v11 : IVec S4x2048x2048 1) (main_v15 : IVec S1024x5632 1) (main_v18 : IVec S4x2048x1024 1) : IVec S4x2048x3072 1 × IVec S4x2048x512 1 × IVec S4x2048x2048 1 × IVec S1024x5632 1 × IVec S4x2048x1024 1 × IVec S1x1024 1 × IVec S4x1x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S4x1x1024 .f32 := Host.absf main_arg6
  let main_cst_5 : FVec F S_ .f32 := constant S_ .f32 0x7F800000#32
  let main_v23 : FVec F S4x1x1024 .f32 := broadcastInDim S4x1x1024 ![] bcast_S_S4x1x1024 main_cst_5
  let main_v24 : IVec S4x1x1024 1 := cmpf .olt main_v22 main_v23
  (main_v3, main_v7, main_v11, main_v15, main_v18, main_v21, main_v24)

def fn {F : FTy → Type} [FloatOps F] (main_arg0 : FVec F S4x2048x3072 .bf16) (main_arg1 : FVec F S4x2048x512 .bf16) (main_arg2 : FVec F S4x2048x2048 .bf16) (main_arg3 : FVec F S1024x5632 .bf16) (main_arg4 : FVec F S4x2048x1024 .f32) (main_arg5 : FVec F S1x1024 .f32) (main_arg6 : FVec F S4x1x1024 .f32) (main_arg7 : FVec F S4x2048x1024 .f32) : IVec S4x2048x3072 1 × IVec S4x2048x512 1 × IVec S4x2048x2048 1 × IVec S1024x5632 1 × IVec S4x2048x1024 1 × IVec S1x1024 1 × IVec S4x1x1024 1 :=
  let main_v0 : FVec F S4x2048x3072 .f32 := (extf .f32 · bitsLt_bf16_f32) main_arg0
  let main_v1 : FVec F S4x2048x3072 .f32 := Host.absf main_v0
  let main_cst : FVec F S_ .f32 := constant S_ .f32 0x7F800000#32
  let main_v2 : FVec F S4x2048x3072 .f32 := broadcastInDim S4x2048x3072 ![] bcast_S_S4x2048x3072 main_cst
  let main_v3 : IVec S4x2048x3072 1 := cmpf .olt main_v1 main_v2
  let main_v4 : FVec F S4x2048x512 .f32 := (extf .f32 · bitsLt_bf16_f32) main_arg1
  let main_v5 : FVec F S4x2048x512 .f32 := Host.absf main_v4
  let main_cst_0 : FVec F S_ .f32 := constant S_ .f32 0x7F800000#32
  let main_v6 : FVec F S4x2048x512 .f32 := broadcastInDim S4x2048x512 ![] bcast_S_S4x2048x512 main_cst_0
  let main_v7 : IVec S4x2048x512 1 := cmpf .olt main_v5 main_v6
  let main_v8 : FVec F S4x2048x2048 .f32 := (extf .f32 · bitsLt_bf16_f32) main_arg2
  let main_v9 : FVec F S4x2048x2048 .f32 := Host.absf main_v8
  let main_cst_1 : FVec F S_ .f32 := constant S_ .f32 0x7F800000#32
  let main_v10 : FVec F S4x2048x2048 .f32 := broadcastInDim S4x2048x2048 ![] bcast_S_S4x2048x2048 main_cst_1
  let main_v11 : IVec S4x2048x2048 1 := cmpf .olt main_v9 main_v10
  let main_v12 : FVec F S1024x5632 .f32 := (extf .f32 · bitsLt_bf16_f32) main_arg3
  let main_v13 : FVec F S1024x5632 .f32 := Host.absf main_v12
  let main_cst_2 : FVec F S_ .f32 := constant S_ .f32 0x7F800000#32
  let main_v14 : FVec F S1024x5632 .f32 := broadcastInDim S1024x5632 ![] bcast_S_S1024x5632 main_cst_2
  let main_v15 : IVec S1024x5632 1 := cmpf .olt main_v13 main_v14
  let main_v16 : FVec F S4x2048x1024 .f32 := Host.absf main_arg4
  let main_cst_3 : FVec F S_ .f32 := constant S_ .f32 0x7F800000#32
  let main_v17 : FVec F S4x2048x1024 .f32 := broadcastInDim S4x2048x1024 ![] bcast_S_S4x2048x1024 main_cst_3
  let main_v18 : IVec S4x2048x1024 1 := cmpf .olt main_v16 main_v17
  fn_part1 (F := F) main_arg5 main_arg6 main_v3 main_v7 main_v11 main_v15 main_v18
-- ==== Pre_finite_up.lean ====
abbrev S4x2048x1024 : Shape := ⟨3, ![4, 2048, 1024]⟩
abbrev S2816x1024 : Shape := ⟨2, ![2816, 1024]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  bcast_S_S2816x1024 : S_.BroadcastsInDim S2816x1024 (![] : Fin 0 → Fin S2816x1024.rank)

variable [Facts]

def fn {F : FTy → Type} [FloatOps F] (main_arg0 : FVec F S4x2048x1024 .bf16) (main_arg1 : FVec F S2816x1024 .bf16) (main_arg2 : FVec F S2816x1024 .bf16) : IVec S4x2048x1024 1 × IVec S2816x1024 1 × IVec S2816x1024 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  (main_v3, main_v7, main_v11)
-- ==== Kernel.lean ====
abbrev S4x2048x1024 : Shape := ⟨3, ![4, 2048, 1024]⟩
abbrev S4x2048x3072 : Shape := ⟨3, ![4, 2048, 3072]⟩
abbrev S3x1024 : Shape := ⟨2, ![3, 1024]⟩
abbrev S1024x1024 : Shape := ⟨2, ![1024, 1024]⟩
abbrev S_ : Shape := ⟨0, ![]⟩
abbrev S8x1024 : Shape := ⟨2, ![8, 1024]⟩
abbrev S1x512x1024 : Shape := ⟨3, ![1, 512, 1024]⟩
abbrev S1x16x1024 : Shape := ⟨3, ![1, 16, 1024]⟩
abbrev S1x512x3072 : Shape := ⟨3, ![1, 512, 3072]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩
abbrev S528x1 : Shape := ⟨2, ![528, 1]⟩
abbrev S1024 : Shape := ⟨1, ![1024]⟩
abbrev S5x1024 : Shape := ⟨2, ![5, 1024]⟩

abbrev nBuf : Space → Nat
  | .hbm => 9
  | .vmem => 21
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x3072, .bf16⟩
  | .hbm, ⟨2, _⟩ => ⟨S3x1024, .f32⟩
  | .hbm, ⟨3, _⟩ => ⟨S1024x1024, .bf16⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S4x2048x3072, .bf16⟩
  | .hbm, ⟨8, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x16x1024, .bf16⟩
  | .local _ .vmem, ⟨8, _⟩ => ⟨S1x16x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x16x1024, .bf16⟩
  | .local _ .vmem, ⟨14, _⟩ => ⟨S1x16x1024, .bf16⟩
  | .local _ .vmem, ⟨15, _⟩ => ⟨S1x16x1024, .bf16⟩
  | .local _ .vmem, ⟨16, _⟩ => ⟨S1x16x1024, .bf16⟩
  | .local _ .vmem, ⟨17, _⟩ => ⟨S8x1024, .f32⟩
  | .local _ .vmem, ⟨18, _⟩ => ⟨S1x512x3072, .bf16⟩
  | .local _ .vmem, ⟨19, _⟩ => ⟨S1x512x3072, .bf16⟩
  | .local _ .vmem, ⟨20, _⟩ => ⟨S8x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_40 : BitVec 32 := 0#32
  let v102 : BitVec 1 := Scalar.cmpi .eq arg1 c0_i32_40
  let arg0 : BitVec 32 := BitVec.ofNat 32 (i 0).val
  let c0_i32_41 : BitVec 32 := 0#32
  let v103 : BitVec 1 := Scalar.cmpi .eq arg0 c0_i32_41
  let v104 : BitVec 1 := Scalar.andi v102 v103
  let v105 : BitVec 32 := Scalar.extui v104
  let c0_i32_42 : BitVec 32 := 0#32
  let v106 : BitVec 1 := Scalar.cmpi .ne v105 c0_i32_42
  v106

def k0_cond2 (i : grid0.Coords) : BitVec 1 :=
  let arg1 : BitVec 32 := BitVec.ofNat 32 (i 1).val
  let c0_i32_43 : BitVec 32 := 0#32
  let v107 : BitVec 1 := Scalar.cmpi .sgt arg1 c0_i32_43
  let arg0 : BitVec 32 := BitVec.ofNat 32 (i 0).val
  let c0_i32_44 : BitVec 32 := 0#32
  let v108 : BitVec 1 := Scalar.cmpi .sgt arg0 c0_i32_44
  let v109 : BitVec 1 := Scalar.ori v107 v108
  let v110 : BitVec 32 := Scalar.extui v109
  let c0_i32_45 : BitVec 32 := 0#32
  let v111 : BitVec 1 := Scalar.cmpi .ne v110 c0_i32_45
  v111

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S4x2048x1024 : Shape := ⟨3, ![4, 2048, 1024]⟩
abbrev S4x2048x3072 : Shape := ⟨3, ![4, 2048, 3072]⟩
abbrev S3x1024 : Shape := ⟨2, ![3, 1024]⟩
abbrev S1024x1024 : Shape := ⟨2, ![1024, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x3072, .bf16⟩
  | .hbm, ⟨2, _⟩ => ⟨S3x1024, .f32⟩
  | .hbm, ⟨3, _⟩ => ⟨S1024x1024, .bf16⟩
  | .hbm, ⟨4, _⟩ => ⟨S1024x1024, .f32⟩
  | .hbm, ⟨5, _⟩ => ⟨S4x2048x3072, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2x1024, .f32⟩
  | .hbm, ⟨11, _⟩ => ⟨S4x2048x1024, .f32⟩
  | .hbm, ⟨12, _⟩ => ⟨S4x2050x1024, .f32⟩
  | .hbm, ⟨13, _⟩ => ⟨S_, .f32⟩
  | .hbm, ⟨14, _⟩ => ⟨S4x2x1024, .f32⟩
  | .hbm, ⟨15, _⟩ => ⟨S1x1024, .f32⟩
  | .hbm, ⟨16, _⟩ => ⟨S1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S1x1024, .f32⟩
  | .hbm, ⟨22, _⟩ => ⟨S1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1024, .f32⟩
  | .hbm, ⟨29, _⟩ => ⟨S1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S4x2050x1024, .f32⟩
  | .hbm, ⟨51, _⟩ => ⟨S1x1024, .f32⟩
  | .hbm, ⟨52, _⟩ => ⟨S_, .f32⟩
  | .hbm, ⟨53, _⟩ => ⟨S3x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S4x2050x1024, .f32⟩
  | .hbm, ⟨64, _⟩ => ⟨S4x2050x1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S4x2050x1024, .f32⟩
  | .hbm, ⟨79, _⟩ => ⟨S4x2050x1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S4x2x1024, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2048x3072, .f32⟩
  | .hbm, ⟨89, _⟩ => ⟨S4x2048x3072, .bf16⟩
  | .hbm, ⟨90, _⟩ => ⟨S_, .i32⟩
  | .hbm, ⟨91, _⟩ => ⟨S_, .f32⟩
  | .hbm, ⟨92, _⟩ => ⟨S8x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_call0_v0 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Weight.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WeightTRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Norm.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1x1024 : Shape := ⟨2, ![1, 1024]⟩
abbrev S4x1x1024 : Shape := ⟨3, ![4, 1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S_ : Shape := ⟨0, ![]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x2816, .bf16⟩
  | .hbm, ⟨2, _⟩ => ⟨S2816x1024, .bf16⟩
  | .hbm, ⟨3, _⟩ => ⟨S2816x1024, .bf16⟩
  | .hbm, ⟨4, _⟩ => ⟨S4x2048x1024, .f32⟩
  | .hbm, ⟨5, _⟩ => ⟨S1x1024, .f32⟩
  | .hbm, ⟨6, _⟩ => ⟨S4x1x1024, .f32⟩
  | .hbm, ⟨7, _⟩ => ⟨S4x2048x1024, .f32⟩
  | .hbm, ⟨8, _⟩ => ⟨S4x2048x1024, .f32⟩
  | .hbm, ⟨9, _⟩ => ⟨S4x1x1024, .f32⟩
  | .hbm, ⟨10, _⟩ => ⟨S4x1x1024, .f32⟩
  | .hbm, ⟨11, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S2816x1024, .bf16⟩
  | .local _ .vmem, ⟨19, _⟩ => ⟨S2816x1024, .bf16⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_35 : BitVec 32 := 0#32
  let v61 : BitVec 1 := Scalar.cmpi .eq arg1 c0_i32_35
  let v62 : BitVec 32 := Scalar.extui v61
  let c0_i32_36 : BitVec 32 := 0#32
  let v63 : BitVec 1 := Scalar.cmpi .ne v62 c0_i32_36
  v63

def k0_cond3 (i : grid0.Coords) : BitVec 1 :=
  let arg1 : BitVec 32 := BitVec.ofNat 32 (i 1).val
  let c0_i32_37 : BitVec 32 := 0#32
  let v64 : BitVec 1 := Scalar.cmpi .sgt arg1 c0_i32_37
  let v65 : BitVec 32 := Scalar.extui v64
  let c0_i32_38 : BitVec 32 := 0#32
  let v66 : BitVec 1 := Scalar.cmpi .ne v65 c0_i32_38
  v66

def k0_cond4 (i : grid0.Coords) : BitVec 1 :=
  let arg1 : BitVec 32 := BitVec.ofNat 32 (i 1).val
  let c0_i32_39 : BitVec 32 := 0#32
  let v67 : BitVec 1 := Scalar.cmpi .eq arg1 c0_i32_39
  let arg0 : BitVec 32 := BitVec.ofNat 32 (i 0).val
  let c0_i32_40 : BitVec 32 := 0#32
  let v68 : BitVec 1 := Scalar.cmpi .eq arg0 c0_i32_40
  let v69 : BitVec 1 := Scalar.andi v67 v68
  let v70 : BitVec 32 := Scalar.extui v69
  let c0_i32_41 : BitVec 32 := 0#32
  let v71 : BitVec 1 := Scalar.cmpi .ne v70 c0_i32_41
  v71

def k0_cond5 (i : grid0.Coords) : BitVec 1 :=
  let arg1 : BitVec 32 := BitVec.ofNat 32 (i 1).val
  let c0_i32_42 : BitVec 32 := 0#32
  let v72 : BitVec 1 := Scalar.cmpi .sgt arg1 c0_i32_42
  let arg0 : BitVec 32 := BitVec.ofNat 32 (i 0).val
  let c0_i32_43 : BitVec 32 := 0#32
  let v73 : BitVec 1 := Scalar.cmpi .sgt arg0 c0_i32_43
  let v74 : BitVec 1 := Scalar.ori v72 v73
  let v75 : BitVec 32 := Scalar.extui v74
  let c0_i32_44 : BitVec 32 := 0#32
  let v76 : BitVec 1 := Scalar.cmpi .ne v75 c0_i32_44
  v76

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== NormRefIdeal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S4x1024 : Shape := ⟨2, ![4, 1024]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x2816, .bf16⟩
  | .hbm, ⟨2, _⟩ => ⟨S2816x1024, .bf16⟩
  | .hbm, ⟨3, _⟩ => ⟨S2816x1024, .bf16⟩
  | .hbm, ⟨4, _⟩ => ⟨S4x2048x1024, .f32⟩
  | .hbm, ⟨5, _⟩ => ⟨S1x1024, .f32⟩
  | .hbm, ⟨6, _⟩ => ⟨S4x1x1024, .f32⟩
  | .hbm, ⟨7, _⟩ => ⟨S4x2048x1024, .f32⟩
  | .hbm, ⟨8, _⟩ => ⟨S2816x1024, .f32⟩
  | .hbm, ⟨9, _⟩ => ⟨S2816x1024, .f32⟩
  | .hbm, ⟨10, _⟩ => ⟨S_, .f32⟩
  | .hbm, ⟨11, _⟩ => ⟨S4x1x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S1024x2816, .f32⟩
  | .hbm, ⟨40, _⟩ => ⟨S4x2048x2816, .f32⟩
  | .hbm, ⟨41, _⟩ => ⟨S1024x2816, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x1024, .f32⟩
  | .hbm, ⟨50, _⟩ => ⟨S4x1x1024, .f32⟩
  | .hbm, ⟨51, _⟩ => ⟨S4x2048x1024, .f32⟩
  | .hbm, ⟨52, _⟩ => ⟨S_, .f32⟩
  | .hbm, ⟨53, _⟩ => ⟨S4x1024, .f32⟩
  | .hbm, ⟨54, _⟩ => ⟨S4x1x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4x2048x1024, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S4x2048x1024, .f32⟩
  | .hbm, ⟨71, _⟩ => ⟨S4x2048x1024, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S_, .f32⟩
  | .hbm, ⟨77, _⟩ => ⟨S4x2048, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Up.lean ====
abbrev S4x2048x1024 : Shape := ⟨3, ![4, 2048, 1024]⟩
abbrev S2816x1024 : Shape := ⟨2, ![2816, 1024]⟩
abbrev S4x2048x2816 : Shape := ⟨3, ![4, 2048, 2816]⟩
abbrev S1x512x1024 : Shape := ⟨3, ![1, 512, 1024]⟩
abbrev S1408x1024 : Shape := ⟨2, ![1408, 1024]⟩
abbrev S1x512x1408 : Shape := ⟨3, ![1, 512, 1408]⟩
abbrev S512x1024 : Shape := ⟨2, ![512, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x1024, .bf16⟩
  | .hbm, ⟨1, _⟩ => ⟨S2816x1024, .bf16⟩
  | .hbm, ⟨2, _⟩ => ⟨S2816x1024, .bf16⟩
  | .hbm, ⟨3, _⟩ => ⟨S4x2048x2816, .bf16⟩
  | .hbm, ⟨4, _⟩ => ⟨S4x2048x2816, .bf16⟩
  | .hbm, ⟨5, _⟩ => ⟨S4x2048x2816, .bf16⟩
  | .local _ .vmem, ⟨0, _⟩ => ⟨S1x512x1024, .bf16⟩
  | .local _ .vmem, ⟨1, _⟩ => ⟨S1x512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== UpRefIdeal.lean ====
abbrev S4x2048x1024 : Shape := ⟨3, ![4, 2048, 1024]⟩
abbrev S2816x1024 : Shape := ⟨2, ![2816, 1024]⟩
abbrev S1024x2816 : Shape := ⟨2, ![1024, 2816]⟩
abbrev S4x2048x2816 : Shape := ⟨3, ![4, 2048, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S2816x1024, .bf16⟩
  | .hbm, ⟨2, _⟩ => ⟨S2816x1024, .bf16⟩
  | .hbm, ⟨3, _⟩ => ⟨S4x2048x1024, .f32⟩
  | .hbm, ⟨4, _⟩ => ⟨S2816x1024, .f32⟩
  | .hbm, ⟨5, _⟩ => ⟨S1024x2816, .f32⟩
  | .hbm, ⟨6, _⟩ => ⟨S4x2048x2816, .f32⟩
  | .hbm, ⟨7, _⟩ => ⟨S4x2048x1024, .f32⟩
  | .hbm, ⟨8, _⟩ => ⟨S2816x1024, .f32⟩
  | .hbm, ⟨9, _⟩ => ⟨S1024x2816, .f32⟩
  | .hbm, ⟨10, _⟩ => ⟨S4x2048x2816, .f32⟩
  | .hbm, ⟨11, _⟩ => ⟨S4x2048x2816, .f32⟩
  | .hbm, ⟨12, _⟩ => ⟨S4x2048x2816, .f32⟩
  | .hbm, ⟨13, _⟩ => ⟨S_, .f32⟩
  | .hbm, ⟨14, _⟩ => ⟨S4x2048x2816, .f32⟩
  | .hbm, ⟨15, _⟩ => ⟨S4x2048x2816, .f32⟩
  | .hbm, ⟨16, _⟩ => ⟨S_, .f32⟩
  | .hbm, ⟨17, _⟩ => ⟨S4x2048x2816, .f32⟩
  | .hbm, ⟨18, _⟩ => ⟨S4x2048x2816, .f32⟩
  | .hbm, ⟨19, _⟩ => ⟨S_, .f32⟩
  | .hbm, ⟨20, _⟩ => ⟨S4x2048x2816, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S_, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S4x2048x2816, .bf16⟩
  | .hbm, ⟨34, _⟩ => ⟨S4x2048x2816, .bf16⟩
  | .hbm, ⟨35, _⟩ => ⟨S4x2048x2816, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Down.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S4x1x1024 : Shape := ⟨3, ![4, 1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S512x2816 : Shape := ⟨2, ![512, 2816]⟩
abbrev S512x1024 : Shape := ⟨2, ![512, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .bf16⟩
  | .hbm, ⟨2, _⟩ => ⟨S4x2048x1024, .f32⟩
  | .hbm, ⟨3, _⟩ => ⟨S4x1x1024, .f32⟩
  | .hbm, ⟨4, _⟩ => ⟨S4x2048x1024, .bf16⟩
  | .hbm, ⟨5, _⟩ => ⟨S4x2048x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S4x1x1024 : Shape := ⟨3, ![4, 1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .bf16⟩
  | .hbm, ⟨2, _⟩ => ⟨S4x2048x1024, .f32⟩
  | .hbm, ⟨3, _⟩ => ⟨S4x1x1024, .f32⟩
  | .hbm, ⟨4, _⟩ => ⟨S4x2048x2816, .f32⟩
  | .hbm, ⟨5, _⟩ => ⟨S2816x1024, .f32⟩
  | .hbm, ⟨6, _⟩ => ⟨S4x2048x1024, .f32⟩
  | .hbm, ⟨7, _⟩ => ⟨S4x2048x1024, .bf16⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Hidden.lean ====
abbrev S4x2048x1024 : Shape := ⟨3, ![4, 2048, 1024]⟩
abbrev S4x1x1024 : Shape := ⟨3, ![4, 1, 1024]⟩
abbrev S4x2048x2816 : Shape := ⟨3, ![4, 2048, 2816]⟩
abbrev S2816x1024 : Shape := ⟨2, ![2816, 1024]⟩
abbrev S_ : Shape := ⟨0, ![]⟩
abbrev S1x512x1024 : Shape := ⟨3, ![1, 512, 1024]⟩
abbrev S1x1x1024 : Shape := ⟨3, ![1, 1, 1024]⟩
abbrev S1x512x1408 : Shape := ⟨3, ![1, 512, 1408]⟩
abbrev S512x1024 : Shape := ⟨2, ![512, 1024]⟩
abbrev S1x1024 : Shape := ⟨2, ![1, 1024]⟩
abbrev S1024 : Shape := ⟨1, ![1024]⟩
abbrev S1408x1024 : Shape := ⟨2, ![1408, 1024]⟩
abbrev S512x1408 : Shape := ⟨2, ![512, 1408]⟩

abbrev nBuf : Space → Nat
  | .hbm => 34
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x1x1024, .f32⟩
  | .hbm, ⟨2, _⟩ => ⟨S4x2048x1024, .bf16⟩
  | .hbm, ⟨3, _⟩ => ⟨S4x2048x2816, .f32⟩
  | .hbm, ⟨4, _⟩ => ⟨S4x2048x2816, .f32⟩
  | .hbm, ⟨5, _⟩ => ⟨S2816x1024, .bf16⟩
  | .hbm, ⟨6, _⟩ => ⟨S4x2048x2816, .f32⟩
  | .hbm, ⟨7, _⟩ => ⟨S4x2048x2816, .f32⟩
  | .hbm, ⟨8, _⟩ => ⟨S_, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S_, .f32⟩
  | .hbm, ⟨15, _⟩ => ⟨S4x2048x2816, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S4x2048x2816, .f32⟩
  | .hbm, ⟨20, _⟩ => ⟨S_, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S4x2048x2816, .f32⟩
  | .hbm, ⟨27, _⟩ => ⟨S4x2048x2816, .f32⟩
  | .hbm, ⟨28, _⟩ => ⟨S4x2048x2816, .bf16⟩
  | .hbm, ⟨29, _⟩ => ⟨S4x2048x2816, .bf16⟩
  | .hbm, ⟨30, _⟩ => ⟨S4x2048x1024, .bf16⟩
  | .hbm, ⟨31, _⟩ => ⟨S4x2048x2816, .bf16⟩
  | .hbm, ⟨32, _⟩ => ⟨S4x2048x2816, .bf16⟩
  | .hbm, ⟨33, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S2816x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1408, .bf16⟩
  | .local _ .vmem, ⟨14, _⟩ => ⟨S1x512x1408, .bf16⟩
  | .local _ .vmem, ⟨15, _⟩ => ⟨S1x512x1408, .bf16⟩
  | .local _ .vmem, ⟨16, _⟩ => ⟨S1x512x1408, .bf16⟩
  | .local _ .vmem, ⟨17, _⟩ => ⟨S1x1x1024, .f32⟩
  | .local _ .vmem, ⟨18, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8_0 : Ref sig .tc := ⟨.hbm, 30, rfl⟩
abbrev main_v8_1 : Ref sig .tc := ⟨.hbm, 31, rfl⟩
abbrev main_v8_2 : Ref sig .tc := ⟨.hbm, 32, rfl⟩
abbrev main_v8_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 2], ![false, false, false]⟩

def k0_mult1 (i : grid0.Coords) : BitVec 32 :=
  let arg2 : BitVec 32 := BitVec.ofNat 32 (i 2).val
  let c1408_i32 : BitVec 32 := 1408#32
  let v5 : BitVec 32 := Scalar.muli arg2 c1408_i32
  v5
def k0_off1 (i : grid0.Coords) : Fin 2 → Nat :=
  let arg2 : BitVec 32 := BitVec.ofNat 32 (i 2).val
  let c1408_i32 : BitVec 32 := 1408#32
  let v5 : BitVec 32 := Scalar.muli arg2 c1408_i32
  let v6 : BitVec 32 := v5
  let v7 : Index := Scalar.indexCast v6
  let c0_3 : Index := 0#32
  ![v7.toNat, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_31 : BitVec 32 := 0#32
  let v43 : BitVec 1 := Scalar.cmpi .eq arg1 c0_i32_31
  let v44 : BitVec 32 := Scalar.extui v43
  let c0_i32_32 : BitVec 32 := 0#32
  let v45 : BitVec 1 := Scalar.cmpi .ne v44 c0_i32_32
  v45

def k0_cond3 (i : grid0.Coords) : BitVec 1 :=
  let arg1 : BitVec 32 := BitVec.ofNat 32 (i 1).val
  let c0_i32_33 : BitVec 32 := 0#32
  let v46 : BitVec 1 := Scalar.cmpi .sgt arg1 c0_i32_33
  let v47 : BitVec 32 := Scalar.extui v46
  let c0_i32_34 : BitVec 32 := 0#32
  let v48 : BitVec 1 := Scalar.cmpi .ne v47 c0_i32_34
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== HiddenRefIdeal.lean ====
abbrev S4x2048x1024 : Shape := ⟨3, ![4, 2048, 1024]⟩
abbrev S4x1x1024 : Shape := ⟨3, ![4, 1, 1024]⟩
abbrev S4x2048x2816 : Shape := ⟨3, ![4, 2048, 2816]⟩
abbrev S2816x1024 : Shape := ⟨2, ![2816, 1024]⟩
abbrev S_ : Shape := ⟨0, ![]⟩
abbrev S4x1024 : Shape := ⟨2, ![4, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1x1024, .f32⟩
  | .hbm, ⟨2, _⟩ => ⟨S4x2048x1024, .bf16⟩
  | .hbm, ⟨3, _⟩ => ⟨S4x2048x2816, .f32⟩
  | .hbm, ⟨4, _⟩ => ⟨S4x2048x2816, .f32⟩
  | .hbm, ⟨5, _⟩ => ⟨S2816x1024, .bf16⟩
  | .hbm, ⟨6, _⟩ => ⟨S4x2048x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x1024, .f32⟩
  | .hbm, ⟨17, _⟩ => ⟨S4x1x1024, .f32⟩
  | .hbm, ⟨18, _⟩ => ⟨S_, .f32⟩
  | .hbm, ⟨19, _⟩ => ⟨S4x1x1024, .f32⟩
  | .hbm, ⟨20, _⟩ => ⟨S4x1x1024, .f32⟩
  | .hbm, ⟨21, _⟩ => ⟨S4x2048x2816, .f32⟩
  | .hbm, ⟨22, _⟩ => ⟨S4x2048x2816, .f32⟩
  | .hbm, ⟨23, _⟩ => ⟨S_, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S_, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S2816x1024, .f32⟩
  | .hbm, ⟨36, _⟩ => ⟨S4x2048x1024, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S4x2048x2816, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x1024, .bf16⟩
  | .hbm, ⟨45, _⟩ => ⟨S4x2048x2816, .bf16⟩
  | .hbm, ⟨46, _⟩ => ⟨S4x2048x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_v12_2 : Ref sig .tc := ⟨.hbm, 28, rfl⟩
abbrev main_call0_cst_1 : Ref sig .tc := ⟨.hbm, 29, rfl⟩
abbrev main_call0_v6 : Ref sig .tc := ⟨.hbm, 30, rfl⟩
abbrev main_call0_v7 : Ref sig .tc := ⟨.hbm, 31, rfl⟩
abbrev main_v12_1 : Ref sig .tc := ⟨.hbm, 32, rfl⟩
abbrev main_v12_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩

abbrev nD : Nat := 1
abbrev τ : Topo := Topo.v7x

variable {F : FTy → Type} [FloatOps F]
-- ==== Mix.lean ====
abbrev S4x2048x3072 : Shape := ⟨3, ![4, 2048, 3072]⟩
abbrev S4x2048x512 : Shape := ⟨3, ![4, 2048, 512]⟩
abbrev S4x2048x2048 : Shape := ⟨3, ![4, 2048, 2048]⟩
abbrev S1024x5632 : Shape := ⟨2, ![1024, 5632]⟩
abbrev S4x2048x1024 : Shape := ⟨3, ![4, 2048, 1024]⟩
abbrev S1x1024 : Shape := ⟨2, ![1, 1024]⟩
abbrev S4x1x1024 : Shape := ⟨3, ![4, 1, 1024]⟩
abbrev S1024x3072 : Shape := ⟨2, ![1024, 3072]⟩
abbrev S1024x512 : Shape := ⟨2, ![1024, 512]⟩
abbrev S1024x2048 : Shape := ⟨2, ![1024, 2048]⟩
abbrev S1x512x3072 : Shape := ⟨3, ![1, 512, 3072]⟩
abbrev S1x512x512 : Shape := ⟨3, ![1, 512, 512]⟩
abbrev S1x512x2048 : Shape := ⟨3, ![1, 512, 2048]⟩
abbrev S1x512x1024 : Shape := ⟨3, ![1, 512, 1024]⟩
abbrev S1x1x1024 : Shape := ⟨3, ![1, 1, 1024]⟩
abbrev S_ : Shape := ⟨0, ![]⟩
abbrev S512x3072 : Shape := ⟨2, ![512, 3072]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x512, .bf16⟩
  | .hbm, ⟨2, _⟩ => ⟨S4x2048x2048, .bf16⟩
  | .hbm, ⟨3, _⟩ => ⟨S1024x5632, .bf16⟩
  | .hbm, ⟨4, _⟩ => ⟨S4x2048x1024, .f32⟩
  | .hbm, ⟨5, _⟩ => ⟨S1x1024, .f32⟩
  | .hbm, ⟨6, _⟩ => ⟨S4x1x1024, .f32⟩
  | .hbm, ⟨7, _⟩ => ⟨S4x2048x1024, .f32⟩
  | .hbm, ⟨8, _⟩ => ⟨S1024x3072, .bf16⟩
  | .hbm, ⟨9, _⟩ => ⟨S1024x512, .bf16⟩
  | .hbm, ⟨10, _⟩ => ⟨S1024x2048, .bf16⟩
  | .hbm, ⟨11, _⟩ => ⟨S4x2048x1024, .f32⟩
  | .hbm, ⟨12, _⟩ => ⟨S4x1x1024, .f32⟩
  | .hbm, ⟨13, _⟩ => ⟨S4x1x1024, .f32⟩
  | .hbm, ⟨14, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1024x3072, .bf16⟩
  | .local _ .vmem, ⟨21, _⟩ => ⟨S1024x512, .bf16⟩
  | .local _ .vmem, ⟨22, _⟩ => ⟨S1024x2048, .bf16⟩
  | _, _ => ⟨S4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_41 : BitVec 32 := 0#32
  let v66 : BitVec 1 := Scalar.cmpi .eq arg1 c0_i32_41
  let v67 : BitVec 32 := Scalar.extui v66
  let c0_i32_42 : BitVec 32 := 0#32
  let v68 : BitVec 1 := Scalar.cmpi .ne v67 c0_i32_42
  v68

def k0_cond3 (i : grid0.Coords) : BitVec 1 :=
  let arg1 : BitVec 32 := BitVec.ofNat 32 (i 1).val
  let c0_i32_43 : BitVec 32 := 0#32
  let v69 : BitVec 1 := Scalar.cmpi .sgt arg1 c0_i32_43
  let v70 : BitVec 32 := Scalar.extui v69
  let c0_i32_44 : BitVec 32 := 0#32
  let v71 : BitVec 1 := Scalar.cmpi .ne v70 c0_i32_44
  v71

def k0_cond4 (i : grid0.Coords) : BitVec 1 :=
  let arg1 : BitVec 32 := BitVec.ofNat 32 (i 1).val
  let c0_i32_45 : BitVec 32 := 0#32
  let v72 : BitVec 1 := Scalar.cmpi .eq arg1 c0_i32_45
  let arg0 : BitVec 32 := BitVec.ofNat 32 (i 0).val
  let c0_i32_46 : BitVec 32 := 0#32
  let v73 : BitVec 1 := Scalar.cmpi .eq arg0 c0_i32_46
  let v74 : BitVec 1 := Scalar.andi v72 v73
  let v75 : BitVec 32 := Scalar.extui v74
  let c0_i32_47 : BitVec 32 := 0#32
  let v76 : BitVec 1 := Scalar.cmpi .ne v75 c0_i32_47
  v76

def k0_cond5 (i : grid0.Coords) : BitVec 1 :=
  let arg1 : BitVec 32 := BitVec.ofNat 32 (i 1).val
  let c0_i32_48 : BitVec 32 := 0#32
  let v77 : BitVec 1 := Scalar.cmpi .sgt arg1 c0_i32_48
  let arg0 : BitVec 32 := BitVec.ofNat 32 (i 0).val
  let c0_i32_49 : BitVec 32 := 0#32
  let v78 : BitVec 1 := Scalar.cmpi .sgt arg0 c0_i32_49
  let v79 : BitVec 1 := Scalar.ori v77 v78
  let v80 : BitVec 32 := Scalar.extui v79
  let c0_i32_50 : BitVec 32 := 0#32
  let v81 : BitVec 1 := Scalar.cmpi .ne v80 c0_i32_50
  v81

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== MixRefIdeal.lean ====
abbrev S4x2048x3072 : Shape := ⟨3, ![4, 2048, 3072]⟩
abbrev S4x2048x512 : Shape := ⟨3, ![4, 2048, 512]⟩
abbrev S4x2048x2048 : Shape := ⟨3, ![4, 2048, 2048]⟩
abbrev S1024x5632 : Shape := ⟨2, ![1024, 5632]⟩
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x1024 : Shape := ⟨2, ![4, 1024]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x512, .bf16⟩
  | .hbm, ⟨2, _⟩ => ⟨S4x2048x2048, .bf16⟩
  | .hbm, ⟨3, _⟩ => ⟨S1024x5632, .bf16⟩
  | .hbm, ⟨4, _⟩ => ⟨S4x2048x1024, .f32⟩
  | .hbm, ⟨5, _⟩ => ⟨S1x1024, .f32⟩
  | .hbm, ⟨6, _⟩ => ⟨S4x1x1024, .f32⟩
  | .hbm, ⟨7, _⟩ => ⟨S4x2048x1024, .f32⟩
  | .hbm, ⟨8, _⟩ => ⟨S1024x5632, .f32⟩
  | .hbm, ⟨9, _⟩ => ⟨S_, .f32⟩
  | .hbm, ⟨10, _⟩ => ⟨S4x1x1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x5632, .f32⟩
  | .hbm, ⟨39, _⟩ => ⟨S4x2048x3072, .f32⟩
  | .hbm, ⟨40, _⟩ => ⟨S4x2048x512, .f32⟩
  | .hbm, ⟨41, _⟩ => ⟨S4x2048x2048, .f32⟩
  | .hbm, ⟨42, _⟩ => ⟨S4x2048x3072, .f32⟩
  | .hbm, ⟨43, _⟩ => ⟨S4x2048x512, .f32⟩
  | .hbm, ⟨44, _⟩ => ⟨S4x2048x2048, .f32⟩
  | .hbm, ⟨45, _⟩ => ⟨S4x2048x5632, .f32⟩
  | .hbm, ⟨46, _⟩ => ⟨S4x2048x1024, .f32⟩
  | .hbm, ⟨47, _⟩ => ⟨S_, .f32⟩
  | .hbm, ⟨48, _⟩ => ⟨S4x1024, .f32⟩
  | .hbm, ⟨49, _⟩ => ⟨S4x1x1024, .f32⟩
  | .hbm, ⟨50, _⟩ => ⟨S4x2048x1024, .f32⟩
  | .hbm, ⟨51, _⟩ => ⟨S_, .f32⟩
  | .hbm, ⟨52, _⟩ => ⟨S4x1024, .f32⟩
  | .hbm, ⟨53, _⟩ => ⟨S4x1x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4x2048x1024, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x1024, .f32⟩
  | .hbm, ⟨70, _⟩ => ⟨S4x2048x1024, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S_, .f32⟩
  | .hbm, ⟨76, _⟩ => ⟨S4x2048, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | _, _ => ⟨S4x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== WeightIn.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightInIdeal.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightInRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WeightScan.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WeightScanIdeal.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WeightScanRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WeightGate.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGateIdeal.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGateRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WeightOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WeightOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjIn.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGate.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjScan.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjScanRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x1024, .f32⟩
  | .hbm, ⟨3, _⟩ => ⟨S1024x512, .f32⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Unmerge.lean ====
abbrev S4x2048x1024 : Shape := ⟨3, ![4, 2048, 1024]⟩
abbrev S4x1x1024 : Shape := ⟨3, ![4, 1, 1024]⟩
abbrev S4x2048x2048 : Shape := ⟨3, ![4, 2048, 2048]⟩
abbrev S1024x1024 : Shape := ⟨2, ![1024, 1024]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S1x1024 : Shape := ⟨2, ![1, 1024]⟩
abbrev S1024 : Shape := ⟨1, ![1024]⟩

abbrev nBuf : Space → Nat
  | .hbm => 12
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x1x1024, .f32⟩
  | .hbm, ⟨2, _⟩ => ⟨S4x2048x1024, .bf16⟩
  | .hbm, ⟨3, _⟩ => ⟨S4x2048x1024, .bf16⟩
  | .hbm, ⟨4, _⟩ => ⟨S4x2048x1024, .bf16⟩
  | .hbm, ⟨5, _⟩ => ⟨S4x2048x2048, .bf16⟩
  | .hbm, ⟨6, _⟩ => ⟨S1024x1024, .bf16⟩
  | .hbm, ⟨7, _⟩ => ⟨S4x2048x1024, .bf16⟩
  | .hbm, ⟨8, _⟩ => ⟨S4x2048x1024, .bf16⟩
  | .hbm, ⟨9, _⟩ => ⟨S4x2048x1024, .bf16⟩
  | .hbm, ⟨10, _⟩ => ⟨S4x2048x2048, .bf16⟩
  | .hbm, ⟨11, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x2048, .bf16⟩
  | .local _ .vmem, ⟨22, _⟩ => ⟨S1x512x2048, .bf16⟩
  | .local _ .vmem, ⟨23, _⟩ => ⟨S1x1x1024, .f32⟩
  | .local _ .vmem, ⟨24, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg1 : BitVec 32 := BitVec.ofNat 32 (i 1).val
  let c0_i32_12 : BitVec 32 := 0#32
  let v19 : BitVec 1 := Scalar.cmpi .sgt arg1 c0_i32_12
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== UnmergeRefIdeal.lean ====
abbrev S4x2048x1024 : Shape := ⟨3, ![4, 2048, 1024]⟩
abbrev S4x1x1024 : Shape := ⟨3, ![4, 1, 1024]⟩
abbrev S4x2048x2048 : Shape := ⟨3, ![4, 2048, 2048]⟩
abbrev S1024x1024 : Shape := ⟨2, ![1024, 1024]⟩
abbrev S_ : Shape := ⟨0, ![]⟩
abbrev S4x1024 : Shape := ⟨2, ![4, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1x1024, .f32⟩
  | .hbm, ⟨2, _⟩ => ⟨S4x2048x1024, .bf16⟩
  | .hbm, ⟨3, _⟩ => ⟨S4x2048x1024, .bf16⟩
  | .hbm, ⟨4, _⟩ => ⟨S4x2048x1024, .bf16⟩
  | .hbm, ⟨5, _⟩ => ⟨S4x2048x2048, .bf16⟩
  | .hbm, ⟨6, _⟩ => ⟨S1024x1024, .bf16⟩
  | .hbm, ⟨7, _⟩ => ⟨S1024x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x1024, .f32⟩
  | .hbm, ⟨16, _⟩ => ⟨S4x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x2048, .f32⟩
  | .hbm, ⟨58, _⟩ => ⟨S4x2048x1024, .bf16⟩
  | .hbm, ⟨59, _⟩ => ⟨S4x2048x1024, .bf16⟩
  | .hbm, ⟨60, _⟩ => ⟨S4x2048x1024, .bf16⟩
  | .hbm, ⟨61, _⟩ => ⟨S4x2048x2048, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Merge.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x2048, .bf16⟩
  | .hbm, ⟨3, _⟩ => ⟨S1024x1024, .bf16⟩
  | .hbm, ⟨4, _⟩ => ⟨S4x2048x1024, .f32⟩
  | .hbm, ⟨5, _⟩ => ⟨S4x1x1024, .f32⟩
  | .hbm, ⟨6, _⟩ => ⟨S4x2048x1024, .bf16⟩
  | .hbm, ⟨7, _⟩ => ⟨S4x2048x1024, .bf16⟩
  | .hbm, ⟨8, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S4x1x1024 : Shape := ⟨3, ![4, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x2048, .bf16⟩
  | .hbm, ⟨3, _⟩ => ⟨S1024x1024, .bf16⟩
  | .hbm, ⟨4, _⟩ => ⟨S4x2048x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x2048, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S1024x1024, .f32⟩
  | .hbm, ⟨31, _⟩ => ⟨S4x2048x1024, .f32⟩
  | .hbm, ⟨32, _⟩ => ⟨S4x2048x1024, .bf16⟩
  | .hbm, ⟨33, _⟩ => ⟨S4x2048x1024, .bf16⟩
  | .hbm, ⟨34, _⟩ => ⟨S4x2048x1024, .f32⟩
  | .hbm, ⟨35, _⟩ => ⟨S4x2048x1024, .f32⟩
  | .hbm, ⟨36, _⟩ => ⟨S4x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.ConvSpec.lean ====
/-
The gradient of the gated short convolution, element by element, over the extended reals.

`p` holds a token's three gates side by side: `gate_b` on lanes 0 … 1023, `gate_c` on 1024 … 2047 and `v` on 2048 … 3071.
The forward pass of the problem is `y = (gate_b * conv) @ w_conv_out`, where `conv` is the causal convolution of
`gate_c * v` along the sequence by three taps.
-/
module

public import proofs.«01_k».proof.Proof.Gen.KernelIdeal
public import Idealize.ShloMosaic.Lib.Pointwise

@[expose] public section

noncomputable section

open Idealize.ShloMosaic Idealize.ShloMosaic.TcCoe Idealize.SL.Sem
open scoped BigOperators

namespace Conv

open Cert.KernelIdeal

/-- The incoming gradient of the product's result, the gates, the taps and the product's weight. -/
abbrev Grad := FVec Ideal S4x2048x1024 .bf16
abbrev Gates := FVec Ideal S4x2048x3072 .bf16
abbrev Taps := FVec Ideal S3x1024 .f32
abbrev Weight := FVec Ideal S1024x1024 .bf16

/-- Gate `k` of a token's three. -/
def gate (p : Gates) (k : Fin 3) (b : Fin 4) (s : Fin 2048) (ch : Fin 1024) : EReal :=
  p (ix3 b s ⟨k.val * 1024 + ch.val, by omega⟩)

/-- The convolution's input: the product of the second and third gates. -/
def cv (p : Gates) (b : Fin 4) (s : Fin 2048) (ch : Fin 1024) : EReal := gate p 1 b s ch * gate p 2 b s ch

/-- The convolution's input with two zero rows before the sequence: row `u` is token `u - 2`. -/
def cvAt (p : Gates) (b : Fin 4) (u : ℕ) (ch : Fin 1024) : EReal :=
  if h : 2 ≤ u ∧ u < 2050 then cv p b ⟨u - 2, by omega⟩ ch else 0

/-- The convolution: each token sees itself and the two tokens before it. -/
def conv (p : Gates) (w : Taps) (b : Fin 4) (s : Fin 2048) (ch : Fin 1024) : EReal :=
  w (ix2 0 ch) * cvAt p b s.val ch + w (ix2 1 ch) * cvAt p b (s.val + 1) ch + w (ix2 2 ch) * cvAt p b (s.val + 2) ch

/-- The gradient of `gate_b * conv`: the incoming gradient times the transposed weight. -/
def dgated (d : Grad) (o : Weight) (b : Fin 4) (s : Fin 2048) (ch : Fin 1024) : EReal :=
  ∑ k : Fin 1024, d (ix3 b s k) * o (ix2 ch k)

/-- The gradient of the convolution's result. -/
def dconv (d : Grad) (p : Gates) (o : Weight) (b : Fin 4) (s : Fin 2048) (ch : Fin 1024) : EReal :=
  dgated d o b s ch * gate p 0 b s ch

/-- The same with zero rows after the sequence. -/
def dconvAt (d : Grad) (p : Gates) (o : Weight) (b : Fin 4) (u : ℕ) (ch : Fin 1024) : EReal :=
  if h : u < 2048 then dconv d p o b ⟨u, h⟩ ch else 0

/-- The gradient of the convolution's input: each token collects from itself and the two tokens after it. -/
def dcv (d : Grad) (p : Gates) (w : Taps) (o : Weight) (b : Fin 4) (s : Fin 2048) (ch : Fin 1024) : EReal :=
  w (ix2 2 ch) * dconvAt d p o b s.val ch + w (ix2 1 ch) * dconvAt d p o b (s.val + 1) ch
    + w (ix2 0 ch) * dconvAt d p o b (s.val + 2) ch

/-- The gradient of the three gates, side by side. -/
def dgates (d : Grad) (p : Gates) (w : Taps) (o : Weight) (b : Fin 4) (s : Fin 2048) (l : Fin 3072) : EReal :=
  if h : l.val < 1024 then dgated d o b s ⟨l.val, h⟩ * conv p w b s ⟨l.val, h⟩
  else if h' : l.val < 2048 then dcv d p w o b s ⟨l.val - 1024, by omega⟩ * gate p 2 b s ⟨l.val - 1024, by omega⟩
  else dcv d p w o b s ⟨l.val - 2048, by omega⟩ * gate p 1 b s ⟨l.val - 2048, by omega⟩

/-- The gradient of the three taps, on rows 0, 1, 2 of eight; the other rows are zero. -/
def dtaps (d : Grad) (p : Gates) (o : Weight) (j : Fin 8) (ch : Fin 1024) : EReal :=
  if j.val < 3 then ∑ b : Fin 4, ∑ s : Fin 2048, dconv d p o b s ch * cvAt p b (s.val + j.val) ch else 0

end Conv

end
-- ==== Proof.ConvBlock.lean ====
/-
One step of the kernel on a block of 512 tokens. The step's values are stated for any blocks that hold the
right parts of the arrays: `Here` says which parts those are for block `i` of sequence `b`.
-/
module

public import proofs.«01_k».proof.Proof.ConvSpec
public import proofs.«01_k».proof.Proof.Gen.KernelIdeal.Skeleton

@[expose] public section

set_option maxRecDepth 16384

noncomputable section

open Idealize.ShloMosaic Idealize.ShloMosaic.TcCoe Idealize.SL.Sem
open scoped BigOperators

namespace Conv.Block

open Cert.KernelIdeal Cert.KernelIdeal.Gen

/-- The blocks a step loads: the incoming gradient's, the sixteen rows after it, the weight, the first gate's and the
    sixteen rows after it, the second and third gates' and the sixteen rows before each, and the taps on eight rows. -/
structure Loads where
  dy : Vec Ideal S1x512x1024 .bf16
  dyNext : Vec Ideal S1x16x1024 .bf16
  wt : Vec Ideal S1024x1024 .bf16
  g0 : Vec Ideal S1x512x1024 .bf16
  g0Next : Vec Ideal S1x16x1024 .bf16
  g1 : Vec Ideal S1x512x1024 .bf16
  g2 : Vec Ideal S1x512x1024 .bf16
  g1Prev : Vec Ideal S1x16x1024 .bf16
  g2Prev : Vec Ideal S1x16x1024 .bf16
  taps : Vec Ideal S8x1024 .f32

/-- The loaded blocks are those of block `i` of sequence `b`. The rows before the first block and after the last are
    not described: the step replaces what it makes of them by zeros. -/
structure Here (d : Grad) (p : Gates) (w : Taps) (o : Weight) (b i : Fin 4) (x : Loads) : Prop where
  dy : ∀ (r : Fin 512) k, x.dy (ix3 0 r k) = d (ix3 b ⟨i.val * 512 + r.val, by omega⟩ k)
  dyNext : ∀ (hi : i.val < 3) (r : Fin 16) k, x.dyNext (ix3 0 r k) = d (ix3 b ⟨i.val * 512 + 512 + r.val, by omega⟩ k)
  wt : ∀ ch k, x.wt (ix2 ch k) = o (ix2 ch k)
  g0 : ∀ (r : Fin 512) ch, x.g0 (ix3 0 r ch) = gate p 0 b ⟨i.val * 512 + r.val, by omega⟩ ch
  g0Next : ∀ (hi : i.val < 3) (r : Fin 16) ch,
    x.g0Next (ix3 0 r ch) = gate p 0 b ⟨i.val * 512 + 512 + r.val, by omega⟩ ch
  g1 : ∀ (r : Fin 512) ch, x.g1 (ix3 0 r ch) = gate p 1 b ⟨i.val * 512 + r.val, by omega⟩ ch
  g2 : ∀ (r : Fin 512) ch, x.g2 (ix3 0 r ch) = gate p 2 b ⟨i.val * 512 + r.val, by omega⟩ ch
  g1Prev : ∀ (hi : 0 < i.val) (r : Fin 16) ch,
    x.g1Prev (ix3 0 r ch) = gate p 1 b ⟨i.val * 512 - 16 + r.val, by omega⟩ ch
  g2Prev : ∀ (hi : 0 < i.val) (r : Fin 16) ch,
    x.g2Prev (ix3 0 r ch) = gate p 2 b ⟨i.val * 512 - 16 + r.val, by omega⟩ ch
  taps : ∀ (j : Fin 3) ch, x.taps (ix2 ⟨j.val, by omega⟩ ch) = w (ix2 j ch)

variable {d : Grad} {p : Gates} {w : Taps} {o : Weight} {b i : Fin 4} {x : Loads}

/-- The step's test for the first block of a sequence. -/
theorem first_bit : ∀ i : Fin 4, Scalar.cmpi .eq (BitVec.ofNat 32 i.val) 0#32 = if i.val = 0 then 1#1 else 0#1 := by
  decide +kernel

/-- The step's test for a block that is not the last of its sequence. -/
theorem inner_bit : ∀ i : Fin 4, Scalar.cmpi .slt (BitVec.ofNat 32 i.val) 3#32 = if i.val < 3 then 1#1 else 0#1 := by
  decide +kernel

/-- The step's test for a row of the block itself. -/
theorem row_bit : ∀ r : Fin 528, IntOp.cmpi .slt (BitVec.ofNat 32 r.val) 512#32 = if r.val < 512 then 1#1 else 0#1 := by
  decide +kernel

/-- The product of the second and third gates. -/
theorem product (h : Here d p w o b i x) (r : Fin 512) (ch : Fin 1024) :
    k0_pay9 (F := Ideal) x.g1 x.g2 (ix2 r ch) = cvAt p b (i.val * 512 + r.val + 2) ch := by
  pointwise [k0_pay9, k0_pay7, k0_pay8, cvAt, cv]
  rw [dif_pos (by omega), h.g1, h.g2]
  simp only [Nat.add_sub_cancel]

/-- The sixteen rows before the block, then the block. -/
theorem extended (h : Here d p w o b i x) (g : grid0.Coords) (hg : (g 1).val = i.val) (r : Fin 528) (ch : Fin 1024) :
    k0_pay10 (F := Ideal) g x.g1 x.g2 x.g1Prev x.g2Prev (ix2 r ch) = cvAt p b (i.val * 512 + r.val + 2 - 16) ch := by
  pointwise [k0_pay10]
  rw [hg, first_bit]
  by_cases hr : r.val < 16
  · rw [dif_pos hr]
    by_cases hi : i.val = 0
    · rw [if_pos hi]
      unfold cvAt
      rw [dif_neg (by omega)]
      rfl
    · rw [if_neg hi, h.g1Prev (by omega), h.g2Prev (by omega)]
      unfold cvAt cv
      rw [dif_pos (by omega)]
      have e : i.val * 512 - 16 + r.val = i.val * 512 + r.val + 2 - 16 - 2 := by omega
      simp only [e]
      rfl
  · rw [dif_neg hr]
    refine (product h ⟨r.val - 16, by omega⟩ ch).trans (congrArg (fun u => cvAt p b u ch) ?_)
    show i.val * 512 + (r.val - 16) + 2 = _
    omega

/-- The rows one before. -/
theorem back1 (h : Here d p w o b i x) (g : grid0.Coords) (hg : (g 1).val = i.val) (r : Fin 512) (ch : Fin 1024) :
    k0_pay11 (F := Ideal) g x.g1 x.g2 x.g1Prev x.g2Prev (ix2 r ch) = cvAt p b (i.val * 512 + r.val + 1) ch := by
  pointwise [k0_pay11]
  refine (extended h g hg ⟨_, by omega⟩ ch).trans (congrArg (fun u => cvAt p b u ch) ?_)
  show i.val * 512 + (16 + r.val + 528 - 1) % 528 + 2 - 16 = _
  omega

/-- The rows two before. -/
theorem back2 (h : Here d p w o b i x) (g : grid0.Coords) (hg : (g 1).val = i.val) (r : Fin 512) (ch : Fin 1024) :
    k0_pay12 (F := Ideal) g x.g1 x.g2 x.g1Prev x.g2Prev (ix2 r ch) = cvAt p b (i.val * 512 + r.val) ch := by
  pointwise [k0_pay12]
  refine (extended h g hg ⟨_, by omega⟩ ch).trans (congrArg (fun u => cvAt p b u ch) ?_)
  show i.val * 512 + (16 + r.val + 528 - 2) % 528 + 2 - 16 = _
  omega

/-- The forward convolution on the block. -/
theorem convolved (h : Here d p w o b i x) (g : grid0.Coords) (hg : (g 1).val = i.val) (r : Fin 512) (ch : Fin 1024) :
    k0_pay13 (F := Ideal) g x.taps x.g1 x.g2 x.g1Prev x.g2Prev (ix2 r ch)
      = conv p w b ⟨i.val * 512 + r.val, by omega⟩ ch := by
  pointwise [k0_pay13, k0_pay6, conv]
  rw [back2 h g hg, back1 h g hg, product h]
  have t0 := h.taps 0 ch
  have t1 := h.taps 1 ch
  have t2 := h.taps 2 ch
  exact congrArg₂ (· + ·) (congrArg₂ (· + ·) (congrArg (· * _) t0) (congrArg (· * _) t1)) (congrArg (· * _) t2)

/-- The gradient of the gated convolution on the block's own rows. -/
theorem gated (h : Here d p w o b i x) (r : Fin 528) (hr : r.val < 512) (ch : Fin 1024) :
    k0_pay15 (F := Ideal) (k0_pay14 x.dy) x.dyNext x.wt (ix2 r ch) = dgated d o b ⟨i.val * 512 + r.val, by omega⟩ ch := by
  pointwise [k0_pay15, k0_pay14, dgated]
  exact Finset.sum_congr rfl fun k _ => by rw [dif_pos hr, h.dy, h.wt]

/-- The gradient of the gated convolution on the sixteen rows after the block. -/
theorem gated_next (h : Here d p w o b i x) (hi : i.val < 3) (r : Fin 528) (hr : ¬ r.val < 512) (ch : Fin 1024) :
    k0_pay15 (F := Ideal) (k0_pay14 x.dy) x.dyNext x.wt (ix2 r ch) = dgated d o b ⟨i.val * 512 + r.val, by omega⟩ ch := by
  pointwise [k0_pay15, k0_pay14, dgated]
  have e : i.val * 512 + 512 + (r.val - 512) = i.val * 512 + r.val := by omega
  exact Finset.sum_congr rfl fun k _ => by rw [dif_neg hr, h.dyNext hi, h.wt]; simp only [e]

/-- The gradient of the convolution's result on the block and the sixteen rows after it, zero past the sequence. -/
theorem masked (h : Here d p w o b i x) (g : grid0.Coords) (hg : (g 1).val = i.val) (r : Fin 528) (ch : Fin 1024) :
    k0_pay16 (F := Ideal) (BitVec.ofNat 32 (g 1).val) (k0_pay14 x.dy) x.dyNext x.wt x.g0 x.g0Next (ix2 r ch)
      = dconvAt d p o b (i.val * 512 + r.val) ch := by
  pointwise [k0_pay16]
  rw [hg, inner_bit, row_bit]
  unfold dconvAt
  by_cases hr : r.val < 512
  · rw [if_pos hr, dif_pos hr, dif_pos (show i.val * 512 + r.val < 2048 by omega), gated h r hr, h.g0]
    split_ifs <;> rfl
  · by_cases hi : i.val < 3
    · rw [if_neg hr, if_pos hi, dif_neg hr, dif_pos (show i.val * 512 + r.val < 2048 by omega), gated_next h hi r hr, h.g0Next hi]
      have e : i.val * 512 + 512 + (r.val - 512) = i.val * 512 + r.val := by omega
      simp only [e]
      rfl
    · rw [if_neg hr, if_neg hi, dif_neg hr, dif_neg (show ¬ i.val * 512 + r.val < 2048 by omega)]
      rfl

/-- The gradient of the convolution's result on the block. -/
theorem grad_conv (h : Here d p w o b i x) (g : grid0.Coords) (hg : (g 1).val = i.val) (r : Fin 512) (ch : Fin 1024) :
    k0_pay17 (F := Ideal) (BitVec.ofNat 32 (g 1).val) (k0_pay14 x.dy) x.dyNext x.wt x.g0 x.g0Next (ix2 r ch)
      = dconv d p o b ⟨i.val * 512 + r.val, by omega⟩ ch := by
  pointwise [k0_pay17]
  refine (masked h g hg ⟨r.val, by omega⟩ ch).trans ?_
  exact dif_pos (show i.val * 512 + r.val < 2048 by omega)

/-- The gradient of the convolution's input on the block. -/
theorem grad_input (h : Here d p w o b i x) (g : grid0.Coords) (hg : (g 1).val = i.val) (r : Fin 512) (ch : Fin 1024) :
    k0_pay18 (F := Ideal) (BitVec.ofNat 32 (g 1).val) (k0_pay6 x.taps) (k0_pay14 x.dy) x.dyNext x.wt x.g0 x.g0Next
        (ix2 r ch)
      = dcv d p w o b ⟨i.val * 512 + r.val, by omega⟩ ch := by
  pointwise [k0_pay18, k0_pay17, k0_pay6, dcv]
  have t0 := h.taps 0 ch
  have t1 := h.taps 1 ch
  have t2 := h.taps 2 ch
  have m0 := masked h g hg ⟨r.val, by omega⟩ ch
  have m1 := masked h g hg ⟨(r.val + 528 - 527) % 528, by omega⟩ ch
  have m2 := masked h g hg ⟨(r.val + 528 - 526) % 528, by omega⟩ ch
  have e1 : i.val * 512 + (r.val + 528 - 527) % 528 = i.val * 512 + r.val + 1 := by omega
  have e2 : i.val * 512 + (r.val + 528 - 526) % 528 = i.val * 512 + r.val + 2 := by omega
  simp only [e1, e2] at m1 m2
  exact congrArg₂ (· + ·) (congrArg₂ (· + ·) (congrArg₂ (· * ·) t2 m0) (congrArg₂ (· * ·) t1 m1))
    (congrArg₂ (· * ·) t0 m2)

/-- What the step adds to the taps' gradient: three sums over the block's rows, and five zero rows. -/
theorem tap_rows (h : Here d p w o b i x) (g : grid0.Coords) (hg : (g 1).val = i.val) (j : Fin 8) (ch : Fin 1024) :
    k0_pay4 (F := Ideal) (k0_pay9 x.g1 x.g2) (k0_pay11 g x.g1 x.g2 x.g1Prev x.g2Prev)
        (k0_pay12 g x.g1 x.g2 x.g1Prev x.g2Prev)
        (k0_pay17 (BitVec.ofNat 32 (g 1).val) (k0_pay14 x.dy) x.dyNext x.wt x.g0 x.g0Next) (ix2 j ch)
      = if j.val < 3 then ∑ r : Fin 512, dconv d p o b ⟨i.val * 512 + r.val, by omega⟩ ch
          * cvAt p b (i.val * 512 + r.val + j.val) ch else 0 := by
  pointwise [k0_pay4]
  match j with
  | ⟨0, _⟩ =>
    simp only [Nat.lt_one_iff, Nat.ofNat_pos, ↓reduceDIte, ↓reduceIte, Nat.add_zero]
    exact Finset.sum_congr rfl fun r _ => by rw [grad_conv h g hg, back2 h g hg]
  | ⟨1, _⟩ =>
    simp
    exact Finset.sum_congr rfl fun r _ => by rw [grad_conv h g hg, back1 h g hg]
  | ⟨2, _⟩ =>
    simp
    exact Finset.sum_congr rfl fun r _ => by rw [grad_conv h g hg, product h]
  | ⟨n + 3, _⟩ => simp

/-- What the step stores for the first gate. -/
theorem store0 (h : Here d p w o b i x) (g : grid0.Coords) (hg : (g 1).val = i.val) (r : Fin 512) (ch : Fin 1024) :
    k0_pay1 (F := Ideal) (k0_pay19 (k0_pay13 g x.taps x.g1 x.g2 x.g1Prev x.g2Prev) (k0_pay14 x.dy) x.dyNext x.wt)
        (ix3 0 r ch)
      = dgated d o b ⟨i.val * 512 + r.val, by omega⟩ ch * conv p w b ⟨i.val * 512 + r.val, by omega⟩ ch := by
  pointwise [k0_pay1, k0_pay19]
  rw [convolved h g hg]
  exact congrArg (· * _) (gated h ⟨r.val, by omega⟩ r.isLt ch)

/-- What the step stores for the third gate, on the result's middle lanes. -/
theorem store1 (h : Here d p w o b i x) (g : grid0.Coords) (hg : (g 1).val = i.val) (r : Fin 512) (ch : Fin 1024) :
    k0_pay2 (F := Ideal) (k0_pay8 x.g2) (k0_pay18 (BitVec.ofNat 32 (g 1).val) (k0_pay6 x.taps) (k0_pay14 x.dy) x.dyNext
        x.wt x.g0 x.g0Next) (ix3 0 r ch)
      = dcv d p w o b ⟨i.val * 512 + r.val, by omega⟩ ch * gate p 2 b ⟨i.val * 512 + r.val, by omega⟩ ch := by
  pointwise [k0_pay2, k0_pay8]
  rw [grad_input h g hg, h.g2]

/-- What the step stores for the second gate, on the result's last lanes. -/
theorem store2 (h : Here d p w o b i x) (g : grid0.Coords) (hg : (g 1).val = i.val) (r : Fin 512) (ch : Fin 1024) :
    k0_pay3 (F := Ideal) (k0_pay7 x.g1) (k0_pay18 (BitVec.ofNat 32 (g 1).val) (k0_pay6 x.taps) (k0_pay14 x.dy) x.dyNext
        x.wt x.g0 x.g0Next) (ix3 0 r ch)
      = dcv d p w o b ⟨i.val * 512 + r.val, by omega⟩ ch * gate p 1 b ⟨i.val * 512 + r.val, by omega⟩ ch := by
  pointwise [k0_pay3, k0_pay7]
  rw [grad_input h g hg, h.g1]

end Conv.Block

end
-- ==== Proof.ConvLoads.lean ====
/- Which parts of the arrays each step of the kernel loads. -/
module

public import proofs.«01_k».proof.Proof.ConvBlock
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Conv.Array

open Cert.KernelIdeal Cert.KernelIdeal.Gen Conv.Block

variable (m : (ℓ : Loc nD τ sig) → Buf (Elt Ideal) ℓ)

/-- Which block each window shows at each step, and the steps' coordinates. -/
theorem idx_val : ∀ t : Fin cfg0.N, win0_0.index t = ![t.val / 4, t.val % 4, 0]
    ∧ win0_1.index t = ![t.val / 4, min (t.val % 4 * 32 + 32) 127, 0]
    ∧ win0_2.index t = ![0, 0]
    ∧ win0_3.index t = ![t.val / 4, t.val % 4, 0]
    ∧ win0_4.index t = ![t.val / 4, min (t.val % 4 * 32 + 32) 127, 0]
    ∧ win0_5.index t = ![t.val / 4, t.val % 4, 1]
    ∧ win0_6.index t = ![t.val / 4, t.val % 4, 2]
    ∧ win0_7.index t = ![t.val / 4, t.val % 4 * 32 - 1, 1]
    ∧ win0_8.index t = ![t.val / 4, t.val % 4 * 32 - 1, 2]
    ∧ win0_9.index t = ![0, 0]
    ∧ win0_10.index t = ![t.val / 4, t.val % 4, 0]
    ∧ win0_11.index t = ![0, 0] :=
  (by decide +kernel : ∀ t : Fin grid0.N, _)

theorem coord : ∀ t : Fin cfg0.N, (grid0.coords t 1).val = t.val % 4 :=
  (by decide +kernel : ∀ t : Fin grid0.N, _)

theorem lt16 (t : Fin cfg0.N) : t.val < 16 := lt_of_lt_of_eq t.isLt N_0

/-- A step's sequence and block. -/
def seq (t : Fin cfg0.N) : Fin 4 := ⟨t.val / 4, by have := lt16 t; omega⟩
def blk (t : Fin cfg0.N) : Fin 4 := ⟨t.val % 4, by omega⟩

theorem next_val : ∀ t : Fin cfg0.N, (blk t).val < 3 →
    win0_1.index t = ![t.val / 4, t.val % 4 * 32 + 32, 0] ∧ win0_4.index t = ![t.val / 4, t.val % 4 * 32 + 32, 0] :=
  (by decide +kernel : ∀ t : Fin grid0.N, t.val % 4 < 3 → _)

theorem prev_val : ∀ t : Fin cfg0.N, 0 < (blk t).val →
    win0_7.index t = ![t.val / 4, t.val % 4 * 32 - 1, 1] ∧ win0_8.index t = ![t.val / 4, t.val % 4 * 32 - 1, 2] :=
  (by decide +kernel : ∀ t : Fin grid0.N, 0 < t.val % 4 → _)

/-- The blocks loaded at a step. -/
abbrev loads (c : Dev nD) (t : Fin cfg0.N) : Loads where
  dy := iblk m c 0 t
  dyNext := iblk m c 1 t
  wt := iblk m c 2 t
  g0 := iblk m c 3 t
  g0Next := iblk m c 4 t
  g1 := iblk m c 5 t
  g2 := iblk m c 6 t
  g1Prev := iblk m c 7 t
  g2Prev := iblk m c 8 t
  taps := iblk m c 9 t

abbrev dA (c : Dev nD) : Grad := m ((c : Thread nD τ).loc main_arg0)
abbrev pA (c : Dev nD) : Gates := m ((c : Thread nD τ).loc main_arg1)
abbrev wA (c : Dev nD) : Taps := m ((c : Thread nD τ).loc main_arg2)
abbrev oA (c : Dev nD) : Weight := m ((c : Thread nD τ).loc main_arg3)

/-- The taps as the steps see them: three rows, then five of zeros. -/
theorem V_v0 (c : Dev nD) : V m c main_v0 = pad S8x1024 ![0, 0] ![5, 0] ![0, 0]
    (wA m c) (sitofp .f32 (constantI S_ 32 0#32)) pads_S3x1024_S8x1024_050_000 h_S_ := by
  show StableHlo.after (List.flatten [hostOps0, hostOps0_1]) (fun b => m (c, b)) main_v0 = _
  simp only [List.flatten_cons, List.flatten_nil, List.cons_append, List.nil_append, List.append_nil]
  after_results
  try rfl

theorem padded_taps (x : Taps) (z : FVec Ideal S_ .f32) (j : Fin 3) (ch : Fin 1024) :
    pad S8x1024 ![0, 0] ![5, 0] ![0, 0] x z pads_S3x1024_S8x1024_050_000 h_S_ (ix2 ⟨j.val, by omega⟩ ch) = x (ix2 j ch) := by
  pointwise

theorem V_v0_apply (c : Dev nD) (j : Fin 3) (ch : Fin 1024) :
    V m c main_v0 (ix2 ⟨j.val, by omega⟩ ch) = m ((c : Thread nD τ).loc main_arg2) (ix2 j ch) :=
  (congrFun (V_v0 m c) _).trans (padded_taps _ _ j ch)

/-- They are the parts of the arrays the step works on. -/
theorem here (c : Dev nD) (t : Fin cfg0.N) : Here (dA m c) (pA m c) (wA m c) (oA m c) (seq t) (blk t) (loads m c t) := by
  have ht := lt16 t
  constructor
  · intro r k
    show iblk m c 0 t (ix3 0 r k) = _
    blk_point [iblk, V, idx_val t, seq, blk]
  · intro hi r k
    show iblk m c 1 t (ix3 0 r k) = _
    blk_point [iblk, V, next_val t hi, seq, blk]
    done
  · intro ch k
    show iblk m c 2 t (ix2 ch k) = _
    blk_point [iblk, V, idx_val t, seq, blk]
    done
  · intro r ch
    show iblk m c 3 t (ix3 0 r ch) = _
    blk_point [iblk, V, idx_val t, seq, blk, gate]
    done
  · intro hi r ch
    show iblk m c 4 t (ix3 0 r ch) = _
    blk_point [iblk, V, next_val t hi, seq, blk, gate]
    done
  · intro r ch
    show iblk m c 5 t (ix3 0 r ch) = _
    blk_point [iblk, V, idx_val t, seq, blk, gate]
  · intro r ch
    show iblk m c 6 t (ix3 0 r ch) = _
    blk_point [iblk, V, idx_val t, seq, blk, gate]
  · intro hi r ch
    show iblk m c 7 t (ix3 0 r ch) = _
    blk_point [iblk, V, prev_val t hi, seq, blk, gate]
    done
  · intro hi r ch
    show iblk m c 8 t (ix3 0 r ch) = _
    blk_point [iblk, V, prev_val t hi, seq, blk, gate]
    done
  · intro j ch
    show V m c main_v0 (((cfg0.win 9).blk t).view.emb (ix2 ⟨j.val, by omega⟩ ch)) = _
    refine Eq.trans (congrArg (V m c main_v0) ?_) (V_v0_apply m c j ch)
    blk_ext [idx_val t]
    done

end Conv.Array

end
-- ==== Proof.ConvArray.lean ====
/- From one step's block to the whole arrays: what the kernel leaves in its two results. -/
module

public import proofs.«01_k».proof.Proof.ConvLoads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Conv.Array

open Cert.KernelIdeal Cert.KernelIdeal.Gen Conv.Block

variable (m : (ℓ : Loc nD τ sig) → Buf (Elt Ideal) ℓ)

/-- The two results as the gradients written out. -/
abbrev gatesGrad (c : Dev nD) : FVec Ideal S4x2048x3072 .bf16 :=
  fun j => dgates (dA m c) (pA m c) (wA m c) (oA m c) (j 0) (j 1) (j 2)

abbrev tapsGrad (c : Dev nD) : FVec Ideal S8x1024 .f32 :=
  fun j => dtaps (dA m c) (pA m c) (oA m c) (j 0) (j 1)

/-- A step's place in the gates' gradient. -/
theorem place (t : Fin cfg0.N) (y : S1x512x3072.Idx) :
    ((cfg0.win 10).blk t).view.emb y
      = (ix3 (seq t) ⟨(blk t).val * 512 + (y 1).val, by have h1 : (y 1).val < 512 := (y 1).isLt; omega⟩
          ⟨(y 2).val, (y 2).isLt⟩ : S4x2048x3072.Idx) := by
  have h0 : (y 0).val < 1 := (y 0).isLt
  blk_ext [idx_val t, seq, blk]
  done

/-- The gates' gradient at a step's place, by thirds of the lanes. -/
theorem gatesGrad_place (c : Dev nD) (t : Fin cfg0.N) (y : S1x512x3072.Idx) (r : Fin 512) (l : Fin 3072)
    (hr : (y 1).val = r.val) (hl : (y 2).val = l.val) :
    gatesGrad m c (((cfg0.win 10).blk t).view.emb y)
      = dgates (dA m c) (pA m c) (wA m c) (oA m c) (seq t) ⟨(blk t).val * 512 + r.val, by omega⟩ l := by
  rw [place]
  show dgates (dA m c) (pA m c) (wA m c) (oA m c) (seq t) ⟨(blk t).val * 512 + (y 1).val, _⟩ ⟨(y 2).val, _⟩ = _
  simp only [hr, hl]

theorem ix3_of (x : S1x512x1024.Idx) : x = ix3 0 (x 1) (x 2) := by
  have h0 : (x 0).val < 1 := (x 0).isLt
  funext a; apply Fin.ext
  match a with
  | ⟨0, _⟩ => show (x 0).val = 0; omega
  | ⟨1, _⟩ => rfl
  | ⟨2, _⟩ => rfl

theorem ix2_of (x : S8x1024.Idx) : x = ix2 (x 0) (x 1) := by
  funext a; apply Fin.ext
  match a with
  | ⟨0, _⟩ => rfl
  | ⟨1, _⟩ => rfl

/-- A step leaves its block of the gates' gradient: at the first step of all … -/
theorem point_A (c : Dev nD) (t : Fin cfg0.N) (a0 : t.val % 16 = 0) (a1 : ¬1 ≤ t.val) (y : S1x512x3072.Idx) :
    (outsAt0 m c t.val t.isLt).1 y = gatesGrad m c (((cfg0.win 10).blk t).view.emb y) := by
  rw [outsAt0_A m c t a0 a1]
  frame_out
  have hb : ((grid0.coords t) 1).val = (blk t).val := coord t
  have hh := here m c t
  canon_tiles x h
  · rw [gatesGrad_place m c t y (x 1) ⟨2048 + (x 2).val, by omega⟩ h1 h2]
    refine (congrArg _ (ix3_of x)).trans ((store2 hh (grid0.coords t) hb (x 1) (x 2)).trans ?_)
    unfold dgates
    rw [dif_neg (show ¬2048 + (x 2).val < 1024 by omega),
      dif_neg (show ¬2048 + (x 2).val < 2048 by omega)]
    simp
  · rw [gatesGrad_place m c t y (x 1) ⟨1024 + (x 2).val, by omega⟩ h1 h2]
    refine (congrArg _ (ix3_of x)).trans ((store1 hh (grid0.coords t) hb (x 1) (x 2)).trans ?_)
    unfold dgates
    rw [dif_neg (show ¬1024 + (x 2).val < 1024 by omega),
      dif_pos (show 1024 + (x 2).val < 2048 by omega)]
    simp
  · rw [gatesGrad_place m c t y (x 1) ⟨(x 2).val, by omega⟩ h1 h2]
    refine (congrArg _ (ix3_of x)).trans ((store0 hh (grid0.coords t) hb (x 1) (x 2)).trans ?_)
    unfold dgates
    rw [dif_pos (show (x 2).val < 1024 by omega)]
    rfl

/-- … and at every other step. -/
theorem point_B (c : Dev nD) (t : Fin cfg0.N) (a0 : ¬t.val % 16 = 0) (a1 : 1 ≤ t.val) (y : S1x512x3072.Idx) :
    (outsAt0 m c t.val t.isLt).1 y = gatesGrad m c (((cfg0.win 10).blk t).view.emb y) := by
  rw [outsAt0_B m c t a0 a1]
  frame_out
  have hb : ((grid0.coords t) 1).val = (blk t).val := coord t
  have hh := here m c t
  canon_tiles x h
  · rw [gatesGrad_place m c t y (x 1) ⟨2048 + (x 2).val, by omega⟩ h1 h2]
    refine (congrArg _ (ix3_of x)).trans ((store2 hh (grid0.coords t) hb (x 1) (x 2)).trans ?_)
    unfold dgates
    rw [dif_neg (show ¬2048 + (x 2).val < 1024 by omega),
      dif_neg (show ¬2048 + (x 2).val < 2048 by omega)]
    simp
  · rw [gatesGrad_place m c t y (x 1) ⟨1024 + (x 2).val, by omega⟩ h1 h2]
    refine (congrArg _ (ix3_of x)).trans ((store1 hh (grid0.coords t) hb (x 1) (x 2)).trans ?_)
    unfold dgates
    rw [dif_neg (show ¬1024 + (x 2).val < 1024 by omega),
      dif_pos (show 1024 + (x 2).val < 2048 by omega)]
    simp
  · rw [gatesGrad_place m c t y (x 1) ⟨(x 2).val, by omega⟩ h1 h2]
    refine (congrArg _ (ix3_of x)).trans ((store0 hh (grid0.coords t) hb (x 1) (x 2)).trans ?_)
    unfold dgates
    rw [dif_pos (show (x 2).val < 1024 by omega)]
    rfl

/-- The gates' gradient, whole. -/
theorem final_10 (c : Dev nD) : (dats m 0 c).arrAt 10 (cfgs 0).N = gatesGrad m c := by
  refine (dats m 0 c).arrAt_eq_of_covers 10 _ (by decide +kernel) fun t hf y => ?_
  blk_simp; rw [after0_10]
  have ht := lt16 t
  by_cases h : t.val % 16 = 0
  · exact point_A m c t h (by omega) y
  · exact point_B m c t h (by omega) y

/-- One step's contribution to the taps' gradient. -/
def part (c : Dev nD) (t : Fin cfg0.N) (j : S8x1024.Idx) : EReal :=
  if (j 0).val < 3 then ∑ r : Fin 512, dconv (dA m c) (pA m c) (oA m c) (seq t) ⟨(blk t).val * 512 + r.val, by omega⟩ (j 1)
      * cvAt (pA m c) (seq t) ((blk t).val * 512 + r.val + (j 0).val) (j 1) else 0

theorem part_eq (c : Dev nD) (t : Fin cfg0.N) (j : S8x1024.Idx) :
    k0_pay4 (F := Ideal) (k0_pay9 (iblk m c 5 t) (iblk m c 6 t)) (k0_pay11 (grid0.coords t) (iblk m c 5 t) (iblk m c 6 t) (iblk m c 7 t) (iblk m c 8 t))
        (k0_pay12 (grid0.coords t) (iblk m c 5 t) (iblk m c 6 t) (iblk m c 7 t) (iblk m c 8 t))
        (k0_pay17 (BitVec.ofNat 32 ((grid0.coords t) 1).val) (k0_pay14 (iblk m c 0 t)) (iblk m c 1 t) (iblk m c 2 t) (iblk m c 3 t) (iblk m c 4 t)) j
      = part m c t j := by
  rw [ix2_of j]
  exact tap_rows (here m c t) (grid0.coords t) (coord t) (j 0) (j 1)

theorem pay5_eq (a b e f : FVec Ideal S512x1024 .f32) (z : Vec Ideal S8x1024 .f32) (j : S8x1024.Idx) :
    k0_pay5 (F := Ideal) a b e f z j = z j + k0_pay4 a b e f j := by
  rw [ix2_of j]
  pointwise [k0_pay5]

/-- The taps' gradient, whole. -/
theorem final_11 (c : Dev nD) : (dats m 0 c).arrAt 11 (cfgs 0).N = tapsGrad m c := by
  refine (dats m 0 c).arrAt_eq_of_after_last 11 t0_15 (by decide +kernel) _ fun j => ?_
  blk_simp
  rw [after0_11, Pipeline.eq_sum_fin_of_reset_step_apply_last (fun n h => (outsAt0 m c n h).2) 16 (fun _ => 0) (fun n j => part m c n j)
    (fun t h j => by rw [outsAt0_A m c t h (by have := lt16 t; omega)]; frame_out; rw [part_eq, zero_add])
    (fun t h j => by rw [outsAt0_B m c t h (by omega)]; frame_out; rw [pay5_eq, part_eq])
    (le_of_eq N_0) t0_15 rfl j, zero_add]
  show ∑ t : Fin cfg0.N, part m c t j = dtaps (dA m c) (pA m c) (oA m c) (j 0) (j 1)
  unfold part dtaps
  by_cases hj : (j 0).val < 3
  · simp only [if_pos hj]
    refine Fin.sum_points_lanes_congr 4 fun t r ha hl => ?_
    rfl
  · simp only [if_neg hj, Finset.sum_const_zero]

end Conv.Array

end
-- ==== Proof.ConvReference.lean ====
/- The reference's gradient of the gated convolution, stage by stage, is the gradient written out in `ConvSpec`. -/
module

public import proofs.«01_k».proof.Proof.ConvSpec
public import proofs.«01_k».proof.Proof.Gen.ReferenceIdeal.Read

@[expose] public section

set_option maxRecDepth 16384

noncomputable section

open Idealize.ShloMosaic Idealize.ShloMosaic.TcCoe Idealize.SL.Sem
open scoped BigOperators

namespace Conv

section
variable {n0 n1 n2 : ℕ} {t : Shape}

theorem lead_pos (h : (⟨3, ![n0, n1, n2]⟩ : Shape).ReducesTo [0, 1] t) : 0 < t.rank :=
  (show t.rank = 1 from h.1) ▸ Nat.one_pos

theorem lead_size (h : (⟨3, ![n0, n1, n2]⟩ : Shape).ReducesTo [0, 1] t) : t.size ⟨0, lead_pos h⟩ = n2 :=
  h.2 ⟨0, lead_pos h⟩

/-- The indices a sum over the two leading axes of a rank-3 array collects at an index of the last axis. -/
theorem lead_fiber (h : (⟨3, ![n0, n1, n2]⟩ : Shape).ReducesTo [0, 1] t) (j : t.Idx) (i : (⟨3, ![n0, n1, n2]⟩ : Shape).Idx) :
    h.drop i = j ↔ ∃ k : Fin n0 × Fin n1,
      ix3 k.1 k.2 ⟨(j ⟨0, lead_pos h⟩).val, Shape.coordLt (j ⟨0, lead_pos h⟩) (lead_size h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lead_pos h⟩)).symm
  · rintro ⟨k, rfl⟩
    funext b; apply Fin.ext
    match b with
    | ⟨0, _⟩ => rfl
    | ⟨_ + 1, hb⟩ => exact absurd hb (by have : t.rank = 1 := h.1; omega)

/-- A sum over the two leading axes of a rank-3 array, read at an index of the last axis. -/
theorem sum_leading (h : (⟨3, ![n0, n1, n2]⟩ : Shape).ReducesTo [0, 1] t)
    (v : (⟨3, ![n0, n1, n2]⟩ : Shape).Idx → EReal) (init : EReal) (j : t.Idx) :
    Ideal.hostReduceAdd h v init j = init + ∑ a : Fin n0, ∑ b : Fin n1,
      v (ix3 a b ⟨(j ⟨0, lead_pos h⟩).val, Shape.coordLt (j ⟨0, lead_pos h⟩) (lead_size h)⟩) := by
  have key : ∑ i ∈ Finset.univ.filter (fun i => h.drop i = j), v i = ∑ a : Fin n0, ∑ b : Fin n1,
      v (ix3 a b ⟨(j ⟨0, lead_pos h⟩).val, Shape.coordLt (j ⟨0, lead_pos h⟩) (lead_size h)⟩) := by
    refine (Finset.sum_filter_eq_sum_of_fiber _ (fun k : Fin n0 × Fin n1 => ix3 k.1 k.2 ⟨(j ⟨0, lead_pos h⟩).val,
      Shape.coordLt (j ⟨0, lead_pos h⟩) (lead_size h)⟩)
      (fun _ _ e => Prod.ext (congrFun e 0) (congrFun e 1)) (lead_fiber h j) v).trans ?_
    simp only [Fintype.sum_prod_type]
  exact congrArg (init + ·) key

end

end Conv

namespace Conv.Reference

open Cert.ReferenceIdeal Cert.ReferenceIdeal.Read

variable (d : Grad) (p : Gates) (w : Taps) (o : Weight)

/-- The first gate. -/
theorem gate0 (b : Fin 4) (s : Fin 2048) (ch : Fin 1024) : val_main_v2 (F := Ideal) p (ix3 b s ch) = gate p 0 b s ch := by
  unfold val_main_v2 val_main_v1
  pointwise [gate]

theorem gate1 (b : Fin 4) (s : Fin 2048) (ch : Fin 1024) : val_main_v3 (F := Ideal) p (ix3 b s ch) = gate p 1 b s ch := by
  unfold val_main_v3 val_main_v1
  pointwise [gate]

theorem gate2 (b : Fin 4) (s : Fin 2048) (ch : Fin 1024) : val_main_v4 (F := Ideal) p (ix3 b s ch) = gate p 2 b s ch := by
  unfold val_main_v4 val_main_v1
  pointwise [gate]

theorem zeros (b : Fin 4) (u : Fin 2) (ch : Fin 1024) : val_main_v5 (F := Ideal) (ix3 b u ch) = 0 := by
  unfold val_main_v5 val_main_cst
  pointwise

theorem padded (b : Fin 4) (u : Fin 2050) (ch : Fin 1024) :
    val_main_v7 (F := Ideal) p (ix3 b u ch) = cvAt p b u.val ch := by
  unfold val_main_v7
  pointwise [cvAt, cv]
  by_cases h : u.val < 2
  · rw [dif_pos h, dif_neg (by omega), zeros]
  · rw [dif_neg h, dif_pos (by omega)]
    unfold val_main_v6
    pointwise
    rw [gate1, gate2]

theorem tap0 (b : Fin 4) (s : Fin 2048) (ch : Fin 1024) : val_main_v13 (F := Ideal) w (ix3 b s ch) = w (ix2 0 ch) := by
  unfold val_main_v13 val_main_v12 val_main_v10 val_main_v9
  pointwise

theorem tap1 (b : Fin 4) (s : Fin 2048) (ch : Fin 1024) : val_main_v19 (F := Ideal) w (ix3 b s ch) = w (ix2 1 ch) := by
  unfold val_main_v19 val_main_v18 val_main_v16 val_main_v15
  pointwise

theorem tap2 (b : Fin 4) (s : Fin 2048) (ch : Fin 1024) : val_main_v26 (F := Ideal) w (ix3 b s ch) = w (ix2 2 ch) := by
  unfold val_main_v26 val_main_v25 val_main_v23 val_main_v22
  pointwise

theorem shift0 (b : Fin 4) (s : Fin 2048) (ch : Fin 1024) :
    val_main_v11 (F := Ideal) p (ix3 b s ch) = cvAt p b s.val ch := by
  unfold val_main_v11
  pointwise
  exact padded p b ⟨s.val, by omega⟩ ch

theorem shift1 (b : Fin 4) (s : Fin 2048) (ch : Fin 1024) :
    val_main_v17 (F := Ideal) p (ix3 b s ch) = cvAt p b (s.val + 1) ch := by
  unfold val_main_v17
  pointwise
  exact (padded p b ⟨_, by omega⟩ ch).trans (by simp only [Nat.add_comm])

theorem shift2 (b : Fin 4) (s : Fin 2048) (ch : Fin 1024) :
    val_main_v24 (F := Ideal) p (ix3 b s ch) = cvAt p b (s.val + 2) ch := by
  unfold val_main_v24
  pointwise
  exact (padded p b ⟨_, by omega⟩ ch).trans (by simp only [Nat.add_comm])

/-- The forward convolution. -/
theorem convolved (b : Fin 4) (s : Fin 2048) (ch : Fin 1024) :
    val_main_v28 (F := Ideal) p w (ix3 b s ch) = conv p w b s ch := by
  unfold val_main_v28 val_main_v27 val_main_v21 val_main_v20 val_main_v14
  pointwise [conv]
  rw [tap0, tap1, tap2, shift0, shift1, shift2]

/-- The gradient of the gated convolution. -/
theorem gated (b : Fin 4) (s : Fin 2048) (ch : Fin 1024) :
    val_main_v32 (F := Ideal) d o (ix3 b s ch) = dgated d o b s ch := by
  unfold val_main_v32 val_main_v31 val_main_v0
  pointwise [dgated]

/-- The gradient of the convolution's result. -/
theorem grad_conv (b : Fin 4) (s : Fin 2048) (ch : Fin 1024) :
    val_main_v33 (F := Ideal) d p o (ix3 b s ch) = dconv d p o b s ch := by
  unfold val_main_v33
  pointwise [dconv]
  rw [gate0, gated, mul_comm]

theorem spread2 (b : Fin 4) (s : Fin 2048) (ch : Fin 1024) :
    val_main_v36 (F := Ideal) d p w o (ix3 b s ch) = w (ix2 2 ch) * dconv d p o b s ch := by
  unfold val_main_v36 val_main_v35 val_main_v25 val_main_v23 val_main_v22
  pointwise
  rw [grad_conv]

theorem spread1 (b : Fin 4) (s : Fin 2048) (ch : Fin 1024) :
    val_main_v45 (F := Ideal) d p w o (ix3 b s ch) = w (ix2 1 ch) * dconv d p o b s ch := by
  unfold val_main_v45 val_main_v44 val_main_v18 val_main_v16 val_main_v15
  pointwise
  rw [grad_conv]

theorem spread0 (b : Fin 4) (s : Fin 2048) (ch : Fin 1024) :
    val_main_v56 (F := Ideal) d p w o (ix3 b s ch) = w (ix2 0 ch) * dconv d p o b s ch := by
  unfold val_main_v56 val_main_v55 val_main_v12 val_main_v10 val_main_v9
  pointwise
  rw [grad_conv]

/-- The gradient of the convolution's input: the three contributions, each padded to its place. -/
theorem grad_input (b : Fin 4) (s : Fin 2048) (ch : Fin 1024) :
    val_main_v67 (F := Ideal) d p w o (ix3 b s ch) = dcv d p w o b s ch := by
  unfold val_main_v67 val_main_v62 val_main_v51 val_main_v61 val_main_v50 val_main_v41
  pointwise
  rw [spread2]
  unfold val_main_cst_7 val_main_cst_11
  pointwise [dcv, dconvAt]
  congr 1
  · congr 1
    by_cases h : s.val + 1 < 2048
    · rw [dif_pos (by omega), dif_pos h]
      refine (spread1 d p w o b _ ch).trans (congrArg (fun x => w (ix2 1 ch) * dconv d p o b x ch) (Fin.ext ?_))
      show 2 + s.val - 1 = s.val + 1
      omega
    · rw [dif_neg (by omega), dif_neg h, mul_zero]
  · by_cases h : s.val + 2 < 2048
    · rw [dif_pos (by omega), dif_pos h]
      refine (spread0 d p w o b _ ch).trans (congrArg (fun x => w (ix2 0 ch) * dconv d p o b x ch) (Fin.ext ?_))
      show 2 + s.val = s.val + 2
      omega
    · rw [dif_neg (by omega), dif_neg h, mul_zero]

/-- The gradient of the gates, side by side. -/
theorem grad_gates (b : Fin 4) (s : Fin 2048) (l : Fin 3072) :
    val_main_v71 (F := Ideal) d p w o (ix3 b s l) = dgates d p w o b s l := by
  unfold val_main_v71 val_main_v70 val_main_v69 val_main_v68 val_main_v34
  pointwise [dgates]
  by_cases h : l.val < 1024
  · rw [dif_pos h, dif_pos h, gated, convolved]
  · rw [dif_neg h, dif_neg h]
    by_cases h' : l.val < 2048
    · rw [dif_pos (by omega), dif_pos h', grad_input, gate2]
    · rw [dif_neg (by omega), dif_neg h', grad_input, gate1, mul_comm]
      simp only [Nat.sub_sub]

/-- One tap's gradient: the sum over every token. -/
theorem tap_sum2 (ch : Fin 1024) : val_main_v40 (F := Ideal) d p o (ix1 ch)
    = ∑ b : Fin 4, ∑ s : Fin 2048, dconv d p o b s ch * cvAt p b (s.val + 2) ch := by
  unfold val_main_v40 val_main_v39 val_main_v38 val_main_v37 val_main_cst_1 val_main_cst_2
  pointwise [sum_leading]
  rw [Fin.sum_univ_one, Fin.sum_univ_one]
  exact Finset.sum_congr rfl fun b _ => Finset.sum_congr rfl fun s _ => by rw [grad_conv, shift2]

theorem tap_sum1 (ch : Fin 1024) : val_main_v49 (F := Ideal) d p o (ix1 ch)
    = ∑ b : Fin 4, ∑ s : Fin 2048, dconv d p o b s ch * cvAt p b (s.val + 1) ch := by
  unfold val_main_v49 val_main_v48 val_main_v47 val_main_v46 val_main_cst_5 val_main_cst_6
  pointwise [sum_leading]
  rw [Fin.sum_univ_one, Fin.sum_univ_one]
  exact Finset.sum_congr rfl fun b _ => Finset.sum_congr rfl fun s _ => by rw [grad_conv, shift1]

theorem tap_sum0 (ch : Fin 1024) : val_main_v60 (F := Ideal) d p o (ix1 ch)
    = ∑ b : Fin 4, ∑ s : Fin 2048, dconv d p o b s ch * cvAt p b s.val ch := by
  unfold val_main_v60 val_main_v59 val_main_v58 val_main_v57 val_main_cst_9 val_main_cst_10
  pointwise [sum_leading]
  rw [Fin.sum_univ_one, Fin.sum_univ_one]
  exact Finset.sum_congr rfl fun b _ => Finset.sum_congr rfl fun s _ => by rw [grad_conv, shift0]

/-- The gradient of the taps: each tap's sum on its own row. -/
theorem grad_taps (j : Fin 8) (ch : Fin 1024) :
    val_main_v72 (F := Ideal) d p o (ix2 j ch) = dtaps d p o j ch := by
  unfold val_main_v72 val_main_v65 val_main_v54 val_main_v64 val_main_v53 val_main_v43
    val_main_call0_v0 val_main_cst_4 val_main_cst_8 val_main_cst_12 val_main_v42 val_main_v52 val_main_v63
  pointwise [dtaps]
  rw [tap_sum0, tap_sum1, tap_sum2]
  match j with
  | ⟨0, _⟩ => simp
  | ⟨1, _⟩ => simp
  | ⟨2, _⟩ => simp
  | ⟨n + 3, h⟩ =>
    have e : val_main_c (F := Ideal) (Shape.Idx.first Gen.h_S_) = 0#32 := rfl
    have z : FloatOps.sitofp (F := Ideal) FTy.f32 (0#32) = 0 := by
      show (((0#32 : BitVec 32).toInt : ℝ) : EReal) = 0
      simp
    simp [e, z]

end Conv.Reference

end
-- ==== Proof.ConvEqual.lean ====
module

public import proofs.«01_k».proof.Defs
public import proofs.«01_k».proof.Proof.Gen.Kernel.Frame
public import proofs.«01_k».proof.Proof.ConvArray
public import proofs.«01_k».proof.Proof.ConvReference

/-! The convolution's gradient, computed block by block, is the gradient of the plain convolution. -/

@[expose] public section

set_option maxRecDepth 16384

open Idealize.ShloMosaic Idealize.SL.Sem

namespace Conv.Equal

/-- Run from inputs that agree, the two programs leave the same two gradients. -/
theorem equal : Cert.algebraic_KernelIdeal_ReferenceIdeal := by
  pair_intro
  · run_from Cert.KernelIdeal.Value.run_blocks m g
  · run_from Cert.ReferenceIdeal.Value.run m' g'
    · obtain ⟨e0, e1, e2, e3⟩ := hagree c
      rw [Cert.ReferenceIdeal.Read.val_main_v71_eq m' c, e0, e1, e2, e3, Array.final_10 m c]
      funext i
      rw [eq_ix3 i]
      exact Reference.grad_gates _ _ _ _ _ _ _
    · obtain ⟨e0, e1, -, e3⟩ := hagree c
      rw [Cert.ReferenceIdeal.Read.val_main_v72_eq m' c, e0, e1, e3, Array.final_11 m c]
      funext i
      rw [eq_ix2 i]
      exact Reference.grad_taps _ _ _ _ _

/-- The kernel ends with its arguments as they were and every counter at zero; so does its ideal program. -/
theorem frame : Cert.quiescent_Kernel := fun m ρ _ => Cert.Kernel.Gen.frame m ρ

theorem ideal_frame : Cert.quiescent_KernelIdeal := fun m ρ _ => Cert.KernelIdeal.Gen.frame m ρ

/-- The reference ends with its arguments as they were; it has no counters. -/
theorem reference_frame : Cert.quiescent_ReferenceIdeal := fun m ρ _ =>
  θ_run_mono (Cert.ReferenceIdeal.Value.run (F := Ideal) m ρ)
    fun r h => ⟨fun c => (h c).2.2, sem_eq_zero_of_no_sems (by decide) r.2⟩

end Conv.Equal

end
-- ==== Proof.WeightArray.lean ====
/- The gradient of a projection's weights, summed over blocks of rows, is the whole product. -/
module

public import proofs.«01_k».proof.Proof.Gen.WeightIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Weight.Array

open Cert.WeightIdeal Cert.WeightIdeal.Gen

variable (m : (ℓ : Loc nD τ sig) → Buf (Elt Ideal) ℓ)

abbrev aA (c : Dev nD) : FVec Ideal S8192x2816 .bf16 := m ((c : Thread nD τ).loc main_arg0)
abbrev bA (c : Dev nD) : FVec Ideal S8192x1024 .bf16 := m ((c : Thread nD τ).loc main_arg1)

/-- The blocks at each step: steps 0 to 7 run down the rows for the left half of the columns, 8 to 15 for the right. -/
theorem idx_val : ∀ t : Fin cfg0.N, win0_0.index t = ![t.val % 8, t.val / 8]
    ∧ win0_1.index t = ![t.val % 8, 0] ∧ win0_2.index t = ![t.val / 8, 0] :=
  (by decide +kernel : ∀ t : Fin grid0.N, _)

theorem lt16 (t : Fin cfg0.N) : t.val < 16 := lt_of_lt_of_eq t.isLt N_0

/-- The gradient: each weight's sum over all rows. -/
def grad (c : Dev nD) (i : Fin 2816) (j : Fin 1024) : EReal :=
  ∑ k : Fin 8192, aA m c (ix2 k i) * bA m c (ix2 k j)

/-- One step's part of the sum. -/
def part (c : Dev nD) (t : Fin cfg0.N) (x : S1408x1024.Idx) : EReal :=
  ∑ r : Fin 1024, aA m c (ix2 ⟨t.val % 8 * 1024 + r.val, by omega⟩
      ⟨t.val / 8 * 1408 + (x 0).val, by have h := lt16 t; have h1 : (x 0).val < 1408 := (x 0).isLt; omega⟩)
    * bA m c (ix2 ⟨t.val % 8 * 1024 + r.val, by omega⟩ (x 1))

theorem load_a (c : Dev nD) (t : Fin cfg0.N) (r : Fin 1024) (i : Fin 1408) :
    iblk m c 0 t (ix2 r i) = aA m c (ix2 ⟨t.val % 8 * 1024 + r.val, by omega⟩
      ⟨t.val / 8 * 1408 + i.val, by have h := lt16 t; omega⟩) := by
  blk_point [iblk, V, idx_val t]

theorem load_b (c : Dev nD) (t : Fin cfg0.N) (r : Fin 1024) (j : Fin 1024) :
    iblk m c 1 t (ix2 r j) = bA m c (ix2 ⟨t.val % 8 * 1024 + r.val, by omega⟩ j) := by
  blk_point [iblk, V, idx_val t]

theorem step_eq (c : Dev nD) (t : Fin cfg0.N) (z : Vec Ideal S1408x1024 .f32) (x : S1408x1024.Idx) :
    k0_pay2 (F := Ideal) (iblk m c 0 t) (iblk m c 1 t) z x = z x + part m c t x := by
  rw [eq_ix2 x]
  pointwise [k0_pay2]
  unfold part
  refine congrArg (_ + ·) (Finset.sum_congr rfl fun r _ => ?_)
  exact congrArg₂ (· * ·) (load_a m c t r (x 0)) (load_b m c t r (x 1))

theorem start_eq (x : S1408x1024.Idx) : k0_pay1 (F := Ideal) x = 0 := by
  rw [eq_ix2 x]
  pointwise [k0_pay1]

/-- The accumulator at the last step of a run: the sum of the run's eight parts. -/
theorem acc_last (c : Dev nD) (t : Fin cfg0.N) (h7 : t.val % 8 = 7) (x : S1408x1024.Idx) :
    (outsAt0 m c t.val t.isLt).2 x = 0 + ∑ s : Fin 8, part m c ⟨8 * (t.val / 8) + s.val, by have := lt16 t; have := N_0; omega⟩ x :=
  Pipeline.eq_sum_fin_of_reset_step_apply_of_flush (fun n h => (outsAt0 m c n h).2) 8 (fun _ => 0) (fun n x => part m c n x)
    (fun t h x => by
      rw [outsAt0_A m c t h (by omega)]; frame_out
      rw [step_eq, start_eq])
    (fun t h x => by
      by_cases h7 : t.val % 8 = 7
      · rw [outsAt0_C m c t h h7]; frame_out; rw [step_eq, read_unread_whole]
      · rw [outsAt0_B m c t h h7]; frame_out; rw [step_eq, read_unread_whole])
    t h7 x

/-- The last step of a run stores the accumulator as it then is. -/
theorem stored (c : Dev nD) (t : Fin cfg0.N) (h7 : t.val % 8 = 7) (y : S1408x1024.Idx) :
    (outsAt0 m c t.val t.isLt).1 y = (outsAt0 m c t.val t.isLt).2 y := by
  rw [outsAt0_C m c t (by omega) h7]
  frame_out
  rfl

/-- The whole gradient. -/
theorem final (c : Dev nD) : (dats m 0 c).arrAt 2 (cfgs 0).N
    = (fun j => grad m c (j 0) (j 1) : FVec Ideal S2816x1024 .bf16) := by
  refine (dats m 0 c).arrAt_eq_of_covers 2 _ (by decide +kernel) fun t hf y => ?_
  have h7 : t.val % 8 = 7 := (flush0_2 t).mp hf
  have ht := lt16 t
  have place : ((cfg0.win 2).blk t).view.emb y
      = (ix2 ⟨t.val / 8 * 1408 + (y 0).val, by have h1 : (y 0).val < 1408 := (y 0).isLt; omega⟩ (y 1) : S2816x1024.Idx) := by
    blk_ext [idx_val t]
  blk_simp; rw [after0_2]
  refine (stored m c t h7 y).trans ((acc_last m c t h7 y).trans ?_)
  rw [zero_add]
  refine Eq.trans ?_ (congrArg (fun j : S2816x1024.Idx => grad m c (j 0) (j 1)) place.symm)
  show _ = ∑ k : Fin 8192, _
  unfold part
  refine Fin.sum_mul_add_congr fun s r hl => ?_
  have e1 : (8 * (t.val / 8) + s.val) % 8 = s.val := by omega
  have e2 : (8 * (t.val / 8) + s.val) / 8 = t.val / 8 := by omega
  simp only [e1, e2]
  rfl

end Weight.Array

end
-- ==== Proof.WeightEqual.lean ====
/- The blocked product is the gradient of a projection with respect to its weights, in either layout. -/
module

public import proofs.«01_k».proof.Defs
public import proofs.«01_k».proof.Proof.WeightArray
public import proofs.«01_k».proof.Proof.Gen.WeightRefIdeal.Read
public import proofs.«01_k».proof.Proof.Gen.WeightTRefIdeal.Read
public import proofs.«01_k».proof.Proof.Gen.Weight.Frame

@[expose] public section

set_option maxRecDepth 16384

open Idealize.ShloMosaic Idealize.SL.Sem

namespace Weight.Equal

/-- The gradient of `w ↦ a · w` along `b`. -/
theorem equal : Cert.algebraic_WeightIdeal_WeightRefIdeal := by
  pair_intro
  · run_from Cert.WeightIdeal.Value.run_blocks m g
  · run_from Cert.WeightRefIdeal.Value.run m' g'
    obtain ⟨e0, e1⟩ := hagree c
    refine (Cert.WeightRefIdeal.Read.val_main_v6_eq _ _).trans ?_
    refine Eq.trans ?_ (Array.final m c).symm
    funext i
    rw [eq_ix2 i]
    unfold Cert.WeightRefIdeal.Read.val_main_v6 Cert.WeightRefIdeal.Read.val_main_v5 Cert.WeightRefIdeal.Read.val_main_v4
      Cert.WeightRefIdeal.Read.val_main_v3 Cert.WeightRefIdeal.Read.val_main_v1
    pointwise [Array.grad]
    exact Finset.sum_congr rfl fun k _ => mul_comm _ _

/-- The gradient of `v ↦ b · vᵀ` along `a`. -/
theorem equal_transposed : Cert.algebraic_WeightIdeal_WeightTRefIdeal := by
  pair_intro
  · run_from Cert.WeightIdeal.Value.run_blocks m g
  · run_from Cert.WeightTRefIdeal.Value.run m' g'
    obtain ⟨e0, e1⟩ := hagree c
    refine (Cert.WeightTRefIdeal.Read.val_main_v8_eq _ _).trans ?_
    refine Eq.trans ?_ (Array.final m c).symm
    funext i
    rw [eq_ix2 i]
    unfold Cert.WeightTRefIdeal.Read.val_main_v8 Cert.WeightTRefIdeal.Read.val_main_v7 Cert.WeightTRefIdeal.Read.val_main_v6
      Cert.WeightTRefIdeal.Read.val_main_v5 Cert.WeightTRefIdeal.Read.val_main_v4 Cert.WeightTRefIdeal.Read.val_main_v1
    pointwise [Array.grad]

/-- The kernel ends with its arguments as they were and every counter at zero; so does its ideal program. -/
theorem frame : Cert.quiescent_Weight := fun m ρ _ => Cert.Weight.Gen.frame m ρ

theorem ideal_frame : Cert.quiescent_WeightIdeal := fun m ρ _ => Cert.WeightIdeal.Gen.frame m ρ

theorem reference_frame : Cert.quiescent_WeightRefIdeal := fun m ρ _ =>
  θ_run_mono (Cert.WeightRefIdeal.Value.run (F := Ideal) m ρ)
    fun r h => ⟨fun c => (h c).2, sem_eq_zero_of_no_sems (by decide) r.2⟩

theorem transposed_frame : Cert.quiescent_WeightTRefIdeal := fun m ρ _ =>
  θ_run_mono (Cert.WeightTRefIdeal.Value.run (F := Ideal) m ρ)
    fun r h => ⟨fun c => (h c).2, sem_eq_zero_of_no_sems (by decide) r.2⟩

end Weight.Equal

end
-- ==== Proof.NormSpec.lean ====
/- The gradient of the norm, written out over whole arrays. -/
module

public import Idealize.ShloMosaic.PureOps.Ideal
public import Idealize.ShloMosaic.Lib.Pipeline.ValueKit

@[expose] public section

noncomputable section

open Idealize.ShloMosaic
open scoped BigOperators

namespace Norm

/-- The arrays that the gradient is computed from: the gradient of the norm's output, the norm's input, its gain and
    scale, and the gradient that passes it by. -/
structure Data where
  dh : Fin 4 → Fin 2048 → Fin 1024 → EReal
  x : Fin 4 → Fin 2048 → Fin 1024 → EReal
  g : Fin 1024 → EReal
  sc : Fin 4 → Fin 1024 → EReal
  dxo : Fin 4 → Fin 2048 → Fin 1024 → EReal

namespace Data

variable (D : Data)

/-- A row's mean square, and the small number added to it. -/
def square (b : Fin 4) (s : Fin 2048) : EReal :=
  Ideal.div (∑ d : Fin 1024, D.x b s d * D.x b s d) (Ideal.ofBits FTy.f32 1149239296#32) + Ideal.ofBits FTy.f32 897988541#32

/-- The row's factor. -/
def root (b : Fin 4) (s : Fin 2048) : EReal := Ideal.rsqrt (D.square b s)

/-- The normed row. -/
def xhat (b : Fin 4) (s : Fin 2048) (d : Fin 1024) : EReal := D.x b s d * D.root b s

/-- The gradient of the normed row. -/
def dxh (b : Fin 4) (s : Fin 2048) (d : Fin 1024) : EReal := D.dh b s d * (1 + D.sc b d) * D.g d

/-- The gradient of the norm's input. -/
def dx (b : Fin 4) (s : Fin 2048) (d : Fin 1024) : EReal :=
  D.dxo b s d + D.root b s * (D.dxh b s d
    - D.xhat b s d * Ideal.div (∑ k : Fin 1024, D.dxh b s k * D.xhat b s k) (Ideal.ofBits FTy.f32 1149239296#32))

/-- The gradients of the shift, of the scale and of the gain. -/
def dshift (b : Fin 4) (d : Fin 1024) : EReal := ∑ s : Fin 2048, D.dh b s d

def dscale (b : Fin 4) (d : Fin 1024) : EReal := ∑ s : Fin 2048, D.dh b s d * (D.xhat b s d * D.g d)

def dgain (d : Fin 1024) : EReal := ∑ b : Fin 4, ∑ s : Fin 2048, D.dh b s d * (1 + D.sc b d) * D.xhat b s d

end Data

end Norm

end
-- ==== Proof.NormBlock.lean ====
/- What one step of the norm's gradient computes from its block. -/
module

public import proofs.«01_k».proof.Proof.Gen.NormIdeal.Value
public import proofs.«01_k».proof.Proof.NormSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Norm.Block

open Cert.NormIdeal Cert.NormIdeal.Gen

theorem dh_at (v5 v9 : Vec Ideal S1x512x2816 .bf16) (v7 v11 : Vec Ideal S2816x1024 .bf16) (r : Fin 512) (d : Fin 1024) :
    k0_pay2 (F := Ideal) v5 v7 v9 v11 (ix2 r d)
      = (∑ h : Fin 2816, v5 (ix3 0 r h) * v7 (ix2 h d)) + ∑ h : Fin 2816, v9 (ix3 0 r h) * v11 (ix2 h d) := by
  pointwise [k0_pay2]

theorem root_at (v14 : Vec Ideal S1x512x1024 .f32) (r : Fin 512) :
    k0_pay4 (F := Ideal) v14 (ix2 r 0) = Ideal.rsqrt (Ideal.div (∑ d : Fin 1024, v14 (ix3 0 r d) * v14 (ix3 0 r d))
      (Ideal.ofBits FTy.f32 1149239296#32) + Ideal.ofBits FTy.f32 897988541#32) := by
  pointwise [k0_pay4, k0_pay3]

theorem xhat_at (v14 : Vec Ideal S1x512x1024 .f32) (r : Fin 512) (d : Fin 1024) :
    k0_pay5 (F := Ideal) v14 (ix2 r d) = v14 (ix3 0 r d) * k0_pay4 (F := Ideal) v14 (ix2 r 0) := by
  pointwise [k0_pay5, k0_pay3]

theorem dhn_at (v13 : FVec Ideal S512x1024 .f32) (v28 v29 : FVec Ideal S1x1024 .f32) (r : Fin 512) (d : Fin 1024) :
    k0_pay8 (F := Ideal) v13 v28 v29 (ix2 r d) = v13 (ix2 r d) * (v29 (ix2 0 d) + v28 (ix2 0 d)) := by
  pointwise [k0_pay8]

theorem one_at (d : Fin 1024) : k0_pay7 (F := Ideal) (ix2 0 d) = 1 := by
  pointwise [k0_pay7]

theorem scale_at (v27 : Vec Ideal S1x1x1024 .f32) (d : Fin 1024) : k0_pay6 (F := Ideal) v27 (ix2 0 d) = v27 (ix3 0 0 d) := by
  pointwise [k0_pay6]

theorem shift_at (v13 : FVec Ideal S512x1024 .f32) (d : Fin 1024) :
    k0_pay9 (F := Ideal) v13 (ix2 0 d) = ∑ r : Fin 512, v13 (ix2 r d) := by
  pointwise [k0_pay9]

theorem scaling_at (v13 v26 : FVec Ideal S512x1024 .f32) (v16 : Vec Ideal S1x1024 .f32) (d : Fin 1024) :
    k0_pay10 (F := Ideal) v13 v16 v26 (ix2 0 d) = ∑ r : Fin 512, v13 (ix2 r d) * (v26 (ix2 r d) * v16 (ix2 0 d)) := by
  pointwise [k0_pay10]

theorem gain_at (v13 v26 : FVec Ideal S512x1024 .f32) (v28 v29 : FVec Ideal S1x1024 .f32) (d : Fin 1024) :
    k0_pay11 (F := Ideal) v13 v26 v28 v29 (ix2 0 d)
      = ∑ r : Fin 512, v13 (ix2 r d) * (v29 (ix2 0 d) + v28 (ix2 0 d)) * v26 (ix2 r d) := by
  pointwise [k0_pay11, k0_pay8]

theorem dx_at (v13 v26 : FVec Ideal S512x1024 .f32) (v24 : FVec Ideal S512x1 .f32) (v16 : Vec Ideal S1x1024 .f32)
    (v28 v29 : FVec Ideal S1x1024 .f32) (v45 : Vec Ideal S1x512x1024 .f32) (r : Fin 512) (d : Fin 1024) :
    k0_pay12 (F := Ideal) v13 v16 v24 v26 v28 v29 v45 (ix3 0 r d)
      = v45 (ix3 0 r d) + v24 (ix2 r 0) * (v13 (ix2 r d) * (v29 (ix2 0 d) + v28 (ix2 0 d)) * v16 (ix2 0 d)
        - v26 (ix2 r d) * Ideal.div (∑ k : Fin 1024, v13 (ix2 r k) * (v29 (ix2 0 k) + v28 (ix2 0 k)) * v16 (ix2 0 k) * v26 (ix2 r k))
          (Ideal.ofBits FTy.f32 1149239296#32)) := by
  pointwise [k0_pay12, k0_pay8]

variable (m : (ℓ : Loc nD τ sig) → Buf (Elt Ideal) ℓ)

abbrev pa (c : Dev nD) : FVec Ideal S4x2048x2816 .bf16 := m ((c : Thread nD τ).loc main_arg0)
abbrev pb (c : Dev nD) : FVec Ideal S4x2048x2816 .bf16 := m ((c : Thread nD τ).loc main_arg1)
abbrev wa0 (c : Dev nD) : FVec Ideal S2816x1024 .bf16 := m ((c : Thread nD τ).loc main_arg2)
abbrev wb0 (c : Dev nD) : FVec Ideal S2816x1024 .bf16 := m ((c : Thread nD τ).loc main_arg3)

/-- The arguments on a device; the gradient of the norm's output is what comes back through the two products. -/
abbrev data (c : Dev nD) : Data where
  dh b s d := (∑ h : Fin 2816, pa m c (ix3 b s h) * wa0 m c (ix2 h d)) + ∑ h : Fin 2816, pb m c (ix3 b s h) * wb0 m c (ix2 h d)
  x b s d := (m ((c : Thread nD τ).loc main_arg4) : FVec Ideal S4x2048x1024 .f32) (ix3 b s d)
  g d := (m ((c : Thread nD τ).loc main_arg5) : FVec Ideal S1x1024 .f32) (ix2 0 d)
  sc b d := (m ((c : Thread nD τ).loc main_arg6) : FVec Ideal S4x1x1024 .f32) (ix3 b 0 d)
  dxo b s d := (m ((c : Thread nD τ).loc main_arg7) : FVec Ideal S4x2048x1024 .f32) (ix3 b s d)

theorem lt16 (t : Fin cfg0.N) : t.val < 16 := lt_of_lt_of_eq t.isLt N_0

/-- The sequence and the rows of a step. -/
def seq (t : Fin cfg0.N) : Fin 4 := ⟨t.val / 4, by have := lt16 t; omega⟩
def row (t : Fin cfg0.N) (r : Fin 512) : Fin 2048 := ⟨t.val % 4 * 512 + r.val, by omega⟩

theorem idx_val : ∀ t : Fin cfg0.N, win0_0.index t = ![t.val / 4, t.val % 4, 0] ∧ win0_1.index t = ![t.val / 4, t.val % 4, 0]
    ∧ win0_2.index t = ![t.val / 4, t.val % 4, 0] ∧ win0_3.index t = ![0, 0] ∧ win0_4.index t = ![t.val / 4, 0, 0]
    ∧ win0_5.index t = ![t.val / 4, t.val % 4, 0] ∧ win0_6.index t = ![t.val / 4, t.val % 4, 0]
    ∧ win0_7.index t = ![t.val / 4, 0, 0] ∧ win0_8.index t = ![t.val / 4, 0, 0] ∧ win0_9.index t = ![0, 0] :=
  (by decide +kernel : ∀ t : Fin grid0.N, _)

variable (c : Dev nD) (t : Fin cfg0.N)

theorem load_pa (r : Fin 512) (h : Fin 2816) : iblk m c 0 t (ix3 0 r h) = pa m c (ix3 (seq t) (row t r) h) := by
  blk_point [iblk, V, idx_val t, seq, row]
theorem load_pb (r : Fin 512) (h : Fin 2816) : iblk m c 1 t (ix3 0 r h) = pb m c (ix3 (seq t) (row t r) h) := by
  blk_point [iblk, V, idx_val t, seq, row]
theorem load_x (r : Fin 512) (d : Fin 1024) : iblk m c 2 t (ix3 0 r d) = (data m c).x (seq t) (row t r) d := by
  blk_point [iblk, V, idx_val t, seq, row]
theorem load_g (d : Fin 1024) : iblk m c 3 t (ix2 0 d) = (data m c).g d := by
  blk_point [iblk, V, idx_val t, seq, row]
theorem load_sc (d : Fin 1024) : iblk m c 4 t (ix3 0 0 d) = (data m c).sc (seq t) d := by
  blk_point [iblk, V, idx_val t, seq, row]
theorem load_dxo (r : Fin 512) (d : Fin 1024) : iblk m c 5 t (ix3 0 r d) = (data m c).dxo (seq t) (row t r) d := by
  blk_point [iblk, V, idx_val t, seq, row]

/-- An array copied whole holds what was copied, … -/
theorem canon_whole {S : Shape} {e : EltTy} (w : S.Idx → Elt Ideal e) : View.canon [(⟨Rect.whole S, w⟩ : View.Piece (Elt Ideal) S e)] = w :=
  View.canon_unit_zero rfl _ w

/-- … and a load of all of it reads that. -/
theorem load_copied {g : RefSig} {sp : Space} {n k : ℕ} (v : View g .tc sp ⟨2, ![n, k]⟩ .bf16)
    (w : (⟨2, ![n, k]⟩ : Shape).Idx → Elt Ideal .bf16) (inb) :
    v.readCov [⟨Rect.whole ⟨2, ![n, k]⟩, w⟩] (Rect.unit (s := ⟨2, ![n, k]⟩) ![0, 0] ![n, k] inb).toLoadRect = w := by
  rw [View.readCov_eq_canon', canon_whole]
  funext j
  refine congrArg w (funext fun a => Fin.ext ?_)
  match a with
  | ⟨0, _⟩ => show 0 + 1 * (j 0).val = (j 0).val; omega
  | ⟨1, _⟩ => show 0 + 1 * (j 1).val = (j 1).val; omega

/-- The weights are copied at the first step and stay. -/
theorem weights (n : ℕ) (hn : n < cfg0.N) : (outsAt0 m c n hn).2.2.2.2 = (wa0 m c, wb0 m c) := by
  induction n with
  | zero =>
    rw [outsAt0_A m c ⟨0, hn⟩ rfl rfl (by show ¬1 ≤ 0 % 4; omega) rfl (by show ¬1 ≤ 0; omega)]
    frame_out
    rw [canon_whole, canon_whole]
    rfl
  | succ n ih =>
    have h := ih (by omega)
    have h16 := lt16 ⟨n + 1, hn⟩
    by_cases h4 : (n + 1) % 4 = 0
    · rw [outsAt0_C m c ⟨n + 1, hn⟩ (by simp only at *; omega) h4 (by simp only at *; omega) (by simp only at *; omega) (by simp only at *; omega)]
      unfold sout0_C_0 sout0_C_1
      exact h
    · rw [outsAt0_B m c ⟨n + 1, hn⟩ (by simp only at *; omega) h4 (by simp only at *; omega) (by simp only at *; omega) (by simp only at *; omega)]
      unfold sout0_B_0 sout0_B_1
      exact h

/-- The gradient of the norm's output over the step's rows. -/
abbrev dhBlock : FVec Ideal S512x1024 .f32 := k0_pay2 (iblk m c 0 t) (wa0 m c) (iblk m c 1 t) (wb0 m c)

/-- What a step leaves in its block of the input's gradient. -/
abbrev dxBlock : Vec Ideal S1x512x1024 .f32 := k0_pay12 (dhBlock m c t) (iblk m c 3 t) (k0_pay4 (iblk m c 2 t)) (k0_pay5 (iblk m c 2 t))
  (k0_pay6 (iblk m c 4 t)) k0_pay7 (iblk m c 5 t)

theorem one : (outsAt0 m c t.val t.isLt).1 = dxBlock m c t := by
  by_cases h0 : t.val = 0
  · rw [outsAt0_A m c t (by omega) (by omega) (by omega) (by omega) (by omega)]
    frame_out
    rw [load_copied, load_copied]
    rfl
  have h := weights m c (t.val - 1) (by have := lt16 t; have := N_0; omega)
  have ha := congrArg Prod.fst h
  have hb := congrArg Prod.snd h
  have ht := lt16 t
  by_cases h4 : t.val % 4 = 0
  · rw [outsAt0_C m c t (by omega) (by omega) (by omega) (by omega) (by omega)]
    frame_out
    rw [read_unread_whole, read_unread_whole, ha, hb]
  · rw [outsAt0_B m c t (by omega) (by omega) (by omega) (by omega) (by omega)]
    frame_out
    rw [read_unread_whole, read_unread_whole, ha, hb]

/-- The two gradients accumulated over a sequence: at its first step … -/
theorem start (h4 : t.val % 4 = 0) : (outsAt0 m c t.val t.isLt).2.1 = k0_pay13 (dhBlock m c t)
    ∧ (outsAt0 m c t.val t.isLt).2.2.1 = k0_pay14 (dhBlock m c t) (iblk m c 3 t) (k0_pay5 (iblk m c 2 t)) := by
  by_cases h0 : t.val = 0
  · rw [outsAt0_A m c t (by omega) (by omega) (by omega) (by omega) (by omega)]
    frame_out
    rw [load_copied, load_copied]
    exact ⟨rfl, rfl⟩
  have h := weights m c (t.val - 1) (by have := lt16 t; have := N_0; omega)
  have ha := congrArg Prod.fst h
  have hb := congrArg Prod.snd h
  have ht := lt16 t
  rw [outsAt0_C m c t (by omega) (by omega) (by omega) (by omega) (by omega)]
  frame_out
  rw [read_unread_whole, read_unread_whole, ha, hb]
  exact ⟨rfl, rfl⟩

/-- … and at the others. -/
theorem next (h4 : ¬t.val % 4 = 0) : (outsAt0 m c t.val t.isLt).2.1
      = k0_pay15 (dhBlock m c t) (outsAt0 m c (t.val - 1) (by have := lt16 t; have := N_0; omega)).2.1
    ∧ (outsAt0 m c t.val t.isLt).2.2.1 = k0_pay16 (dhBlock m c t) (iblk m c 3 t) (k0_pay5 (iblk m c 2 t))
        (outsAt0 m c (t.val - 1) (by have := lt16 t; have := N_0; omega)).2.2.1 := by
  have h := weights m c (t.val - 1) (by have := lt16 t; have := N_0; omega)
  have ha := congrArg Prod.fst h
  have hb := congrArg Prod.snd h
  have ht := lt16 t
  rw [outsAt0_B m c t (by omega) (by omega) (by omega) (by omega) (by omega)]
  frame_out
  rw [read_unread_whole, read_unread_whole, ha, hb]
  exact ⟨rfl, rfl⟩

/-- The step's part of the gain's gradient. -/
abbrev gainBlock : FVec Ideal S1x1024 .f32 := k0_pay11 (dhBlock m c t) (k0_pay5 (iblk m c 2 t)) (k0_pay6 (iblk m c 4 t)) k0_pay7

theorem gain_start (h0 : t.val = 0) : (outsAt0 m c t.val t.isLt).2.2.2.1 = gainBlock m c t := by
  rw [outsAt0_A m c t (by omega) (by omega) (by omega) (by omega) (by omega)]
  frame_out
  rw [load_copied, load_copied]
  rfl

theorem gain_next (h0 : ¬t.val = 0) : (outsAt0 m c t.val t.isLt).2.2.2.1
    = k0_pay1 (gainBlock m c t) (outsAt0 m c (t.val - 1) (by have := lt16 t; have := N_0; omega)).2.2.2.1 := by
  have h := weights m c (t.val - 1) (by have := lt16 t; have := N_0; omega)
  have ha := congrArg Prod.fst h
  have hb := congrArg Prod.snd h
  have ht := lt16 t
  by_cases h4 : t.val % 4 = 0
  · rw [outsAt0_C m c t (by omega) (by omega) (by omega) (by omega) (by omega)]
    frame_out
    rw [read_unread_whole, read_unread_whole, ha, hb]
  · rw [outsAt0_B m c t (by omega) (by omega) (by omega) (by omega) (by omega)]
    frame_out
    rw [read_unread_whole, read_unread_whole, ha, hb]

end Norm.Block

end
-- ==== Proof.NormArray.lean ====
/- From the steps' blocks to the whole gradients of the norm. -/
module

public import proofs.«01_k».proof.Proof.NormBlock

@[expose] public section

set_option maxRecDepth 16384

noncomputable section

open Idealize.ShloMosaic Idealize.ShloMosaic.TcCoe Idealize.SL.Sem
open Idealize.ShloMosaic.Pipeline (Dat)
open scoped BigOperators

namespace Norm.Array

open Cert.NormIdeal Cert.NormIdeal.Gen Norm.Block

variable (m : (ℓ : Loc nD τ sig) → Buf (Elt Ideal) ℓ) (c : Dev nD) (t : Fin cfg0.N)

theorem dh_block (r : Fin 512) (d : Fin 1024) : dhBlock m c t (ix2 r d) = (data m c).dh (seq t) (row t r) d := by
  refine (dh_at _ _ _ _ r d).trans ?_
  exact congrArg₂ (· + ·) (Finset.sum_congr rfl fun h _ => congrArg (· * _) (load_pa m c t r h))
    (Finset.sum_congr rfl fun h _ => congrArg (· * _) (load_pb m c t r h))

theorem root_block (r : Fin 512) : k0_pay4 (F := Ideal) (iblk m c 2 t) (ix2 r 0) = (data m c).root (seq t) (row t r) := by
  refine (root_at _ r).trans ?_
  unfold Data.root Data.square
  simp only [load_x]

theorem xhat_block (r : Fin 512) (d : Fin 1024) :
    k0_pay5 (F := Ideal) (iblk m c 2 t) (ix2 r d) = (data m c).xhat (seq t) (row t r) d := by
  rw [xhat_at, root_block, load_x]
  rfl

theorem dx_block (r : Fin 512) (d : Fin 1024) : dxBlock m c t (ix3 0 r d) = (data m c).dx (seq t) (row t r) d := by
  refine (dx_at _ _ _ _ _ _ _ r d).trans ?_
  simp only [dh_block, root_block, xhat_block, one_at, scale_at, load_sc, load_g, load_dxo]
  rfl

theorem shift_block (d : Fin 1024) : k0_pay9 (F := Ideal) (dhBlock m c t) (ix2 0 d) = ∑ r : Fin 512, (data m c).dh (seq t) (row t r) d := by
  rw [shift_at]
  simp only [dh_block]

theorem scale_block (d : Fin 1024) : k0_pay10 (F := Ideal) (dhBlock m c t) (iblk m c 3 t) (k0_pay5 (iblk m c 2 t)) (ix2 0 d)
    = ∑ r : Fin 512, (data m c).dh (seq t) (row t r) d * ((data m c).xhat (seq t) (row t r) d * (data m c).g d) := by
  rw [scaling_at]
  simp only [dh_block, xhat_block, load_g]

theorem gain_block (d : Fin 1024) : gainBlock m c t (ix2 0 d)
    = ∑ r : Fin 512, (data m c).dh (seq t) (row t r) d * (1 + (data m c).sc (seq t) d) * (data m c).xhat (seq t) (row t r) d := by
  refine (gain_at _ _ _ _ d).trans ?_
  simp only [dh_block, xhat_block, one_at, scale_at, load_sc]

theorem ix3_of {n : ℕ} (x : (⟨3, ![1, n, 1024]⟩ : Shape).Idx) : x = ix3 0 (x 1) (x 2) := by
  have h0 : (x 0).val < 1 := (x 0).isLt
  funext a; apply Fin.ext
  match a with
  | ⟨0, _⟩ => show (x 0).val = 0; omega
  | ⟨1, _⟩ => rfl
  | ⟨2, _⟩ => rfl

theorem ix3_zero (x : S1x1x1024.Idx) : x = ix3 0 0 (x 2) := by
  have h0 : (x 0).val < 1 := (x 0).isLt
  have h1 : (x 1).val < 1 := (x 1).isLt
  funext a; apply Fin.ext
  match a with
  | ⟨0, _⟩ => show (x 0).val = 0; omega
  | ⟨1, _⟩ => show (x 1).val = 0; omega
  | ⟨2, _⟩ => rfl

theorem ix3_mid (x : S4x1x1024.Idx) : x = ix3 (x 0) 0 (x 2) := by
  have h1 : (x 1).val < 1 := (x 1).isLt
  funext a; apply Fin.ext
  match a with
  | ⟨0, _⟩ => rfl
  | ⟨1, _⟩ => show (x 1).val = 0; omega
  | ⟨2, _⟩ => rfl

theorem ix2_zero (x : S1x1024.Idx) : x = ix2 0 (x 1) := by
  have h0 : (x 0).val < 1 := (x 0).isLt
  funext a; apply Fin.ext
  match a with
  | ⟨0, _⟩ => show (x 0).val = 0; omega
  | ⟨1, _⟩ => rfl

/-- The input's gradient, whole. -/
theorem final_6 : (dats m 0 c).arrAt 6 (cfgs 0).N
    = (fun j => (data m c).dx (j 0) (j 1) (j 2) : FVec Ideal S4x2048x1024 .f32) := by
  refine (dats m 0 c).arrAt_eq_of_covers 6 _ (by decide +kernel) fun t hf y => ?_
  have ht := lt16 t
  have place : ((cfg0.win 6).blk t).view.emb y = (ix3 (seq t) (row t (y 1)) (y 2) : S4x2048x1024.Idx) := by
    have h0 : (y 0).val < 1 := (y 0).isLt
    blk_ext [idx_val t, seq, row]
  blk_simp; rw [after0_6]
  refine (congrFun (one m c t) y).trans ((congrArg (dxBlock m c t) (ix3_of y)).trans ((dx_block m c t (y 1) (y 2)).trans ?_))
  exact (congrArg (fun j : S4x2048x1024.Idx => (data m c).dx (j 0) (j 1) (j 2)) place.symm)

/-- A sum over a sequence's steps of sums over their rows is the sum over all rows. -/
theorem sum_rows (f : Fin 4 → Fin 2048 → EReal) (n : ℕ) (hn : n < 4) (h : ∀ s : Fin 4, 4 * n + s.val < cfg0.N) :
    ∑ s : Fin 4, ∑ r : Fin 512, f (seq ⟨4 * n + s.val, h s⟩) (row ⟨4 * n + s.val, h s⟩ r) = ∑ s : Fin 2048, f ⟨n, hn⟩ s := by
  refine Fin.sum_mul_add_congr fun s r hl => ?_
  have e1 : (4 * n + s.val) / 4 = n := by omega
  have e2 : (4 * n + s.val) % 4 = s.val := by omega
  unfold seq row
  simp only [e1, e2]

theorem add_shift (v13 : FVec Ideal S512x1024 .f32) (z : Vec Ideal S1x1x1024 .f32) (d : Fin 1024) :
    k0_pay15 (F := Ideal) v13 z (ix3 0 0 d) = z (ix3 0 0 d) + k0_pay9 (F := Ideal) v13 (ix2 0 d) := by
  pointwise [k0_pay15]

theorem first_shift (v13 : FVec Ideal S512x1024 .f32) (d : Fin 1024) :
    k0_pay13 (F := Ideal) v13 (ix3 0 0 d) = k0_pay9 (F := Ideal) v13 (ix2 0 d) := by
  pointwise [k0_pay13]

theorem add_scale (v13 v26 : FVec Ideal S512x1024 .f32) (v16 : Vec Ideal S1x1024 .f32) (z : Vec Ideal S1x1x1024 .f32) (d : Fin 1024) :
    k0_pay16 (F := Ideal) v13 v16 v26 z (ix3 0 0 d) = z (ix3 0 0 d) + k0_pay10 (F := Ideal) v13 v16 v26 (ix2 0 d) := by
  pointwise [k0_pay16]

theorem first_scale (v13 v26 : FVec Ideal S512x1024 .f32) (v16 : Vec Ideal S1x1024 .f32) (d : Fin 1024) :
    k0_pay14 (F := Ideal) v13 v16 v26 (ix3 0 0 d) = k0_pay10 (F := Ideal) v13 v16 v26 (ix2 0 d) := by
  pointwise [k0_pay14]

theorem add_gain (u z : FVec Ideal S1x1024 .f32) (d : Fin 1024) :
    k0_pay1 (F := Ideal) u z (ix2 0 d) = z (ix2 0 d) + u (ix2 0 d) := by
  pointwise [k0_pay1]

/-- What the shift's gradient holds at a sequence's last step, … -/
theorem shift_last (h3 : t.val % 4 = 3) (y : S1x1x1024.Idx) :
    (outsAt0 m c t.val t.isLt).2.1 y = (data m c).dshift (seq t) (y 2) := by
  have ht := lt16 t
  refine (Pipeline.eq_sum_fin_of_reset_step_apply_of_flush (fun n h => (outsAt0 m c n h).2.1) 4 (fun _ => 0)
    (fun n (x : S1x1x1024.Idx) => ∑ r : Fin 512, (data m c).dh (seq n) (row n r) (x 2))
    (fun t h x => by
      rw [(start m c t h).1]
      exact (congrArg (k0_pay13 (F := Ideal) _) (ix3_zero x)).trans
        ((first_shift _ (x 2)).trans ((shift_block m c t (x 2)).trans (zero_add _).symm)))
    (fun t h x => by
      rw [(next m c t h).1]
      exact (congrArg (k0_pay15 (F := Ideal) _ _) (ix3_zero x)).trans ((add_shift _ _ (x 2)).trans
        (congrArg₂ (· + ·) (congrArg _ (ix3_zero x).symm) (shift_block m c t (x 2)))))
    t h3 y).trans ?_
  rw [zero_add]
  exact sum_rows (fun b s => (data m c).dh b s (y 2)) (t.val / 4) (by omega) fun s => by have := N_0; omega

/-- … and the scale's. -/
theorem scale_last (h3 : t.val % 4 = 3) (y : S1x1x1024.Idx) :
    (outsAt0 m c t.val t.isLt).2.2.1 y = (data m c).dscale (seq t) (y 2) := by
  have ht := lt16 t
  refine (Pipeline.eq_sum_fin_of_reset_step_apply_of_flush (fun n h => (outsAt0 m c n h).2.2.1) 4 (fun _ => 0)
    (fun n (x : S1x1x1024.Idx) => ∑ r : Fin 512, (data m c).dh (seq n) (row n r) (x 2)
      * ((data m c).xhat (seq n) (row n r) (x 2) * (data m c).g (x 2)))
    (fun t h x => by
      rw [(start m c t h).2]
      exact (congrArg (k0_pay14 (F := Ideal) _ _ _) (ix3_zero x)).trans
        ((first_scale _ _ _ (x 2)).trans ((scale_block m c t (x 2)).trans (zero_add _).symm)))
    (fun t h x => by
      rw [(next m c t h).2]
      exact (congrArg (k0_pay16 (F := Ideal) _ _ _ _) (ix3_zero x)).trans ((add_scale _ _ _ _ (x 2)).trans
        (congrArg₂ (· + ·) (congrArg _ (ix3_zero x).symm) (scale_block m c t (x 2)))))
    t h3 y).trans ?_
  rw [zero_add]
  exact sum_rows (fun b s => (data m c).dh b s (y 2) * ((data m c).xhat b s (y 2) * (data m c).g (y 2))) (t.val / 4) (by omega)
    fun s => by have := N_0; omega

/-- What one step adds to the gain's gradient. -/
def gainPart (x : S1x1024.Idx) : EReal := ∑ r : Fin 512, (data m c).dh (seq t) (row t r) (x 1)
  * (1 + (data m c).sc (seq t) (x 1)) * (data m c).xhat (seq t) (row t r) (x 1)

theorem gain_part (x : S1x1024.Idx) : gainBlock m c t x = gainPart m c t x :=
  (congrArg (gainBlock m c t) (ix2_zero x)).trans (gain_block m c t (x 1))

/-- The gain's gradient, whole. -/
theorem final_9 : (dats m 0 c).arrAt 9 (cfgs 0).N = (fun j => (data m c).dgain (j 1) : FVec Ideal S1x1024 .f32) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun t x => gainPart m c t x)
    (fun t h x => by
      rw [gain_start m c t (by have := lt16 t; omega)]
      exact (gain_part m c t x).trans (zero_add _).symm)
    (fun t h x => by
      rw [gain_next m c t (by omega)]
      exact (congrArg (k0_pay1 (F := Ideal) _ _) (ix2_zero x)).trans ((add_gain _ _ (x 1)).trans
        (congrArg₂ (· + ·) (congrArg _ (ix2_zero x).symm) ((gain_block m c t (x 1))))))
    (le_of_eq N_0) t0_15 rfl j, zero_add]
  show ∑ t : Fin cfg0.N, gainPart m c t j = (data m c).dgain (j 1)
  unfold gainPart Data.dgain
  refine Fin.sum_points_lanes_congr 4 fun t r ha hl => ?_
  rfl

end Norm.Array

end
-- ==== Proof.NormFinal.lean ====
/- The norm's gradients that a sequence's last step writes. -/
module

public import proofs.«01_k».proof.Proof.NormArray

@[expose] public section

set_option maxRecDepth 16384

noncomputable section

open Idealize.ShloMosaic Idealize.ShloMosaic.TcCoe Idealize.SL.Sem
open Idealize.ShloMosaic.Pipeline (Dat)
open scoped BigOperators

namespace Norm.Array

open Cert.NormIdeal Cert.NormIdeal.Gen Norm.Block

variable (m : (ℓ : Loc nD τ sig) → Buf (Elt Ideal) ℓ) (c : Dev nD)

/-- The shift's gradient, whole. -/
theorem final_7 : (dats m 0 c).arrAt 7 (cfgs 0).N
    = (fun j => (data m c).dshift (j 0) (j 2) : FVec Ideal S4x1x1024 .f32) := by
  refine (dats m 0 c).arrAt_eq_of_covers 7 _ (by decide +kernel) fun t hf y => ?_
  have ht := lt16 t
  have place : ((cfg0.win 7).blk t).view.emb y = (ix3 (seq t) 0 (y 2) : S4x1x1024.Idx) := by
    have h0 : (y 0).val < 1 := (y 0).isLt
    have h1 : (y 1).val < 1 := (y 1).isLt
    blk_ext [idx_val t, seq]
  blk_simp; rw [after0_7]
  have h := shift_last m c t ((flush0_7 t).mp hf) y
  refine h.trans ?_
  have p0 : (win0_7.blk t).view.emb y 0 = seq t := congrFun place 0
  have p2 : (win0_7.blk t).view.emb y 2 = y 2 := congrFun place 2
  exact congrArg₂ (data m c).dshift p0.symm p2.symm
/-- The scale's gradient, whole. -/
theorem final_8 : (dats m 0 c).arrAt 8 (cfgs 0).N
    = (fun j => (data m c).dscale (j 0) (j 2) : FVec Ideal S4x1x1024 .f32) := by
  refine (dats m 0 c).arrAt_eq_of_covers 8 _ (by decide +kernel) fun t hf y => ?_
  have ht := lt16 t
  have place : ((cfg0.win 8).blk t).view.emb y = (ix3 (seq t) 0 (y 2) : S4x1x1024.Idx) := by
    have h0 : (y 0).val < 1 := (y 0).isLt
    have h1 : (y 1).val < 1 := (y 1).isLt
    blk_ext [idx_val t, seq]
  blk_simp; rw [after0_8]
  have h := scale_last m c t ((flush0_8 t).mp hf) y
  refine h.trans ?_
  have p0 : (win0_8.blk t).view.emb y 0 = seq t := congrFun place 0
  have p2 : (win0_8.blk t).view.emb y 2 = y 2 := congrFun place 2
  exact congrArg₂ (data m c).dscale p0.symm p2.symm

end Norm.Array

end
-- ==== Proof.NormReal.lean ====
/- The two ways of writing the gradient through a root mean square agree on real numbers. -/
module

public import Idealize.ShloMosaic.PureOps.Ideal
public import Idealize.ShloMosaic.Lib.Pipeline.ValueKit

@[expose] public section

noncomputable section

open Idealize.ShloMosaic
open scoped BigOperators

namespace Norm.Real

theorem c1024 : Ideal.ofBits FTy.f32 1149239296#32 = ((1024 : ℝ) : EReal) := by
  simp [Ideal.ofBits, Ideal.ieee, -EReal.coe_mul]; norm_num

theorem half : Ideal.ofBits FTy.f32 3204448256#32 = ((-(1 / 2) : ℝ) : EReal) := by
  simp [Ideal.ofBits, Ideal.ieee, -EReal.coe_mul]; norm_num

/-- The number added to the mean square is positive. -/
theorem small : ∃ e : ℝ, 0 < e ∧ Ideal.ofBits FTy.f32 897988541#32 = (e : EReal) := by
  refine ⟨8796093 * (2 : ℝ) ^ (-43 : ℤ), by positivity, ?_⟩
  simp [Ideal.ofBits, Ideal.ieee, -EReal.coe_mul]

theorem sum_coe {n : ℕ} (f : Fin n → ℝ) : ∑ k, (f k : EReal) = ((∑ k, f k : ℝ) : EReal) := by
  induction (Finset.univ : Finset (Fin n)) using Finset.induction_on with
  | empty => simp
  | insert a s h ih => rw [Finset.sum_insert h, Finset.sum_insert h, ih, EReal.coe_add]

/-- With `s = ∑ u x` and `r` the root: the derivative of the root taken on its own is the projection written out. -/
theorem through (x u : Fin 1024 → ℝ) (j : Fin 1024) (v : EReal)
    (hv : v = Ideal.div (∑ k, (x k : EReal) * (x k : EReal)) (Ideal.ofBits FTy.f32 1149239296#32) + Ideal.ofBits FTy.f32 897988541#32) :
    Ideal.rsqrt v * ((u j : EReal) - (x j : EReal) * Ideal.rsqrt v
        * Ideal.div (∑ k, (u k : EReal) * ((x k : EReal) * Ideal.rsqrt v)) (Ideal.ofBits FTy.f32 1149239296#32))
      = (u j : EReal) * Ideal.rsqrt v
        + (x j : EReal) * Ideal.div ((∑ k, (x k : EReal) * (u k : EReal))
            * (Ideal.ofBits FTy.f32 3204448256#32 * Ideal.div (Ideal.rsqrt v) v)) (Ideal.ofBits FTy.f32 1149239296#32)
        + Ideal.div ((∑ k, (x k : EReal) * (u k : EReal))
            * (Ideal.ofBits FTy.f32 3204448256#32 * Ideal.div (Ideal.rsqrt v) v)) (Ideal.ofBits FTy.f32 1149239296#32) * (x j : EReal) := by
  obtain ⟨e, he, hs⟩ := small
  have hn : (1024 : ℝ) ≠ 0 := by norm_num
  have hV : v = (((∑ k, x k * x k) * (1 / 1024) + e : ℝ) : EReal) := by
    rw [hv, hs, c1024, Ideal.div_coe hn]
    simp only [← EReal.coe_mul, sum_coe, ← EReal.coe_add]
  have hpos : 0 < (∑ k, x k * x k) * (1 / 1024) + e := by
    have : 0 ≤ ∑ k, x k * x k := Finset.sum_nonneg fun k _ => mul_self_nonneg _
    positivity
  generalize (∑ k, x k * x k) * (1 / 1024) + e = V at hV hpos
  have hR : Ideal.rsqrt v = (((Real.sqrt V)⁻¹ : ℝ) : EReal) := by
    rw [hV, Ideal.rsqrt_coe, if_neg (not_lt.mpr hpos.le), if_neg hpos.ne']
  have hq : (Real.sqrt V)⁻¹ * (Real.sqrt V)⁻¹ = 1 / V := by
    rw [← mul_inv, Real.mul_self_sqrt hpos.le, one_div]
  rw [hR, hV, c1024, half]
  simp only [Ideal.div_coe hn, Ideal.div_coe hpos.ne', ← EReal.coe_mul, sum_coe, ← EReal.coe_add, ← EReal.coe_sub]
  refine congrArg _ ?_
  generalize (Real.sqrt V)⁻¹ = r at hq
  have h1 : ∑ k, u k * (x k * r) = (∑ k, x k * u k) * r := by
    rw [Finset.sum_mul]
    exact Finset.sum_congr rfl fun k _ => by ring
  rw [h1, ← hq]
  ring

end Norm.Real

end
-- ==== Proof.NormReference.lean ====
/- The reference's gradient of the norm, stage by stage, in the terms of `NormSpec`. -/
module

public import proofs.«01_k».proof.Proof.NormSpec
public import proofs.«01_k».proof.Proof.NormReal
public import proofs.«01_k».proof.Proof.ConvReference
public import proofs.«01_k».proof.Proof.Gen.NormRefIdeal.Read

@[expose] public section

set_option maxRecDepth 16384

noncomputable section

open Idealize.ShloMosaic Idealize.ShloMosaic.TcCoe Idealize.SL.Sem
open scoped BigOperators

namespace Norm.Reference

open Cert.NormRefIdeal Cert.NormRefIdeal.Read

variable (x0 x1 : FVec Ideal S4x2048x2816 .bf16) (x2 x3 : FVec Ideal S2816x1024 .bf16) (x4 : FVec Ideal S4x2048x1024 .f32)
  (x5 : FVec Ideal S1x1024 .f32) (x6 : FVec Ideal S4x1x1024 .f32) (x7 : FVec Ideal S4x2048x1024 .f32)

/-- What comes back through the two products. -/
def back (b : Fin 4) (s : Fin 2048) (d : Fin 1024) : EReal :=
  (∑ h : Fin 2816, x0 (ix3 b s h) * x2 (ix2 h d)) + ∑ h : Fin 2816, x1 (ix3 b s h) * x3 (ix2 h d)

/-- The arguments, read by their indices. -/
abbrev of : Data where
  dh := back x0 x1 x2 x3
  x b s d := x4 (ix3 b s d)
  g d := x5 (ix2 0 d)
  sc b d := x6 (ix3 b 0 d)
  dxo b s d := x7 (ix3 b s d)

variable (b : Fin 4) (s : Fin 2048) (d : Fin 1024)

/-- The gradient of the norm's output. -/
theorem dh : val_main_v33 (F := Ideal) x0 x1 x2 x3 (ix3 b s d) = back x0 x1 x2 x3 b s d := by
  unfold val_main_v33 val_main_v32 val_main_v31 val_main_v30 val_main_v29 val_main_v27 val_main_v25 val_main_v1 val_main_v0
  pointwise []
  exact add_comm _ _

/-- A row's mean square, … -/
theorem square : val_main_v9 (F := Ideal) x4 (ix3 b s 0) = (of x0 x1 x2 x3 x4 x5 x6 x7).square b s := by
  unfold val_main_v9 val_main_v8 val_main_v7 val_main_v6 val_main_v5 val_main_v4 val_main_v3 val_main_cst_0 val_main_cst_1 val_main_cst_2
  pointwise []
  rfl

/-- … its root, … -/
theorem root : val_main_v10 (F := Ideal) x4 (ix3 b s 0) = (of x0 x1 x2 x3 x4 x5 x6 x7).root b s := by
  unfold Data.root
  rw [← square]
  unfold val_main_v10
  pointwise []

/-- … and the root's derivative. -/
theorem slope : val_main_v13 (F := Ideal) x4 (ix3 b s 0) = Ideal.ofBits FTy.f32 3204448256#32
    * Ideal.div ((of x0 x1 x2 x3 x4 x5 x6 x7).root b s) ((of x0 x1 x2 x3 x4 x5 x6 x7).square b s) := by
  rw [← square, ← root]
  unfold val_main_v13 val_main_v12 val_main_v11 val_main_cst_3
  pointwise []

/-- The normed row. -/
theorem xhat : val_main_v15 (F := Ideal) x4 (ix3 b s d) = (of x0 x1 x2 x3 x4 x5 x6 x7).xhat b s d := by
  unfold Data.xhat
  rw [← root]
  unfold val_main_v15 val_main_v14
  pointwise []

/-- The shift's gradient. -/
theorem dshift : val_main_v35 (F := Ideal) x0 x1 x2 x3 (ix3 b 0 d) = (of x0 x1 x2 x3 x4 x5 x6 x7).dshift b d := by
  unfold Data.dshift
  simp only [← dh]
  unfold val_main_v35 val_main_v34 val_main_cst_5
  pointwise []

/-- The scale's gradient. -/
theorem dscale : val_main_v38 (F := Ideal) x0 x1 x2 x3 x4 x5 (ix3 b 0 d) = (of x0 x1 x2 x3 x4 x5 x6 x7).dscale b d := by
  unfold Data.dscale
  simp only [← dh, ← xhat]
  unfold val_main_v38 val_main_v37 val_main_v36 val_main_v18 val_main_v17 val_main_v16 val_main_cst_6
  pointwise []
  exact Finset.sum_congr rfl fun k _ => mul_comm _ _

/-- The gradient of the scaled row before its gain. -/
theorem scaled : val_main_v40 (F := Ideal) x0 x1 x2 x3 x6 (ix3 b s d)
    = back x0 x1 x2 x3 b s d * (1 + x6 (ix3 b 0 d)) := by
  rw [← dh]
  unfold val_main_v40 val_main_v39 val_main_v20 val_main_v19 val_main_cst_4
  pointwise []

/-- The gain's gradient. -/
theorem dgain : val_main_v47 (F := Ideal) x0 x1 x2 x3 x4 x6 (ix2 0 d) = (of x0 x1 x2 x3 x4 x5 x6 x7).dgain d := by
  unfold Data.dgain
  simp only [← xhat]
  unfold val_main_v47 val_main_v46 val_main_v43 val_main_v42 val_main_v41 val_main_cst_7 val_main_cst_8
  pointwise [Conv.sum_leading]
  rw [Fin.sum_univ_one, Fin.sum_univ_one]
  exact Finset.sum_congr rfl fun b _ => Finset.sum_congr rfl fun s _ => by
    rw [scaled]
    exact mul_comm _ _

/-- The gradient of the normed row. -/
theorem dxh : val_main_v45 (F := Ideal) x0 x1 x2 x3 x5 x6 (ix3 b s d) = (of x0 x1 x2 x3 x4 x5 x6 x7).dxh b s d := by
  unfold Data.dxh
  rw [← scaled]
  unfold val_main_v45 val_main_v44 val_main_v16
  pointwise []

/-- What reaches every entry of a row through its root. -/
theorem through : val_main_v57 (F := Ideal) x0 x1 x2 x3 x4 x5 x6 (ix3 b s d)
    = Ideal.div ((∑ k : Fin 1024, x4 (ix3 b s k) * (of x0 x1 x2 x3 x4 x5 x6 x7).dxh b s k) * (Ideal.ofBits FTy.f32 3204448256#32
        * Ideal.div ((of x0 x1 x2 x3 x4 x5 x6 x7).root b s) ((of x0 x1 x2 x3 x4 x5 x6 x7).square b s)))
      (Ideal.ofBits FTy.f32 1149239296#32) := by
  simp only [← dxh]
  rw [← slope]
  unfold val_main_v57 val_main_v56 val_main_v55 val_main_v54 val_main_v53 val_main_v50 val_main_v49 val_main_v48
    val_main_cst_9 val_main_cst_10 val_main_cst_11
  pointwise []
  exact Fin.sum_univ_one _

/-- The gradient of the norm's input, through the two uses of the input in the square. -/
theorem dx : val_main_v62 (F := Ideal) x0 x1 x2 x3 x4 x5 x6 x7 (ix3 b s d)
    = x7 (ix3 b s d) + ((of x0 x1 x2 x3 x4 x5 x6 x7).dxh b s d * (of x0 x1 x2 x3 x4 x5 x6 x7).root b s
      + x4 (ix3 b s d) * val_main_v57 (F := Ideal) x0 x1 x2 x3 x4 x5 x6 (ix3 b s d)
      + val_main_v57 (F := Ideal) x0 x1 x2 x3 x4 x5 x6 (ix3 b s d) * x4 (ix3 b s d)) := by
  rw [← dxh, ← root]
  unfold val_main_v62 val_main_v61 val_main_v60 val_main_v59 val_main_v58 val_main_v52 val_main_v51
  pointwise []

end Norm.Reference

end
-- ==== Proof.NormEqual.lean ====
/- The norm's gradients, computed block by block, are the gradients of the plain norm and products. -/
module

public import proofs.«01_k».proof.Defs
public import proofs.«01_k».proof.Proof.NormFinal
public import proofs.«01_k».proof.Proof.NormReference
public import proofs.«01_k».proof.Proof.Gen.Norm.Frame

@[expose] public section

set_option maxRecDepth 16384

open Idealize.ShloMosaic Idealize.ShloMosaic.TcCoe Idealize.SL.Sem
open scoped BigOperators

namespace Norm

/-- The entries that the row's gradient reads are real numbers. -/
structure Data.Finite (D : Data) : Prop where
  dh : ∀ b s d, ∃ r : ℝ, D.dh b s d = r
  x : ∀ b s d, ∃ r : ℝ, D.x b s d = r
  g : ∀ d, ∃ r : ℝ, D.g d = r
  sc : ∀ b d, ∃ r : ℝ, D.sc b d = r

theorem real_mul {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

theorem real_add {a b : EReal} (ha : ∃ r : ℝ, a = r) (hb : ∃ r : ℝ, b = r) : ∃ r : ℝ, a + b = r := by
  obtain ⟨p, rfl⟩ := ha
  obtain ⟨q, rfl⟩ := hb
  exact ⟨p + q, (EReal.coe_add p q).symm⟩

theorem real_sum {n : ℕ} {f : Fin n → EReal} (h : ∀ k, ∃ r : ℝ, f k = r) : ∃ r : ℝ, ∑ k, f k = r := by
  choose u hu using h
  exact ⟨∑ k, u k, by rw [← Real.sum_coe]; exact Finset.sum_congr rfl fun k _ => hu k⟩

theorem Data.Finite.dxh {D : Data} (h : D.Finite) (b : Fin 4) (s : Fin 2048) (d : Fin 1024) : ∃ r : ℝ, D.dxh b s d = r :=
  real_mul (real_mul (h.dh b s d) (real_add ⟨1, rfl⟩ (h.sc b d))) (h.g d)

/-- An absolute value below infinity is that of a real number. -/
theorem real_of_abs {x : EReal} (h : Ideal.cmp .olt (max x (-x)) (Ideal.ofBits FTy.f32 0x7F800000#32) = 1) : ∃ r : ℝ, x = r := by
  have htop : Ideal.ofBits .f32 0x7F800000#32 = ⊤ := by simp [Ideal.ofBits, Ideal.ieee]
  rw [htop, Ideal.cmp_olt_eq_one, max_lt_iff] at h
  induction x using EReal.rec with
  | bot => simp at h
  | coe r => exact ⟨r, rfl⟩
  | top => simp at h

end Norm

namespace Norm.Equal

instance facts : Cert.Pre_finite.Facts where
  bitsLt_bf16_f32 := by decide
  bcast_S_S4x2048x2816 := by decide +kernel
  bcast_S_S2816x1024 := by decide +kernel
  bcast_S_S4x2048x1024 := by decide +kernel
  bcast_S_S1x1024 := by decide +kernel
  bcast_S_S4x1x1024 := by decide +kernel

/-- What the precondition says of the arguments. -/
theorem finite (m : (ℓ : Loc Cert.NormIdeal.nD Cert.NormIdeal.τ Cert.NormIdeal.sig) → Buf (Elt Ideal) ℓ)
    (h : Cert.Pre_NormIdeal_finite m) (c : Dev Cert.NormIdeal.nD) : (Block.data m c).Finite := by
  obtain ⟨h0, h1, h2, h3, h4, h5, h6⟩ := h c
  exact ⟨fun b s d => real_add
      (real_sum fun k => real_mul (real_of_abs (congrFun h0 (ix3 b s k))) (real_of_abs (congrFun h2 (ix2 k d))))
      (real_sum fun k => real_mul (real_of_abs (congrFun h1 (ix3 b s k))) (real_of_abs (congrFun h3 (ix2 k d)))),
    fun b s d => real_of_abs (congrFun h4 (ix3 b s d)), fun d => real_of_abs (congrFun h5 (ix2 0 d)),
    fun b d => real_of_abs (congrFun h6 (ix3 b 0 d))⟩

/-- On real numbers, the two ways of writing the input's gradient agree. -/
theorem dx_eq {D : Data} (h : D.Finite) (b : Fin 4) (s : Fin 2048) (d : Fin 1024) (q : EReal)
    (hq : q = Ideal.div ((∑ k : Fin 1024, D.x b s k * D.dxh b s k) * (Ideal.ofBits FTy.f32 3204448256#32
        * Ideal.div (D.root b s) (D.square b s))) (Ideal.ofBits FTy.f32 1149239296#32)) :
    D.dxo b s d + (D.dxh b s d * D.root b s + D.x b s d * q + q * D.x b s d) = D.dx b s d := by
  choose x hx using h.x b s
  choose u hu using h.dxh b s
  unfold Data.dx Data.xhat
  refine congrArg (D.dxo b s d + ·) ?_
  have hv : D.square b s = Ideal.div (∑ k, (x k : EReal) * (x k : EReal)) (Ideal.ofBits FTy.f32 1149239296#32)
      + Ideal.ofBits FTy.f32 897988541#32 := by
    unfold Data.square
    simp only [hx]
  rw [hq]
  unfold Data.root
  simp only [hx, hu]
  exact (Real.through x u d _ hv).symm

/-- The reference's gradient of the input is the one that the blocks give. -/
theorem whole (D : Data) (x0 x1 : FVec Ideal Cert.NormRefIdeal.S4x2048x2816 .bf16) (x2 x3 : FVec Ideal Cert.NormRefIdeal.S2816x1024 .bf16)
    (x4 : FVec Ideal Cert.NormRefIdeal.S4x2048x1024 .f32) (x5 : FVec Ideal Cert.NormRefIdeal.S1x1024 .f32)
    (x6 : FVec Ideal Cert.NormRefIdeal.S4x1x1024 .f32) (x7 : FVec Ideal Cert.NormRefIdeal.S4x2048x1024 .f32)
    (e : Reference.of x0 x1 x2 x3 x4 x5 x6 x7 = D) (h : D.Finite) (b : Fin 4) (s : Fin 2048) (d : Fin 1024) :
    Cert.NormRefIdeal.Read.val_main_v62 (F := Ideal) x0 x1 x2 x3 x4 x5 x6 x7 (ix3 b s d) = D.dx b s d := by
  subst e
  exact (Reference.dx x0 x1 x2 x3 x4 x5 x6 x7 b s d).trans
    (dx_eq h b s d _ (Reference.through x0 x1 x2 x3 x4 x5 x6 x7 b s d))

/-- Run from inputs that agree and are finite, the two programs leave the same four gradients. -/
theorem equal : Cert.algebraic_NormIdeal_NormRefIdeal_pre_finite := by
  pair_intro
  · run_from Cert.NormIdeal.Value.run_blocks m g
  · refine θ_run_mono (Cert.NormRefIdeal.Value.run (F := Ideal) m' g') fun r hr c => ?_
    obtain ⟨h0, h1, h2, h3, h4⟩ := hr c
    obtain ⟨e0, e1, e2, e3, e4, e5, e6, e7⟩ := hagree c
    refine ⟨(h0.trans (Cert.NormRefIdeal.Read.val_main_v62_eq m' c)).trans ?_, (h1.trans (Cert.NormRefIdeal.Read.val_main_v35_eq ..)).trans ?_,
      (h2.trans (Cert.NormRefIdeal.Read.val_main_v38_eq ..)).trans ?_, (h3.trans (Cert.NormRefIdeal.Read.val_main_v47_eq ..)).trans ?_, h4⟩
    · rw [e0, e1, e2, e3, e4, e5, e6, e7]
      refine Eq.trans ?_ (Array.final_6 m c).symm
      funext i
      rw [eq_ix3 i]
      exact whole (Block.data m c) _ _ _ _ _ _ _ _ rfl (finite m (by assumption) c) (i 0) (i 1) (i 2)
    · rw [e0, e1, e2, e3]
      refine Eq.trans ?_ (Array.final_7 m c).symm
      funext i
      rw [Array.ix3_mid i]
      exact Reference.dshift _ _ _ _ _ _ _ _ _ _
    · rw [e0, e1, e2, e3, e4, e5]
      refine Eq.trans ?_ (Array.final_8 m c).symm
      funext i
      rw [Array.ix3_mid i]
      exact Reference.dscale _ _ _ _ _ _ _ _ _ _
    · rw [e0, e1, e2, e3, e4, e6]
      refine Eq.trans ?_ (Array.final_9 m c).symm
      funext i
      rw [Array.ix2_zero i]
      exact Reference.dgain _ _ _ _ _ _ _ _ _

/-- The kernel ends with its arguments as they were and every counter at zero; so does its ideal program. -/
theorem frame : Cert.quiescent_Norm := fun m ρ _ => Cert.Norm.Gen.frame m ρ

theorem ideal_frame : Cert.quiescent_NormIdeal := fun m ρ _ => Cert.NormIdeal.Gen.frame m ρ

theorem ideal_frame_finite : Cert.quiescent_NormIdeal_pre_finite := fun m ρ _ => Cert.NormIdeal.Gen.frame m ρ

/-- The reference ends with its arguments as they were; it has no counters. -/
theorem reference_frame : Cert.quiescent_NormRefIdeal := fun m ρ _ =>
  θ_run_mono (Cert.NormRefIdeal.Value.run (F := Ideal) m ρ)
    fun r h => ⟨fun c => (h c).2.2.2.2, sem_eq_zero_of_no_sems (by decide) r.2⟩

theorem reference_frame_finite : Cert.quiescent_NormRefIdeal_pre_finite := fun m ρ _ =>
  θ_run_mono (Cert.NormRefIdeal.Value.run (F := Ideal) m ρ)
    fun r h => ⟨fun c => (h c).2.2.2.2, sem_eq_zero_of_no_sems (by decide) r.2⟩

end Norm.Equal
-- ==== Proof.UpArray.lean ====
/- What the feed-forward's first projections compute, from their blocks to the whole results. -/
module

public import proofs.«01_k».proof.Proof.Gen.UpIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Up

/-- The gated unit, the two factors of its derivative, of two numbers. -/
def slopeA (a b : EReal) : EReal := b * (Ideal.logistic a * (1 + a * (1 - Ideal.logistic a)))
def slopeB (a : EReal) : EReal := a * Ideal.logistic a
def gated (a b : EReal) : EReal := a * Ideal.logistic a * b

end Up

namespace Up.Array

open Cert.UpIdeal Cert.UpIdeal.Gen

variable (m : (ℓ : Loc nD τ sig) → Buf (Elt Ideal) ℓ) (c : Dev nD) (t : Fin cfg0.N)

abbrev hA : FVec Ideal S4x2048x1024 .bf16 := m ((c : Thread nD τ).loc main_arg0)
abbrev w1A : FVec Ideal S2816x1024 .bf16 := m ((c : Thread nD τ).loc main_arg1)
abbrev w3A : FVec Ideal S2816x1024 .bf16 := m ((c : Thread nD τ).loc main_arg2)

theorem lt32 : t.val < 32 := lt_of_lt_of_eq t.isLt N_0

/-- The sequence, the rows and the columns of a step: the first sixteen steps take the left half of the columns. -/
def seq (t : Fin cfg0.N) : Fin 4 := ⟨t.val / 4 % 4, by omega⟩
def row (t : Fin cfg0.N) (r : Fin 512) : Fin 2048 := ⟨t.val % 4 * 512 + r.val, by omega⟩
def col (t : Fin cfg0.N) (k : Fin 1408) : Fin 2816 := ⟨t.val / 16 * 1408 + k.val, by have := lt32 t; omega⟩

theorem idx_val : ∀ t : Fin cfg0.N, win0_0.index t = ![t.val / 4 % 4, t.val % 4, 0] ∧ win0_1.index t = ![t.val / 16, 0]
    ∧ win0_2.index t = ![t.val / 16, 0] ∧ win0_3.index t = ![t.val / 4 % 4, t.val % 4, t.val / 16]
    ∧ win0_4.index t = ![t.val / 4 % 4, t.val % 4, t.val / 16] ∧ win0_5.index t = ![t.val / 4 % 4, t.val % 4, t.val / 16] :=
  (by decide +kernel : ∀ t : Fin grid0.N, _)

/-- The two projections. -/
def a (b : Fin 4) (s : Fin 2048) (k : Fin 2816) : EReal := ∑ d : Fin 1024, hA m c (ix3 b s d) * w1A m c (ix2 k d)
def b (b : Fin 4) (s : Fin 2048) (k : Fin 2816) : EReal := ∑ d : Fin 1024, hA m c (ix3 b s d) * w3A m c (ix2 k d)

theorem a_at (v0 : Vec Ideal S1x512x1024 .bf16) (v2 : Vec Ideal S1408x1024 .bf16) (r : Fin 512) (k : Fin 1408) :
    k0_pay2 (F := Ideal) v0 v2 (ix2 r k) = ∑ d : Fin 1024, v0 (ix3 0 r d) * v2 (ix2 k d) := by
  pointwise [k0_pay2, k0_pay1]

theorem b_at (v0 : Vec Ideal S1x512x1024 .bf16) (v4 : Vec Ideal S1408x1024 .bf16) (r : Fin 512) (k : Fin 1408) :
    k0_pay3 (F := Ideal) v0 v4 (ix2 r k) = ∑ d : Fin 1024, v0 (ix3 0 r d) * v4 (ix2 k d) := by
  pointwise [k0_pay3, k0_pay1]

theorem slopeA_at (v0 : Vec Ideal S1x512x1024 .bf16) (v2 v4 : Vec Ideal S1408x1024 .bf16) (r : Fin 512) (k : Fin 1408) :
    k0_pay6 (F := Ideal) v0 v2 v4 (ix3 0 r k)
      = slopeA (k0_pay2 (F := Ideal) v0 v2 (ix2 r k)) (k0_pay3 (F := Ideal) v0 v4 (ix2 r k)) := by
  pointwise [k0_pay6, k0_pay4, slopeA]

theorem slopeB_at (v0 : Vec Ideal S1x512x1024 .bf16) (v2 : Vec Ideal S1408x1024 .bf16) (r : Fin 512) (k : Fin 1408) :
    k0_pay7 (F := Ideal) v0 v2 (ix3 0 r k) = slopeB (k0_pay2 (F := Ideal) v0 v2 (ix2 r k)) := by
  pointwise [k0_pay7, k0_pay5, k0_pay4, slopeB]

theorem gated_at (v0 : Vec Ideal S1x512x1024 .bf16) (v2 v4 : Vec Ideal S1408x1024 .bf16) (r : Fin 512) (k : Fin 1408) :
    k0_pay8 (F := Ideal) v0 v2 v4 (ix3 0 r k)
      = gated (k0_pay2 (F := Ideal) v0 v2 (ix2 r k)) (k0_pay3 (F := Ideal) v0 v4 (ix2 r k)) := by
  pointwise [k0_pay8, k0_pay5, k0_pay4, gated]

theorem load_h (r : Fin 512) (d : Fin 1024) : iblk m c 0 t (ix3 0 r d) = hA m c (ix3 (seq t) (row t r) d) := by
  blk_point [iblk, V, idx_val t, seq, row]
theorem load_w1 (k : Fin 1408) (d : Fin 1024) : iblk m c 1 t (ix2 k d) = w1A m c (ix2 (col t k) d) := by
  blk_point [iblk, V, idx_val t, col]
theorem load_w3 (k : Fin 1408) (d : Fin 1024) : iblk m c 2 t (ix2 k d) = w3A m c (ix2 (col t k) d) := by
  blk_point [iblk, V, idx_val t, col]

theorem a_block (r : Fin 512) (k : Fin 1408) :
    k0_pay2 (F := Ideal) (iblk m c 0 t) (iblk m c 1 t) (ix2 r k) = a m c (seq t) (row t r) (col t k) :=
  (a_at _ _ r k).trans (Finset.sum_congr rfl fun d _ => congrArg₂ (· * ·) (load_h m c t r d) (load_w1 m c t k d))

theorem b_block (r : Fin 512) (k : Fin 1408) :
    k0_pay3 (F := Ideal) (iblk m c 0 t) (iblk m c 2 t) (ix2 r k) = b m c (seq t) (row t r) (col t k) :=
  (b_at _ _ r k).trans (Finset.sum_congr rfl fun d _ => congrArg₂ (· * ·) (load_h m c t r d) (load_w3 m c t k d))

theorem ix3_of {n : ℕ} (x : (⟨3, ![1, n, 1408]⟩ : Shape).Idx) : x = ix3 0 (x 1) (x 2) := by
  have h0 : (x 0).val < 1 := (x 0).isLt
  funext a; apply Fin.ext
  match a with
  | ⟨0, _⟩ => show (x 0).val = 0; omega
  | ⟨1, _⟩ => rfl
  | ⟨2, _⟩ => rfl

/-- The factor of the first projection's gradient, whole, … -/
theorem final_3 : (dats m 0 c).arrAt 3 (cfgs 0).N
    = (fun j => slopeA (a m c (j 0) (j 1) (j 2)) (b m c (j 0) (j 1) (j 2)) : FVec Ideal S4x2048x2816 .bf16) := by
  refine (dats m 0 c).arrAt_eq_of_covers 3 _ (by decide +kernel) fun t hf y => ?_
  have ht := lt32 t
  have place : ((cfg0.win 3).blk t).view.emb y = (ix3 (seq t) (row t (y 1)) (col t (y 2)) : S4x2048x2816.Idx) := by
    have h0 : (y 0).val < 1 := (y 0).isLt
    blk_ext [idx_val t, seq, row, col]
  blk_simp; rw [after0_3]
  frame_out
  refine (congrArg (k0_pay6 (F := Ideal) (iblk m c 0 t) (iblk m c 1 t) (iblk m c 2 t)) (ix3_of y)).trans ((slopeA_at _ _ _ (y 1) (y 2)).trans
    ((congrArg₂ slopeA (a_block m c t (y 1) (y 2)) (b_block m c t (y 1) (y 2))).trans ?_))
  exact (congrArg (fun j : S4x2048x2816.Idx => slopeA (a m c (j 0) (j 1) (j 2)) (b m c (j 0) (j 1) (j 2))) place.symm)

/-- … of the second's, … -/
theorem final_4 : (dats m 0 c).arrAt 4 (cfgs 0).N
    = (fun j => slopeB (a m c (j 0) (j 1) (j 2)) : FVec Ideal S4x2048x2816 .bf16) := by
  refine (dats m 0 c).arrAt_eq_of_covers 4 _ (by decide +kernel) fun t hf y => ?_
  have ht := lt32 t
  have place : ((cfg0.win 4).blk t).view.emb y = (ix3 (seq t) (row t (y 1)) (col t (y 2)) : S4x2048x2816.Idx) := by
    have h0 : (y 0).val < 1 := (y 0).isLt
    blk_ext [idx_val t, seq, row, col]
  blk_simp; rw [after0_4]
  frame_out
  refine (congrArg (k0_pay7 (F := Ideal) (iblk m c 0 t) (iblk m c 1 t)) (ix3_of y)).trans ((slopeB_at _ _ (y 1) (y 2)).trans
    ((congrArg slopeB (a_block m c t (y 1) (y 2))).trans ?_))
  exact (congrArg (fun j : S4x2048x2816.Idx => slopeB (a m c (j 0) (j 1) (j 2))) place.symm)

/-- … and the gated unit, whole. -/
theorem final_5 : (dats m 0 c).arrAt 5 (cfgs 0).N
    = (fun j => gated (a m c (j 0) (j 1) (j 2)) (b m c (j 0) (j 1) (j 2)) : FVec Ideal S4x2048x2816 .bf16) := by
  refine (dats m 0 c).arrAt_eq_of_covers 5 _ (by decide +kernel) fun t hf y => ?_
  have ht := lt32 t
  have place : ((cfg0.win 5).blk t).view.emb y = (ix3 (seq t) (row t (y 1)) (col t (y 2)) : S4x2048x2816.Idx) := by
    have h0 : (y 0).val < 1 := (y 0).isLt
    blk_ext [idx_val t, seq, row, col]
  blk_simp; rw [after0_5]
  frame_out
  refine (congrArg (k0_pay8 (F := Ideal) (iblk m c 0 t) (iblk m c 1 t) (iblk m c 2 t)) (ix3_of y)).trans ((gated_at _ _ _ (y 1) (y 2)).trans
    ((congrArg₂ gated (a_block m c t (y 1) (y 2)) (b_block m c t (y 1) (y 2))).trans ?_))
  exact (congrArg (fun j : S4x2048x2816.Idx => gated (a m c (j 0) (j 1) (j 2)) (b m c (j 0) (j 1) (j 2))) place.symm)

end Up.Array

end
-- ==== Proof.UpEqual.lean ====
/- The blocked first projections, with the gated unit and its derivative, are the plain ones. -/
module

public import proofs.«01_k».proof.Defs
public import proofs.«01_k».proof.Proof.UpArray
public import proofs.«01_k».proof.Proof.NormEqual
public import proofs.«01_k».proof.Proof.Gen.UpRefIdeal.Read
public import proofs.«01_k».proof.Proof.Gen.Up.Frame

@[expose] public section

set_option maxRecDepth 16384

open Idealize.ShloMosaic Idealize.ShloMosaic.TcCoe Idealize.SL.Sem
open scoped BigOperators

namespace Up

/-- On real numbers the derivative written as one product is the derivative by the rule for products. -/
theorem slopeA_eq {a b : EReal} (ha : ∃ r : ℝ, a = r) (hb : ∃ r : ℝ, b = r) :
    b * Ideal.logistic a + a * b * (Ideal.logistic a * (1 - Ideal.logistic a)) = slopeA a b := by
  obtain ⟨x, rfl⟩ := ha
  obtain ⟨y, rfl⟩ := hb
  unfold slopeA
  rw [Ideal.logistic_coe]
  simp only [← EReal.coe_one, ← EReal.coe_mul, ← EReal.coe_add, ← EReal.coe_sub]
  exact congrArg _ (by ring)

end Up

namespace Up.Reference

open Cert.UpRefIdeal Cert.UpRefIdeal.Read

variable (x0 : FVec Ideal S4x2048x1024 .bf16) (x1 x2 : FVec Ideal S2816x1024 .bf16) (b : Fin 4) (s : Fin 2048) (k : Fin 2816)

theorem first : val_main_v3 (F := Ideal) x0 x1 (ix3 b s k) = ∑ d : Fin 1024, x0 (ix3 b s d) * x1 (ix2 k d) := by
  unfold val_main_v3 val_main_v2 val_main_v1 val_main_v0
  pointwise []

theorem second : val_main_v7 (F := Ideal) x0 x2 (ix3 b s k) = ∑ d : Fin 1024, x0 (ix3 b s d) * x2 (ix2 k d) := by
  unfold val_main_v7 val_main_v6 val_main_v5 val_main_v4
  pointwise []

theorem logistic : val_main_v8_2 (F := Ideal) x0 x1 (ix3 b s k) = Ideal.logistic (val_main_v3 (F := Ideal) x0 x1 (ix3 b s k)) := by
  unfold val_main_v8_2 val_main_call0_v4 val_main_call0_cst_0 val_main_call0_v3 val_main_call0_v2 val_main_call0_cst val_main_call0_v1 val_main_call0_v0
  pointwise []
  rfl

theorem gated : val_main_v16 (F := Ideal) x0 x1 x2 (ix3 b s k)
    = Up.gated (val_main_v3 (F := Ideal) x0 x1 (ix3 b s k)) (val_main_v7 (F := Ideal) x0 x2 (ix3 b s k)) := by
  unfold Up.gated
  rw [← logistic]
  unfold val_main_v16 val_main_v9 val_main_v8_0
  pointwise []

theorem slopeB : val_main_v15 (F := Ideal) x0 x1 (ix3 b s k) = Up.slopeB (val_main_v3 (F := Ideal) x0 x1 (ix3 b s k)) := by
  unfold Up.slopeB
  rw [← logistic]
  unfold val_main_v15 val_main_v11 val_main_v10 val_main_cst val_main_v8_0
  pointwise []

theorem slopeA (ha : ∃ r : ℝ, val_main_v3 (F := Ideal) x0 x1 (ix3 b s k) = r) (hb : ∃ r : ℝ, val_main_v7 (F := Ideal) x0 x2 (ix3 b s k) = r) :
    val_main_v14 (F := Ideal) x0 x1 x2 (ix3 b s k)
      = Up.slopeA (val_main_v3 (F := Ideal) x0 x1 (ix3 b s k)) (val_main_v7 (F := Ideal) x0 x2 (ix3 b s k)) := by
  rw [← slopeA_eq ha hb, ← logistic]
  unfold val_main_v14 val_main_v13 val_main_call1_v1 val_main_call1_v2 val_main_call1_v0 val_main_v12 val_main_v10 val_main_cst
    val_main_v8_1 val_main_call0_v7 val_main_call0_v6 val_main_call0_cst_1
  pointwise []

end Up.Reference

namespace Up.Equal

instance facts : Cert.Pre_finite_up.Facts where
  bitsLt_bf16_f32 := by decide
  bcast_S_S4x2048x1024 := by decide +kernel
  bcast_S_S2816x1024 := by decide +kernel

variable (m : (ℓ : Loc Cert.UpIdeal.nD Cert.UpIdeal.τ Cert.UpIdeal.sig) → Buf (Elt Ideal) ℓ) (c : Dev Cert.UpIdeal.nD)

/-- On inputs that the precondition admits both projections are real numbers. -/
theorem finite (h : Cert.Pre_UpIdeal_finite_up m) (b : Fin 4) (s : Fin 2048) (k : Fin 2816) :
    (∃ r : ℝ, Array.a m c b s k = r) ∧ ∃ r : ℝ, Array.b m c b s k = r := by
  obtain ⟨h0, h1, h2⟩ := h c
  exact ⟨Norm.real_sum fun d => Norm.real_mul (Norm.real_of_abs (congrFun h0 (ix3 b s d))) (Norm.real_of_abs (congrFun h1 (ix2 k d))),
    Norm.real_sum fun d => Norm.real_mul (Norm.real_of_abs (congrFun h0 (ix3 b s d))) (Norm.real_of_abs (congrFun h2 (ix2 k d)))⟩

theorem whole (h : Cert.Pre_UpIdeal_finite_up m) (b : Fin 4) (s : Fin 2048) (k : Fin 2816) :
    Cert.UpRefIdeal.Read.val_main_v14 (F := Ideal) (Array.hA m c) (Array.w1A m c) (Array.w3A m c) (ix3 b s k)
      = slopeA (Array.a m c b s k) (Array.b m c b s k) := by
  have ea := Reference.first (Array.hA m c) (Array.w1A m c) b s k
  have eb := Reference.second (Array.hA m c) (Array.w3A m c) b s k
  obtain ⟨⟨p, hp⟩, q, hq⟩ := finite m c h b s k
  exact (Reference.slopeA _ _ _ b s k ⟨p, ea.trans hp⟩ ⟨q, eb.trans hq⟩).trans (congrArg₂ slopeA ea eb)

/-- Run from inputs that agree and are finite, the two programs leave the same three arrays. -/
theorem equal : Cert.algebraic_UpIdeal_UpRefIdeal_pre_finite_up := by
  pair_intro
  · run_from Cert.UpIdeal.Value.run_blocks m g
  · refine θ_run_mono (Cert.UpRefIdeal.Value.run (F := Ideal) m' g') fun r hr c => ?_
    obtain ⟨h0, h1, h2, h3⟩ := hr c
    obtain ⟨e0, e1, e2⟩ := hagree c
    refine ⟨(h0.trans (Cert.UpRefIdeal.Read.val_main_v14_eq ..)).trans ?_, (h1.trans (Cert.UpRefIdeal.Read.val_main_v15_eq ..)).trans ?_,
      (h2.trans (Cert.UpRefIdeal.Read.val_main_v16_eq ..)).trans ?_, h3⟩
    · rw [e0, e1, e2]
      refine Eq.trans ?_ (Array.final_3 m c).symm
      funext i
      rw [eq_ix3 i]
      exact whole m c (by assumption) (i 0) (i 1) (i 2)
    · rw [e0, e1]
      refine Eq.trans ?_ (Array.final_4 m c).symm
      funext i
      rw [eq_ix3 i]
      exact (Reference.slopeB _ _ (i 0) (i 1) (i 2)).trans (congrArg slopeB (Reference.first _ _ _ _ _))
    · rw [e0, e1, e2]
      refine Eq.trans ?_ (Array.final_5 m c).symm
      funext i
      rw [eq_ix3 i]
      exact (Reference.gated _ _ _ (i 0) (i 1) (i 2)).trans (congrArg₂ gated (Reference.first _ _ _ _ _) (Reference.second _ _ _ _ _))

/-- The kernel ends with its arguments as they were and every counter at zero; so does its ideal program. -/
theorem frame : Cert.quiescent_Up := fun m ρ _ => Cert.Up.Gen.frame m ρ

theorem ideal_frame : Cert.quiescent_UpIdeal := fun m ρ _ => Cert.UpIdeal.Gen.frame m ρ

theorem ideal_frame_finite : Cert.quiescent_UpIdeal_pre_finite_up := fun m ρ _ => Cert.UpIdeal.Gen.frame m ρ

/-- The reference ends with its arguments as they were; it has no counters. -/
theorem reference_frame : Cert.quiescent_UpRefIdeal := fun m ρ _ =>
  θ_run_mono (Cert.UpRefIdeal.Value.run (F := Ideal) m ρ)
    fun r h => ⟨fun c => (h c).2.2.2, sem_eq_zero_of_no_sems (by decide) r.2⟩

theorem reference_frame_finite : Cert.quiescent_UpRefIdeal_pre_finite_up := fun m ρ _ =>
  θ_run_mono (Cert.UpRefIdeal.Value.run (F := Ideal) m ρ)
    fun r h => ⟨fun c => (h c).2.2.2, sem_eq_zero_of_no_sems (by decide) r.2⟩

end Up.Equal

end
-- ==== Proof.DownArray.lean ====
/- What the feed-forward's second projection computes, from its blocks to its whole results. -/
module

public import proofs.«01_k».proof.Proof.Gen.DownIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Down.Array

open Cert.DownIdeal Cert.DownIdeal.Gen

variable (m : (ℓ : Loc nD τ sig) → Buf (Elt Ideal) ℓ) (c : Dev nD) (t : Fin cfg0.N)

abbrev hidA : FVec Ideal S4x2048x2816 .bf16 := m ((c : Thread nD τ).loc main_arg0)
abbrev wA : FVec Ideal S2816x1024 .bf16 := m ((c : Thread nD τ).loc main_arg1)
abbrev xA : FVec Ideal S4x2048x1024 .f32 := m ((c : Thread nD τ).loc main_arg2)
abbrev gtA : FVec Ideal S4x1x1024 .f32 := m ((c : Thread nD τ).loc main_arg3)

theorem lt16 : t.val < 16 := lt_of_lt_of_eq t.isLt N_0

/-- The sequence and the rows of a step. -/
def seq (t : Fin cfg0.N) : Fin 4 := ⟨t.val / 4, by have := lt16 t; omega⟩
def row (t : Fin cfg0.N) (r : Fin 512) : Fin 2048 := ⟨t.val % 4 * 512 + r.val, by omega⟩

theorem idx_val : ∀ t : Fin cfg0.N, win0_0.index t = ![t.val / 4, t.val % 4, 0] ∧ win0_1.index t = ![0, 0]
    ∧ win0_2.index t = ![t.val / 4, t.val % 4, 0] ∧ win0_3.index t = ![t.val / 4, 0, 0]
    ∧ win0_4.index t = ![t.val / 4, t.val % 4, 0] ∧ win0_5.index t = ![t.val / 4, t.val % 4, 0] :=
  (by decide +kernel : ∀ t : Fin grid0.N, _)

/-- The projection, … -/
def proj (b : Fin 4) (s : Fin 2048) (d : Fin 1024) : EReal := ∑ h : Fin 2816, hidA m c (ix3 b s h) * wA m c (ix2 h d)

/-- … and half of it, gated, on top of what came in. -/
def out (b : Fin 4) (s : Fin 2048) (d : Fin 1024) : EReal :=
  xA m c (ix3 b s d) + Ideal.ofBits FTy.f32 0x3F000000#32 * gtA m c (ix3 b 0 d) * proj m c b s d

theorem proj_at (v0 : Vec Ideal S1x512x2816 .bf16) (v2 : Vec Ideal S2816x1024 .bf16) (r : Fin 512) (d : Fin 1024) :
    k0_pay1 (F := Ideal) v0 v2 (ix2 r d) = ∑ h : Fin 2816, v0 (ix3 0 r h) * v2 (ix2 h d) := by
  pointwise [k0_pay1]

theorem stored_at (v0 : Vec Ideal S1x512x2816 .bf16) (v2 : Vec Ideal S2816x1024 .bf16) (r : Fin 512) (d : Fin 1024) :
    k0_pay2 (F := Ideal) v0 v2 (ix3 0 r d) = k0_pay1 (F := Ideal) v0 v2 (ix2 r d) := by
  pointwise [k0_pay2]

theorem out_at (v0 : Vec Ideal S1x512x2816 .bf16) (v2 : Vec Ideal S2816x1024 .bf16) (v8 : Vec Ideal S1x512x1024 .f32)
    (v10 : Vec Ideal S1x1x1024 .f32) (r : Fin 512) (d : Fin 1024) :
    k0_pay3 (F := Ideal) v0 v2 v8 v10 (ix3 0 r d)
      = v8 (ix3 0 r d) + Ideal.ofBits FTy.f32 0x3F000000#32 * v10 (ix3 0 0 d) * k0_pay1 (F := Ideal) v0 v2 (ix2 r d) := by
  pointwise [k0_pay3]

theorem load_hid (r : Fin 512) (h : Fin 2816) : iblk m c 0 t (ix3 0 r h) = hidA m c (ix3 (seq t) (row t r) h) := by
  blk_point [iblk, V, idx_val t, seq, row]
theorem load_w (h : Fin 2816) (d : Fin 1024) : iblk m c 1 t (ix2 h d) = wA m c (ix2 h d) := by
  blk_point [iblk, V, idx_val t, seq, row]
theorem load_x (r : Fin 512) (d : Fin 1024) : iblk m c 2 t (ix3 0 r d) = xA m c (ix3 (seq t) (row t r) d) := by
  blk_point [iblk, V, idx_val t, seq, row]
theorem load_gt (d : Fin 1024) : iblk m c 3 t (ix3 0 0 d) = gtA m c (ix3 (seq t) 0 d) := by
  blk_point [iblk, V, idx_val t, seq, row]

theorem proj_block (r : Fin 512) (d : Fin 1024) :
    k0_pay1 (F := Ideal) (iblk m c 0 t) (iblk m c 1 t) (ix2 r d) = proj m c (seq t) (row t r) d :=
  (proj_at _ _ r d).trans (Finset.sum_congr rfl fun h _ => congrArg₂ (· * ·) (load_hid m c t r h) (load_w m c t h d))

theorem stored_block (r : Fin 512) (d : Fin 1024) :
    k0_pay2 (F := Ideal) (iblk m c 0 t) (iblk m c 1 t) (ix3 0 r d) = proj m c (seq t) (row t r) d :=
  (stored_at _ _ r d).trans (proj_block m c t r d)

theorem out_block (r : Fin 512) (d : Fin 1024) :
    k0_pay3 (F := Ideal) (iblk m c 0 t) (iblk m c 1 t) (iblk m c 2 t) (iblk m c 3 t) (ix3 0 r d) = out m c (seq t) (row t r) d :=
  (out_at _ _ _ _ r d).trans (congrArg₂ (· + ·) (load_x m c t r d)
    (congrArg₂ (· * ·) (congrArg (_ * ·) (load_gt m c t d)) (proj_block m c t r d)))

theorem ix3_of {n : ℕ} (x : (⟨3, ![1, n, 1024]⟩ : Shape).Idx) : x = ix3 0 (x 1) (x 2) := by
  have h0 : (x 0).val < 1 := (x 0).isLt
  funext a; apply Fin.ext
  match a with
  | ⟨0, _⟩ => show (x 0).val = 0; omega
  | ⟨1, _⟩ => rfl
  | ⟨2, _⟩ => rfl

/-- The projection, whole. -/
theorem final_4 : (dats m 0 c).arrAt 4 (cfgs 0).N
    = (fun j => proj m c (j 0) (j 1) (j 2) : FVec Ideal S4x2048x1024 .bf16) := by
  refine (dats m 0 c).arrAt_eq_of_covers 4 _ (by decide +kernel) fun t hf y => ?_
  have ht := lt16 t
  have place : ((cfg0.win 4).blk t).view.emb y = (ix3 (seq t) (row t (y 1)) (y 2) : S4x2048x1024.Idx) := by
    have h0 : (y 0).val < 1 := (y 0).isLt
    blk_ext [idx_val t, seq, row]
  blk_simp; rw [after0_4]
  frame_out
  refine (congrArg (k0_pay2 (F := Ideal) (iblk m c 0 t) (iblk m c 1 t)) (ix3_of y)).trans ((stored_block m c t (y 1) (y 2)).trans ?_)
  exact (congrArg (fun j : S4x2048x1024.Idx => proj m c (j 0) (j 1) (j 2)) place.symm)

/-- The result, whole. -/
theorem final_5 : (dats m 0 c).arrAt 5 (cfgs 0).N
    = (fun j => out m c (j 0) (j 1) (j 2) : FVec Ideal S4x2048x1024 .f32) := by
  refine (dats m 0 c).arrAt_eq_of_covers 5 _ (by decide +kernel) fun t hf y => ?_
  have ht := lt16 t
  have place : ((cfg0.win 5).blk t).view.emb y = (ix3 (seq t) (row t (y 1)) (y 2) : S4x2048x1024.Idx) := by
    have h0 : (y 0).val < 1 := (y 0).isLt
    blk_ext [idx_val t, seq, row]
  blk_simp; rw [after0_5]
  frame_out
  refine (congrArg (k0_pay3 (F := Ideal) (iblk m c 0 t) (iblk m c 1 t) (iblk m c 2 t) (iblk m c 3 t)) (ix3_of y)).trans ((out_block m c t (y 1) (y 2)).trans ?_)
  exact (congrArg (fun j : S4x2048x1024.Idx => out m c (j 0) (j 1) (j 2)) place.symm)

end Down.Array

end
-- ==== Proof.DownEqual.lean ====
/- The blocked second projection is the plain one. -/
module

public import proofs.«01_k».proof.Defs
public import proofs.«01_k».proof.Proof.DownArray
public import proofs.«01_k».proof.Proof.Gen.DownRefIdeal.Read
public import proofs.«01_k».proof.Proof.Gen.Down.Frame

@[expose] public section

set_option maxRecDepth 16384

open Idealize.ShloMosaic Idealize.ShloMosaic.TcCoe Idealize.SL.Sem
open scoped BigOperators

namespace Down.Equal

/-- Run from inputs that agree, the two programs leave the same projection and the same sum. -/
theorem equal : Cert.algebraic_DownIdeal_DownRefIdeal := by
  pair_intro
  · run_from Cert.DownIdeal.Value.run_blocks m g
  · refine θ_run_mono (Cert.DownRefIdeal.Value.run (F := Ideal) m' g') fun r hr c => ?_
    obtain ⟨h0, h1, h2⟩ := hr c
    obtain ⟨e0, e1, e2, e3⟩ := hagree c
    refine ⟨(h0.trans (Cert.DownRefIdeal.Read.val_main_v3_eq ..)).trans ?_, (h1.trans (Cert.DownRefIdeal.Read.val_main_v8_eq ..)).trans ?_, h2⟩
    · rw [e0, e1]
      refine Eq.trans ?_ (Array.final_4 m c).symm
      funext i
      rw [eq_ix3 i]
      unfold Cert.DownRefIdeal.Read.val_main_v3 Cert.DownRefIdeal.Read.val_main_v2 Cert.DownRefIdeal.Read.val_main_v1 Cert.DownRefIdeal.Read.val_main_v0
      pointwise [Array.proj]
    · rw [e0, e1, e2, e3]
      refine Eq.trans ?_ (Array.final_5 m c).symm
      funext i
      rw [eq_ix3 i]
      unfold Cert.DownRefIdeal.Read.val_main_v8 Cert.DownRefIdeal.Read.val_main_v7 Cert.DownRefIdeal.Read.val_main_v6 Cert.DownRefIdeal.Read.val_main_v5
        Cert.DownRefIdeal.Read.val_main_v4 Cert.DownRefIdeal.Read.val_main_cst Cert.DownRefIdeal.Read.val_main_v2 Cert.DownRefIdeal.Read.val_main_v1 Cert.DownRefIdeal.Read.val_main_v0
      pointwise [Array.out, Array.proj]

/-- The kernel ends with its arguments as they were and every counter at zero; so does its ideal program. -/
theorem frame : Cert.quiescent_Down := fun m ρ _ => Cert.Down.Gen.frame m ρ

theorem ideal_frame : Cert.quiescent_DownIdeal := fun m ρ _ => Cert.DownIdeal.Gen.frame m ρ

/-- The reference ends with its arguments as they were; it has no counters. -/
theorem reference_frame : Cert.quiescent_DownRefIdeal := fun m ρ _ =>
  θ_run_mono (Cert.DownRefIdeal.Value.run (F := Ideal) m ρ)
    fun r h => ⟨fun c => (h c).2.2, sem_eq_zero_of_no_sems (by decide) r.2⟩

end Down.Equal

end
-- ==== Proof.HiddenRun.lean ====
/- The gradient through the down projection (`_ffn_bwd_hid`), what its body does at one grid point. The body has a part
   that runs only at the first of the two column tiles: there it scales the incoming gradient and stores it, and adds
   the rows' share of the gate's gradient. At both column tiles it multiplies the scaled gradient by a tile of the weight
   and by the two factors. So there are three runs: the first column tile of the first row tile, the first column tile of
   a later row tile, and the second column tile. Each is stated with the contents of every buffer at its end. -/
module

public import proofs.«01_k».proof.Proof.Gen.HiddenIdeal.Skeleton
public import proofs.«01_k».proof.Proof.Gen.HiddenIdeal.Frame
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic

@[expose] public section

set_option maxRecDepth 16384

noncomputable section

namespace Hidden

open Cert.HiddenIdeal Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The tile of 1408 rows of the weight that a point reads. -/
def tile (i : grid0.Coords) (x5 : Vec F S2816x1024 .bf16) : Vec F S1408x1024 .bf16 :=
  View.ld x5 (Rect.unit (s := S2816x1024) (k0_off1 i) S1408x1024.size (k0_off1_inb i))

/-- One store of a whole buffer covers it. -/
theorem covered {S : Shape} {e : EltTy} (off : Fin S.rank → Nat) (inb : ∀ a, off a + S.size a ≤ S.size a) (h : ∀ a, off a = 0)
    (p : S.Idx → Elt F e) (y : S.Idx) :
    ∃ pc ∈ ([⟨Rect.unit off S.size inb, p⟩] : List (View.Piece (Elt F) S e)), y ∈ pc.1.set :=
  ⟨⟨Rect.unit off S.size inb, p⟩, List.mem_singleton_self _,
    (Rect.mem_set_unit (inb := inb)).mpr fun a => by have := (y a).isLt; rw [h a]; omega⟩

/-- A buffer stored once as a whole holds what was stored. -/
theorem stored {S : Shape} {e : EltTy} {κ : Kind} {sp : Space} (v : View sig κ sp S e) (f : v.ty.Contents (Elt F))
    (off : Fin S.rank → Nat) (inb : ∀ a, off a + S.size a ≤ S.size a) (h : ∀ a, off a = 0) (p : S.Idx → Elt F e) :
    v.read (Elt F) (v.writes (Elt F) f [⟨Rect.unit off S.size inb, p⟩]) = p :=
  (View.read_writes_eq_canon v f _ (covered off inb h p)).trans (View.canon_cons_unit_lit inb p [] h)

variable (c : Dev nD) (i : grid0.Coords)
  (a3 : Memref sig .tc .vmem S1x512x1024 .f32) (h3 : a3.IsWhole) (a4 : Memref sig .tc .vmem S1x1x1024 .f32) (h4 : a4.IsWhole)
  (a5 : Memref sig .tc .vmem S1x512x1024 .bf16) (h5 : a5.IsWhole) (a6 : Memref sig .tc .vmem S1x512x1408 .bf16) (h6 : a6.IsWhole)
  (a7 : Memref sig .tc .vmem S1x512x1408 .bf16) (h7 : a7.IsWhole) (a8 : Memref sig .tc .vmem S2816x1024 .bf16) (h8 : a8.IsWhole)
  (a9 : Memref sig .tc .vmem S1x512x1024 .bf16) (h9 : a9.IsWhole) (a10 : Memref sig .tc .vmem S1x512x1408 .bf16) (h10 : a10.IsWhole)
  (a11 : Memref sig .tc .vmem S1x512x1408 .bf16) (h11 : a11.IsWhole) (a12 : Memref sig .tc .vmem S1x1x1024 .f32) (h12 : a12.IsWhole)
  (x0 : Vec F S1x512x1024 .f32) (x1 : Vec F S1x1x1024 .f32) (x2 : Vec F S1x512x1024 .bf16) (x3 : Vec F S1x512x1408 .bf16)
  (x4 : Vec F S1x512x1408 .bf16) (x5 : Vec F S2816x1024 .bf16) (x6 : Vec F S1x512x1024 .bf16) (x9 : Vec F S1x1x1024 .f32)

/-- The six inputs' buffers at their contents. -/
def inputs : sProp 𝕄 :=
  iprop(owns (c : Thread nD τ) a3 fullShare x0 ∗ owns (c : Thread nD τ) a4 fullShare x1 ∗ owns (c : Thread nD τ) a5 fullShare x2
    ∗ owns (c : Thread nD τ) a6 fullShare x3 ∗ owns (c : Thread nD τ) a7 fullShare x4 ∗ owns (c : Thread nD τ) a8 fullShare x5)

/-- The four outputs' buffers, holding the scaled gradient `y6`, the two products made from it, and the gate's gradient `y9`. -/
def outputs (y6 : Vec F S1x512x1024 .bf16) (y9 : Vec F S1x1x1024 .f32) : sProp 𝕄 :=
  iprop(owns (c : Thread nD τ) a9 fullShare y6 ∗ owns (c : Thread nD τ) a10 fullShare (k0_pay7 y6 (tile i x5) x3)
    ∗ owns (c : Thread nD τ) a11 fullShare (k0_pay8 y6 (tile i x5) x4) ∗ owns (c : Thread nD τ) a12 fullShare y9)

set_option maxHeartbeats 2000000 in
/-- The second column tile: the scaled gradient and the gate's gradient stay what they were. -/
theorem run_second (E : Set ℕ) (K : PUnit → sProp 𝕄) (hc1 : ¬k0_cond1 i = 1#1) :
    iprop(inputs c a3 a4 a5 a6 a7 a8 x0 x1 x2 x3 x4 x5 ∗ owns (c : Thread nD τ) a9 fullShare x6
        ∗ (∃ d, owns (c : Thread nD τ) a10 fullShare d) ∗ (∃ d, owns (c : Thread nD τ) a11 fullShare d) ∗ owns (c : Thread nD τ) a12 fullShare x9
        ∗ (iprop(inputs c a3 a4 a5 a6 a7 a8 x0 x1 x2 x3 x4 x5 ∗ outputs c i a9 a10 a11 a12 x3 x4 x5 x6 x9) -∗ K ⟨⟩))
      ⊢ wp frame (wpE (defs₀ (F := F)) Variants.none c none) E (cc0_bwd_hid i a3 h3 a4 h4 a5 h5 a6 h6 a7 h7 a8 h8 a9 h9 a10 h10 a11 h11 a12 h12) K := by
  simp only [cc0_bwd_hid_eq_skeleton]; unfold cc0_bwd_hid_skel inputs outputs
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%d7, %f7, -, H7⟩, ⟨%d8, %f8, -, H8⟩, ⟨%f9, %hf9, H9⟩, Hk⟩
  subst hf0 hf1 hf2 hf3 hf4 hf5 hf6 hf9
  sl_exec (disch := first | sl_exact hc1)
  sl_step
  iapply Hk
  isplitl [H0 H1 H2 H3 H4 H5]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists f5; isplitr; · ipureintro; rfl
    iexact H5
  isplitl [H6]
  · iexists f6; isplitr; · ipureintro; rfl
    iexact H6
  isplitl [H7]
  · iexists _; isplitr
    swap; · iexact H7
    ipureintro
    refine (stored _ _ _ _ ?_ _).trans ?_
    · decide
    simp (disch := decide) only [View.ld_unit_lit', View.readAt_eq_ld]
    rfl
  isplitl [H8]
  · iexists _; isplitr
    swap; · iexact H8
    ipureintro
    refine (stored _ _ _ _ ?_ _).trans ?_
    · decide
    simp (disch := decide) only [View.ld_unit_lit', View.readAt_eq_ld]
    rfl
  iexists f9; isplitr; · ipureintro; rfl
  iexact H9

set_option maxHeartbeats 2000000 in
/-- The first column tile: the scaled gradient is stored, and the gate's gradient is started at the first row tile and added to
    at a later one. -/
theorem run_first (y9 : Vec F S1x1x1024 .f32) (E : Set ℕ) (K : PUnit → sProp 𝕄) (hc1 : k0_cond1 i = 1#1)
    (hc : (k0_cond2 i = 1#1 ∧ ¬k0_cond3 i = 1#1 ∧ y9 = k0_pay4 x0 x2) ∨ (¬k0_cond2 i = 1#1 ∧ k0_cond3 i = 1#1 ∧ y9 = k0_pay5 x0 x2 x9)) :
    iprop(inputs c a3 a4 a5 a6 a7 a8 x0 x1 x2 x3 x4 x5 ∗ (∃ d, owns (c : Thread nD τ) a9 fullShare d)
        ∗ (∃ d, owns (c : Thread nD τ) a10 fullShare d) ∗ (∃ d, owns (c : Thread nD τ) a11 fullShare d) ∗ owns (c : Thread nD τ) a12 fullShare x9
        ∗ (iprop(inputs c a3 a4 a5 a6 a7 a8 x0 x1 x2 x3 x4 x5 ∗ outputs c i a9 a10 a11 a12 x3 x4 x5 (k0_pay2 x0 x1) y9) -∗ K ⟨⟩))
      ⊢ wp frame (wpE (defs₀ (F := F)) Variants.none c none) E (cc0_bwd_hid i a3 h3 a4 h4 a5 h5 a6 h6 a7 h7 a8 h8 a9 h9 a10 h10 a11 h11 a12 h12) K := by
  simp only [cc0_bwd_hid_eq_skeleton]; unfold cc0_bwd_hid_skel inputs outputs
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%f9, %hf9, H9⟩, Hk⟩
  subst hf0 hf1 hf2 hf3 hf4 hf5 hf9
  rcases hc with ⟨hc2, hc3, rfl⟩ | ⟨hc2, hc3, rfl⟩
  all_goals
    sl_exec (disch := first | sl_exact hc1 | sl_exact hc2 | sl_exact hc3)
    sl_step
    iapply Hk
    isplitl [H0 H1 H2 H3 H4 H5]
    · isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      iexists f5; isplitr; · ipureintro; rfl
      iexact H5
    isplitl [H6]
    · iexists _; isplitr
      swap; · iexact H6
      ipureintro
      refine (stored _ _ _ _ ?_ _).trans ?_
      · decide
      simp (disch := decide) only [View.ld_unit_lit', View.readAt_eq_ld, View.readCov_unit_lit']
    isplitl [H7]
    · iexists _; isplitr
      swap; · iexact H7
      ipureintro
      refine (stored _ _ _ _ ?_ _).trans ?_
      · decide
      first | delta run_first.sl.v3 run_first.sl.H6_1 | delta run_first.sl.v3_1 run_first.sl.H6_1_1
      simp (disch := decide) only [View.ld_unit_lit', View.readAt_eq_ld, View.readCov_unit_lit']
      rfl
    isplitl [H8]
    · iexists _; isplitr
      swap; · iexact H8
      ipureintro
      refine (stored _ _ _ _ ?_ _).trans ?_
      · decide
      first | delta run_first.sl.v3 run_first.sl.H6_1 | delta run_first.sl.v3_1 run_first.sl.H6_1_1
      simp (disch := decide) only [View.ld_unit_lit', View.readAt_eq_ld, View.readCov_unit_lit']
      rfl
    iexists _; isplitr
    swap; · iexact H9
    ipureintro
    refine (stored _ _ _ _ ?_ _).trans ?_
    · decide
    simp (disch := decide) only [View.ld_unit_lit', View.readAt_eq_ld, View.readCov_unit_lit']

end Hidden

end
-- ==== Proof.HiddenFrame.lean ====
/- The gradient through the down projection (`_ffn_bwd_hid`), its run. Two of its outputs are left alone at the second of
   the two column tiles and written back there, so what a buffer holds is followed from the point that stored it to the
   point that writes it back: the scaled gradient is the one of the pair's first point, and the gate's gradient is the sum
   over the row tiles so far. Stated over any float values. -/
module

public import proofs.«01_k».proof.Proof.HiddenRun
public import proofs.«01_k».proof.Proof.Gen.HiddenIdeal.Points
public import Idealize.ShloMosaic.Lib.Pipeline.TableIdle

@[expose] public section

set_option maxRecDepth 16384

noncomputable section

namespace Hidden

open Cert.HiddenIdeal Cert.HiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which -/

/-- The first point of the pair of column tiles that a point belongs to. -/
def first (t : Fin cfg0.N) : Fin cfg0.N := ⟨t.val - t.val % 2, by have := t.isLt; omega⟩

theorem first_even (t : Fin cfg0.N) (h : t.val % 2 = 0) : first t = t := Fin.ext (by unfold first; simp only; omega)

theorem first_odd (t : Fin cfg0.N) (h : t.val % 2 = 1) : first ⟨t.val - 1, by omega⟩ = first t :=
  Fin.ext (by unfold first; simp only; omega)

theorem is_first : ∀ t : Fin cfg0.N, k0_cond1 (grid0.coords t) = 1#1 ↔ t.val % 2 = 0 :=
  (by decide +kernel : ∀ t : Fin grid0.N, k0_cond1 (grid0.coords t) = 1#1 ↔ t.val % 2 = 0)

theorem is_start : ∀ t : Fin cfg0.N, k0_cond2 (grid0.coords t) = 1#1 ↔ t.val / 2 % 4 = 0 :=
  (by decide +kernel : ∀ t : Fin grid0.N, k0_cond2 (grid0.coords t) = 1#1 ↔ t.val / 2 % 4 = 0)

theorem is_later : ∀ t : Fin cfg0.N, k0_cond3 (grid0.coords t) = 1#1 ↔ t.val / 2 % 4 ≠ 0 :=
  (by decide +kernel : ∀ t : Fin grid0.N, k0_cond3 (grid0.coords t) = 1#1 ↔ t.val / 2 % 4 ≠ 0)

/-- Only a second column tile leaves the scaled gradient's buffer alone, and it writes it back. -/
theorem idle_6 : ∀ t : Fin cfg0.N, cfg0.idle 6 (grid0.coords t) = true → t.val % 2 = 1 ∧ (cfg0.win 6).flush t = true := by decide +kernel

/-- Only a second column tile leaves the gate gradient's buffer alone. -/
theorem idle_9 : ∀ t : Fin cfg0.N, cfg0.idle 9 (grid0.coords t) = true → t.val % 2 = 1 := by decide +kernel

/-- At the first point of a pair nothing has been stored in the scaled gradient's buffer. -/
def unwritten6 (n : ℕ) : Bool := n % 2 == 0

theorem unwritten6_step : ∀ t : Fin cfg0.N,
    unwritten6 (t.val + 1) = ((cfg0.win 6).flush t || (cfg0.idle 6 (cfg0.grid.coords t) && unwritten6 t.val)) := by decide +kernel

theorem fresh6 (t : Fin cfg0.N) : cfg0.fresh 6 t.val = unwritten6 t.val :=
  Pipeline.Cfg.fresh_tab cfg0 6 unwritten6 rfl unwritten6_step t.val (Nat.le_of_lt t.isLt)

/-- At the first point of a batch entry nothing has been stored in the gate gradient's buffer. -/
def unwritten9 (n : ℕ) : Bool := n % 8 == 0

theorem unwritten9_step : ∀ t : Fin cfg0.N,
    unwritten9 (t.val + 1) = ((cfg0.win 9).flush t || (cfg0.idle 9 (cfg0.grid.coords t) && unwritten9 t.val)) := by decide +kernel

theorem fresh9 (t : Fin cfg0.N) : cfg0.fresh 9 t.val = unwritten9 t.val :=
  Pipeline.Cfg.fresh_tab cfg0 9 unwritten9 rfl unwritten9_step t.val (Nat.le_of_lt t.isLt)

/-! ## What the buffers hold -/

/-- The incoming gradient times half the gate, of the rows of a point. -/
def scaled (c : Dev nD) (t : Fin cfg0.N) : Vec F S1x512x1024 .bf16 := k0_pay2 (iblk m c 0 (first t)) (iblk m c 1 (first t))

/-- The gate's gradient after a point: started at a batch entry's first row tile, added to at the first column tile of each
    later one. -/
def gate (c : Dev nD) : (n : ℕ) → n < cfg0.N → Vec F S1x1x1024 .f32
  | 0, h => k0_pay4 (iblk m c 0 ⟨0, h⟩) (iblk m c 2 ⟨0, h⟩)
  | n + 1, h =>
    if (n + 1) % 2 = 1 then gate c n (Nat.lt_of_succ_lt h)
    else if (n + 1) % 8 = 0 then k0_pay4 (iblk m c 0 ⟨n + 1, h⟩) (iblk m c 2 ⟨n + 1, h⟩)
    else k0_pay5 (iblk m c 0 ⟨n + 1, h⟩) (iblk m c 2 ⟨n + 1, h⟩) (gate c n (Nat.lt_of_succ_lt h))

theorem gate_odd (c : Dev nD) (t : Fin cfg0.N) (h : t.val % 2 = 1) :
    gate m c t.val t.isLt = gate m c (t.val - 1) (Nat.lt_of_le_of_lt (Nat.sub_le _ _) t.isLt) := by
  obtain ⟨n, hn⟩ := t
  cases n with
  | zero => exact absurd (show 0 % 2 = 1 from h) (by decide)
  | succ n => exact if_pos h

theorem gate_start (c : Dev nD) (t : Fin cfg0.N) (h : t.val % 8 = 0) :
    gate m c t.val t.isLt = k0_pay4 (iblk m c 0 t) (iblk m c 2 t) := by
  obtain ⟨n, hn⟩ := t
  cases n with
  | zero => rfl
  | succ n =>
    have h' : (n + 1) % 8 = 0 := h
    exact (if_neg (by omega)).trans (if_pos h')

theorem gate_add (c : Dev nD) (t : Fin cfg0.N) (h : t.val % 2 = 0) (h' : t.val % 8 ≠ 0) :
    gate m c t.val t.isLt
      = k0_pay5 (iblk m c 0 t) (iblk m c 2 t) (gate m c (t.val - 1) (Nat.lt_of_le_of_lt (Nat.sub_le _ _) t.isLt)) := by
  obtain ⟨n, hn⟩ := t
  cases n with
  | zero => exact absurd rfl h'
  | succ n =>
    have e : (n + 1) % 2 = 0 := h
    exact (if_neg (by omega)).trans (if_neg h')

/-- The pipeline's data: every array as the launch finds it, every input's buffer at its block, and the four outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => scaled m c t
    | ⟨7, _⟩ => k0_pay7 (scaled m c t) (tile (grid0.coords t) (iblk m c 5 t)) (iblk m c 3 t)
    | ⟨8, _⟩ => k0_pay8 (scaled m c t) (tile (grid0.coords t) (iblk m c 5 t)) (iblk m c 4 t)
    | ⟨9, _⟩ => gate m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = scaled m c t := by dsimp only [dats]
theorem after_7 (c : Dev nD) (t : Fin cfg0.N) : (dats m 0 c).after 7 t = k0_pay7 (scaled m c t) (tile (grid0.coords t) (iblk m c 5 t)) (iblk m c 3 t) := by dsimp only [dats]
theorem after_8 (c : Dev nD) (t : Fin cfg0.N) : (dats m 0 c).after 8 t = k0_pay8 (scaled m c t) (tile (grid0.coords t) (iblk m c 5 t)) (iblk m c 4 t) := by dsimp only [dats]
theorem after_9 (c : Dev nD) (t : Fin cfg0.N) : (dats m 0 c).after 9 t = gate m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At a second column tile the scaled gradient's buffer holds what the pair's first point stored. -/
theorem before_6 (c : Dev nD) (t : Fin cfg0.N) (h : t.val % 2 = 1) (d) : (dats m 0 c).before 6 t d = scaled m c t := by
  rw [Dat.before_out_traj _ 6 rfl (fun _ _ => rfl) (fun t _ hi _ => by
      rw [after_6, after_6]; unfold scaled; rw [first_odd t (idle_6 t hi).1]) t.val t rfl d,
    if_neg (by rw [fresh6 t]; unfold unwritten6; simp [h]), after_6]
  unfold scaled; rw [first_odd t h]

/-- Past a batch entry's first point, the gate gradient's buffer holds what the point before left. -/
theorem before_9 (c : Dev nD) (t : Fin cfg0.N) (h : t.val % 8 ≠ 0) (d) :
    (dats m 0 c).before 9 t d = gate m c (t.val - 1) (Nat.lt_of_le_of_lt (Nat.sub_le _ _) t.isLt) := by
  rw [Dat.before_out_traj _ 9 rfl (fun _ _ => rfl) (fun t _ hi _ => by
      rw [after_9, after_9]; exact gate_odd m c t (idle_9 t hi)) t.val t rfl d,
    if_neg (by rw [fresh9 t]; unfold unwritten9; simp [h]), after_9]

/-! ## The body at a point -/

/-- A buffer at what a point is to leave is what the point leaves, if a point that leaves the buffer alone and does not write
    it back finds it so. -/
theorem left (c : Dev nD) (w : Fin cfg0.W) (t : Fin cfg0.N) (X) (hX : (dats m 0 c).after w t = X)
    (h : cfg0.idle w (grid0.coords t) = true → (cfg0.win w).flush t = false → ∃ d, (dats m 0 c).before w t d = (dats m 0 c).after w t) :
    owns (c : Thread nD τ) ((cfg0.win w).stage (cfg0.slots t w)) fullShare X ⊢ ((dats m 0 c).leavesExact w t : sProp 𝕄) := by
  subst hX
  unfold Dat.leavesExact
  cases hi : cfg0.idle w (cfg0.grid.coords t)
  · exact .rfl
  · cases hf : (cfg0.win w).flush t
    · obtain ⟨d, hd⟩ := h hi hf
      rw [← hd]
      iintro H; iexists d; iexact H
    · exact .rfl

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1408 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1024 .f32 := win0_9.stage (cfg0.slots t 9)
abbrev hs0_9 (t : Fin cfg0.N) : (ms0_9 t).IsWhole := hstage0_9 ((cfg0.slots t 9).cast nbuf0_9)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The buffers at what a point is to leave are what it returns. -/
theorem post_of (c : Dev nD) (t : Fin cfg0.N) :
    iprop((dats m 0 c).Φ t.castSucc ∗ (dats m 0 c).owesAt () t.castSucc
      ∗ inputs c (ms0_0 t) (ms0_1 t) (ms0_2 t) (ms0_3 t) (ms0_4 t) (ms0_5 t) (iblk m c 0 t) (iblk m c 1 t) (iblk m c 2 t) (iblk m c 3 t) (iblk m c 4 t) (iblk m c 5 t)
      ∗ outputs c (grid0.coords t) (ms0_6 t) (ms0_7 t) (ms0_8 t) (ms0_9 t) (iblk m c 3 t) (iblk m c 4 t) (iblk m c 5 t) (scaled m c t) (gate m c t.val t.isLt))
    ⊢ bodyPost m c t := by
  unfold bodyPost inputs outputs
  rw [show (dats m 0 c).Φ t.succ = (dats m 0 c).Φ t.castSucc from rfl,
    show (dats m 0 c).owesAt () t.succ = (dats m 0 c).owesAt () t.castSucc from rfl]
  iintro ⟨HΦ, Ho, ⟨H0, H1, H2, H3, H4, H5⟩, ⟨H6, H7, H8, H9⟩⟩
  isplitl [HΦ]; · iexact HΦ
  isplitl [Ho]; · iexact Ho
  isplitl [H0]
  · iapply (left m c 0 t _ (after_0 m c t) fun hi _ => absurd hi Bool.noConfusion)
    iexact H0
  isplitl [H1]
  · iapply (left m c 1 t _ (after_1 m c t) fun hi _ => absurd hi Bool.noConfusion)
    iexact H1
  isplitl [H2]
  · iapply (left m c 2 t _ (after_2 m c t) fun hi _ => absurd hi Bool.noConfusion)
    iexact H2
  isplitl [H3]
  · iapply (left m c 3 t _ (after_3 m c t) fun hi _ => absurd hi Bool.noConfusion)
    iexact H3
  isplitl [H4]
  · iapply (left m c 4 t _ (after_4 m c t) fun hi _ => absurd hi Bool.noConfusion)
    iexact H4
  isplitl [H5]
  · iapply (left m c 5 t _ (after_5 m c t) fun hi _ => absurd hi Bool.noConfusion)
    iexact H5
  isplitl [H6]
  · iapply (left m c 6 t _ (after_6 m c t) fun hi hf => absurd ((idle_6 t hi).2.symm.trans hf) Bool.noConfusion)
    iexact H6
  isplitl [H7]
  · iapply (left m c 7 t _ (after_7 m c t) fun hi _ => absurd hi Bool.noConfusion)
    iexact H7
  isplitl [H8]
  · iapply (left m c 8 t _ (after_8 m c t) fun hi _ => absurd hi Bool.noConfusion)
    iexact H8
  iapply (left m c 9 t _ (after_9 m c t) fun hi hf => ⟨fun _ => default, (before_9 m c t (by have := idle_9 t hi; omega) _).trans ((after_9 m c t).trans (gate_odd m c t (idle_9 t hi))).symm⟩)
  iexact H9

set_option maxHeartbeats 2400000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5]
  by_cases h0 : t.val % 2 = 0
  · have run := fun x9 hc => run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) x9
      (gate m c t.val t.isLt) Set.univ (fun _ => bodyPost m c t) ((is_first t).mpr h0) hc
    have hs : scaled m c t = k0_pay2 (iblk m c 0 t) (iblk m c 1 t) := by unfold scaled; rw [first_even t h0]
    rw [← hs] at run
    have hx : ∀ d, (k0_cond2 (grid0.coords t) = 1#1 ∧ ¬k0_cond3 (grid0.coords t) = 1#1 ∧ gate m c t.val t.isLt = k0_pay4 (iblk m c 0 t) (iblk m c 2 t))
        ∨ (¬k0_cond2 (grid0.coords t) = 1#1 ∧ k0_cond3 (grid0.coords t) = 1#1
          ∧ gate m c t.val t.isLt = k0_pay5 (iblk m c 0 t) (iblk m c 2 t) ((dats m 0 c).before 9 t d)) := fun d => by
      by_cases h1 : t.val / 2 % 4 = 0
      · exact .inl ⟨(is_start t).mpr h1, fun h => (is_later t).mp h h1, gate_start m c t (by omega)⟩
      · exact .inr ⟨fun h => h1 ((is_start t).mp h), (is_later t).mpr h1,
          by rw [before_9 m c t (by omega)]; exact gate_add m c t h0 (by omega)⟩
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run _ (hx d9))
    isplitl [H0 H1 H2 H3 H4 H5]
    · unfold inputs
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [H9]; · iexact H9
    iintro ⟨HI, HO⟩
    iapply (post_of m c t)
    isplitl [HΦ]; · iexact HΦ
    isplitl [Ho]; · iexact Ho
    isplitl [HI]; · iexact HI
    iexact HO
  · have h1 : t.val % 2 = 1 := by omega
    simp only [before_6 m c t h1, before_9 m c t (by omega), ← gate_odd m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) _ _ Set.univ _ fun h => h0 ((is_first t).mp h))
    isplitl [H0 H1 H2 H3 H4 H5]
    · unfold inputs
      isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    isplitl [H8]; · iexists _; iexact H8
    isplitl [H9]; · iexact H9
    iintro ⟨HI, HO⟩
    iapply (post_of m c t)
    isplitl [HΦ]; · iexact HΦ
    isplitl [Ho]; · iexact Ho
    isplitl [HI]; · iexact HI
    iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with every array at what the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and the counters end at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Hidden

end
-- ==== Proof.HiddenBlock.lean ====
/- What the gradient through the down projection computes from a step's blocks. -/
module

public import proofs.«01_k».proof.Proof.HiddenFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Hidden

/-- One half, as the programs write it. -/
abbrev half : EReal := Ideal.ofBits FTy.f32 1056964608#32

/-- The derivative of the gated unit in its first argument, by the rule for products, and in its second. -/
def slopeA (a b : EReal) : EReal := b * Ideal.logistic a + a * b * (Ideal.logistic a * (1 - Ideal.logistic a))
def slopeB (a : EReal) : EReal := a * Ideal.logistic a

end Hidden

namespace Hidden.Array

open Cert.HiddenIdeal Cert.HiddenIdeal.Gen

variable (m : (ℓ : Loc nD τ sig) → Buf (Elt Ideal) ℓ) (c : Dev nD) (t : Fin cfg0.N)

abbrev dA : FVec Ideal S4x2048x1024 .f32 := m ((c : Thread nD τ).loc main_arg0)
abbrev gtA : FVec Ideal S4x1x1024 .f32 := m ((c : Thread nD τ).loc main_arg1)
abbrev fA : FVec Ideal S4x2048x1024 .bf16 := m ((c : Thread nD τ).loc main_arg2)
abbrev aA : FVec Ideal S4x2048x2816 .f32 := m ((c : Thread nD τ).loc main_arg3)
abbrev bA : FVec Ideal S4x2048x2816 .f32 := m ((c : Thread nD τ).loc main_arg4)
abbrev wA : FVec Ideal S2816x1024 .bf16 := m ((c : Thread nD τ).loc main_arg5)

theorem lt32 : t.val < 32 := lt_of_lt_of_eq t.isLt N_0

/-- The sequence, the rows and the columns of a step: two steps to a row tile, eight to a sequence. -/
def seq (t : Fin cfg0.N) : Fin 4 := ⟨t.val / 8, by have := lt32 t; omega⟩
def row (t : Fin cfg0.N) (r : Fin 512) : Fin 2048 := ⟨t.val / 2 % 4 * 512 + r.val, by omega⟩
def col (t : Fin cfg0.N) (k : Fin 1408) : Fin 2816 := ⟨t.val % 2 * 1408 + k.val, by omega⟩

theorem seq_first : seq (first t) = seq t := Fin.ext (by unfold seq first; simp only; omega)
theorem row_first (r : Fin 512) : row (first t) r = row t r := Fin.ext (by unfold row first; simp only; omega)

theorem idx_val : ∀ t : Fin cfg0.N, win0_0.index t = ![t.val / 8, t.val / 2 % 4, 0] ∧ win0_1.index t = ![t.val / 8, 0, 0]
    ∧ win0_2.index t = ![t.val / 8, t.val / 2 % 4, 0] ∧ win0_3.index t = ![t.val / 8, t.val / 2 % 4, t.val % 2]
    ∧ win0_4.index t = ![t.val / 8, t.val / 2 % 4, t.val % 2] ∧ win0_5.index t = ![0, 0]
    ∧ win0_6.index t = ![t.val / 8, t.val / 2 % 4, 0] ∧ win0_7.index t = ![t.val / 8, t.val / 2 % 4, t.val % 2]
    ∧ win0_8.index t = ![t.val / 8, t.val / 2 % 4, t.val % 2] ∧ win0_9.index t = ![t.val / 8, 0, 0] :=
  (by decide +kernel : ∀ t : Fin grid0.N, _)

/-- The rows of the weight that a step reads start at its column tile. -/
theorem off_val : ∀ t : Fin cfg0.N, k0_off1 (grid0.coords t) = ![t.val % 2 * 1408, 0] :=
  (by decide +kernel : ∀ t : Fin grid0.N, _)

/-- The gradient that reaches the projection, … -/
def df (b : Fin 4) (s : Fin 2048) (d : Fin 1024) : EReal := half * gtA m c (ix3 b 0 d) * dA m c (ix3 b s d)
/-- … what it is before the projection, … -/
def back (b : Fin 4) (s : Fin 2048) (k : Fin 2816) : EReal := ∑ d : Fin 1024, df m c b s d * wA m c (ix2 k d)
/-- … and a row's share of the gate's gradient. -/
def share (b : Fin 4) (s : Fin 2048) (d : Fin 1024) : EReal := half * dA m c (ix3 b s d) * fA m c (ix3 b s d)
/-- The gradients of the two first projections. -/
def da (b : Fin 4) (s : Fin 2048) (k : Fin 2816) : EReal := back m c b s k * slopeA (aA m c (ix3 b s k)) (bA m c (ix3 b s k))
def db (b : Fin 4) (s : Fin 2048) (k : Fin 2816) : EReal := back m c b s k * slopeB (aA m c (ix3 b s k))

/-! ## The two factors -/

/-- The logistic function of an array, as it is computed before the launch. -/
def gating (a : FVec Ideal S4x2048x2816 .f32) : FVec Ideal S4x2048x2816 .f32 :=
  Host.divf (broadcastInDim S4x2048x2816 ![] bcast_S_S4x2048x2816 (constant S_ .f32 0x3F800000#32))
    (addf (broadcastInDim S4x2048x2816 ![] bcast_S_S4x2048x2816 (constant S_ .f32 0x3F800000#32)) (Host.exp (Host.negf a)))

theorem gating_at (a : FVec Ideal S4x2048x2816 .f32) (b : Fin 4) (s : Fin 2048) (k : Fin 2816) :
    gating a (ix3 b s k) = Ideal.logistic (a (ix3 b s k)) := by
  unfold gating
  pointwise []
  rfl

theorem V_v6 : V m c main_v6 = truncf .bf16 (addf
    (mulf (mulf (broadcastInDim S4x2048x2816 ![] bcast_S_S4x2048x2816 (constant S_ .f32 0x3F800000#32)) (bA m c)) (gating (aA m c)))
    (mulf (mulf (aA m c) (mulf (broadcastInDim S4x2048x2816 ![] bcast_S_S4x2048x2816 (constant S_ .f32 0x3F800000#32)) (bA m c)))
      (mulf (gating (aA m c)) (subf (broadcastInDim S4x2048x2816 ![] bcast_S_S4x2048x2816 (constant S_ .f32 0x3F800000#32)) (gating (aA m c))))))
    bitsLt_bf16_f32 := by
  show StableHlo.after (List.flatten [hostOps0, hostOps0_1, hostOps0_2, hostOps0_3]) (fun b => m (c, b)) main_v6 = _
  simp only [List.flatten_cons, List.flatten_nil, List.cons_append, List.nil_append, List.append_nil]
  after_results
  try rfl

theorem V_v7 : V m c main_v7 = truncf .bf16 (mulf (mulf (aA m c) (gating (aA m c)))
    (broadcastInDim S4x2048x2816 ![] bcast_S_S4x2048x2816 (constant S_ .f32 0x3F800000#32))) bitsLt_bf16_f32 := by
  show StableHlo.after (List.flatten [hostOps0, hostOps0_1, hostOps0_2, hostOps0_3]) (fun b => m (c, b)) main_v7 = _
  simp only [List.flatten_cons, List.flatten_nil, List.cons_append, List.nil_append, List.append_nil]
  after_results
  try rfl

theorem factorA (b : Fin 4) (s : Fin 2048) (k : Fin 2816) :
    V m c main_v6 (ix3 b s k) = slopeA (aA m c (ix3 b s k)) (bA m c (ix3 b s k)) := by
  refine (congrFun (V_v6 m c) _).trans ?_
  unfold slopeA
  rw [← gating_at]
  pointwise []

theorem factorB (b : Fin 4) (s : Fin 2048) (k : Fin 2816) :
    V m c main_v7 (ix3 b s k) = slopeB (aA m c (ix3 b s k)) := by
  refine (congrFun (V_v7 m c) _).trans ?_
  unfold slopeB
  rw [← gating_at]
  pointwise []

/-! ## A step's blocks -/

theorem scaled_at (v23 : Vec Ideal S1x512x1024 .f32) (v25 : Vec Ideal S1x1x1024 .f32) (r : Fin 512) (d : Fin 1024) :
    k0_pay2 (F := Ideal) v23 v25 (ix3 0 r d) = half * v25 (ix3 0 0 d) * v23 (ix3 0 r d) := by
  pointwise [k0_pay2, k0_pay1]

theorem shares_at (v23 : Vec Ideal S1x512x1024 .f32) (v37 : Vec Ideal S1x512x1024 .bf16) (d : Fin 1024) :
    k0_pay3 (F := Ideal) v23 v37 (ix2 0 d) = ∑ r : Fin 512, half * v23 (ix3 0 r d) * v37 (ix3 0 r d) := by
  pointwise [k0_pay3, k0_pay1]

theorem start_at (v23 : Vec Ideal S1x512x1024 .f32) (v37 : Vec Ideal S1x512x1024 .bf16) (d : Fin 1024) :
    k0_pay4 (F := Ideal) v23 v37 (ix3 0 0 d) = k0_pay3 (F := Ideal) v23 v37 (ix2 0 d) := by
  pointwise [k0_pay4]

theorem add_at (v23 : Vec Ideal S1x512x1024 .f32) (v37 : Vec Ideal S1x512x1024 .bf16) (v49 : Vec Ideal S1x1x1024 .f32) (d : Fin 1024) :
    k0_pay5 (F := Ideal) v23 v37 v49 (ix3 0 0 d) = v49 (ix3 0 0 d) + k0_pay3 (F := Ideal) v23 v37 (ix2 0 d) := by
  pointwise [k0_pay5]

theorem back_at (v3 : Vec Ideal S1x512x1024 .bf16) (v8 : Vec Ideal S1408x1024 .bf16) (r : Fin 512) (k : Fin 1408) :
    k0_pay6 (F := Ideal) v3 v8 (ix2 r k) = ∑ d : Fin 1024, v3 (ix3 0 r d) * v8 (ix2 k d) := by
  pointwise [k0_pay6]

theorem da_at (v3 : Vec Ideal S1x512x1024 .bf16) (v8 : Vec Ideal S1408x1024 .bf16) (v11 : Vec Ideal S1x512x1408 .bf16) (r : Fin 512) (k : Fin 1408) :
    k0_pay7 (F := Ideal) v3 v8 v11 (ix3 0 r k) = k0_pay6 (F := Ideal) v3 v8 (ix2 r k) * v11 (ix3 0 r k) := by
  pointwise [k0_pay7]

theorem db_at (v3 : Vec Ideal S1x512x1024 .bf16) (v8 : Vec Ideal S1408x1024 .bf16) (v17 : Vec Ideal S1x512x1408 .bf16) (r : Fin 512) (k : Fin 1408) :
    k0_pay8 (F := Ideal) v3 v8 v17 (ix3 0 r k) = k0_pay6 (F := Ideal) v3 v8 (ix2 r k) * v17 (ix3 0 r k) := by
  pointwise [k0_pay8]

theorem load_d (r : Fin 512) (d : Fin 1024) : iblk m c 0 t (ix3 0 r d) = dA m c (ix3 (seq t) (row t r) d) := by
  blk_point [iblk, V, idx_val t, seq, row]
theorem load_gt (d : Fin 1024) : iblk m c 1 t (ix3 0 0 d) = gtA m c (ix3 (seq t) 0 d) := by
  blk_point [iblk, V, idx_val t, seq]
theorem load_f (r : Fin 512) (d : Fin 1024) : iblk m c 2 t (ix3 0 r d) = fA m c (ix3 (seq t) (row t r) d) := by
  blk_point [iblk, V, idx_val t, seq, row]
theorem load_w (k : Fin 2816) (d : Fin 1024) : iblk m c 5 t (ix2 k d) = wA m c (ix2 k d) := by
  blk_point [iblk, V, idx_val t]

theorem load_fa (r : Fin 512) (k : Fin 1408) :
    iblk m c 3 t (ix3 0 r k) = slopeA (aA m c (ix3 (seq t) (row t r) (col t k))) (bA m c (ix3 (seq t) (row t r) (col t k))) := by
  refine Eq.trans ?_ (factorA m c _ _ _)
  unfold iblk
  generalize V m c main_v6 = X
  blk_point [idx_val t, seq, row, col]

theorem load_fb (r : Fin 512) (k : Fin 1408) :
    iblk m c 4 t (ix3 0 r k) = slopeB (aA m c (ix3 (seq t) (row t r) (col t k))) := by
  refine Eq.trans ?_ (factorB m c _ _ _)
  unfold iblk
  generalize V m c main_v7 = X
  blk_point [idx_val t, seq, row, col]

theorem load_tile (k : Fin 1408) (d : Fin 1024) : tile (grid0.coords t) (iblk m c 5 t) (ix2 k d) = wA m c (ix2 (col t k) d) := by
  refine Eq.trans ?_ (load_w m c t (col t k) d)
  unfold tile
  refine congrArg (iblk m c 5 t) (funext fun a => Fin.ext ?_)
  have e := off_val t
  match a with
  | ⟨0, _⟩ => show k0_off1 (grid0.coords t) 0 + 1 * k.val = t.val % 2 * 1408 + k.val; rw [e]; show t.val % 2 * 1408 + 1 * k.val = _; omega
  | ⟨1, _⟩ => show k0_off1 (grid0.coords t) 1 + 1 * d.val = d.val; rw [e]; show 0 + 1 * d.val = _; omega

theorem scaled_block (r : Fin 512) (d : Fin 1024) : scaled m c t (ix3 0 r d) = df m c (seq t) (row t r) d := by
  refine (scaled_at _ _ r d).trans ?_
  rw [load_d, load_gt, seq_first, row_first]
  rfl

theorem back_block (r : Fin 512) (k : Fin 1408) :
    k0_pay6 (F := Ideal) (scaled m c t) (tile (grid0.coords t) (iblk m c 5 t)) (ix2 r k) = back m c (seq t) (row t r) (col t k) := by
  refine (back_at _ _ r k).trans (Finset.sum_congr rfl fun d _ => ?_)
  exact congrArg₂ (· * ·) (scaled_block m c t r d) (load_tile m c t k d)

theorem da_block (r : Fin 512) (k : Fin 1408) :
    k0_pay7 (F := Ideal) (scaled m c t) (tile (grid0.coords t) (iblk m c 5 t)) (iblk m c 3 t) (ix3 0 r k) = da m c (seq t) (row t r) (col t k) := by
  refine (da_at _ _ _ r k).trans ?_
  exact congrArg₂ (· * ·) (back_block m c t r k) (load_fa m c t r k)

theorem db_block (r : Fin 512) (k : Fin 1408) :
    k0_pay8 (F := Ideal) (scaled m c t) (tile (grid0.coords t) (iblk m c 5 t)) (iblk m c 4 t) (ix3 0 r k) = db m c (seq t) (row t r) (col t k) := by
  refine (db_at _ _ _ r k).trans ?_
  exact congrArg₂ (· * ·) (back_block m c t r k) (load_fb m c t r k)

theorem shares_block (d : Fin 1024) :
    k0_pay3 (F := Ideal) (iblk m c 0 t) (iblk m c 2 t) (ix2 0 d) = ∑ r : Fin 512, share m c (seq t) (row t r) d := by
  refine (shares_at _ _ d).trans (Finset.sum_congr rfl fun r _ => ?_)
  exact congrArg₂ (· * ·) (congrArg (half * ·) (load_d m c t r d)) (load_f m c t r d)

end Hidden.Array
-- ==== Proof.HiddenArray.lean ====
/- What the gradient through the down projection computes: the blocks make up the whole results. -/
module

public import proofs.«01_k».proof.Proof.HiddenBlock

@[expose] public section

set_option maxRecDepth 16384

noncomputable section

open Idealize.ShloMosaic Idealize.ShloMosaic.TcCoe Idealize.SL.Sem
open Idealize.ShloMosaic.Pipeline (Dat)
open scoped BigOperators

namespace Hidden.Array

open Cert.HiddenIdeal Cert.HiddenIdeal.Gen

variable (m : (ℓ : Loc nD τ sig) → Buf (Elt Ideal) ℓ) (c : Dev nD) (t : Fin cfg0.N)

/-! ## The whole results -/

theorem ix3_of {n k : ℕ} (x : (⟨3, ![1, n, k]⟩ : Shape).Idx) : x = ix3 0 (x 1) (x 2) := by
  have h0 : (x 0).val < 1 := (x 0).isLt
  funext a; apply Fin.ext
  match a with
  | ⟨0, _⟩ => show (x 0).val = 0; omega
  | ⟨1, _⟩ => rfl
  | ⟨2, _⟩ => rfl

theorem ix3_zero {k : ℕ} (x : (⟨3, ![1, 1, k]⟩ : Shape).Idx) : x = ix3 0 0 (x 2) := by
  have h0 : (x 0).val < 1 := (x 0).isLt
  have h1 : (x 1).val < 1 := (x 1).isLt
  funext a; apply Fin.ext
  match a with
  | ⟨0, _⟩ => show (x 0).val = 0; omega
  | ⟨1, _⟩ => show (x 1).val = 0; omega
  | ⟨2, _⟩ => rfl

/-- The scaled gradient, whole, … -/
theorem final_6 : (dats m 0 c).arrAt 6 (cfgs 0).N = (fun j => df m c (j 0) (j 1) (j 2) : FVec Ideal S4x2048x1024 .bf16) := by
  refine (dats m 0 c).arrAt_eq_of_covers 6 _ (by decide +kernel) fun t hf y => ?_
  have ht := lt32 t
  have place : ((cfg0.win 6).blk t).view.emb y = (ix3 (seq t) (row t (y 1)) (y 2) : S4x2048x1024.Idx) := by
    have h0 : (y 0).val < 1 := (y 0).isLt
    blk_ext [idx_val t, seq, row]
  blk_simp; rw [after_6]
  refine (congrArg (scaled m c t) (ix3_of y)).trans ((scaled_block m c t (y 1) (y 2)).trans ?_)
  exact (congrArg (fun j : S4x2048x1024.Idx => df m c (j 0) (j 1) (j 2)) place.symm)

/-- … the first projection's gradient, … -/
theorem final_7 : (dats m 0 c).arrAt 7 (cfgs 0).N
    = (fun j => da m c (j 0) (j 1) (j 2) : FVec Ideal S4x2048x2816 .bf16) := by
  refine (dats m 0 c).arrAt_eq_of_covers 7 _ (by decide +kernel) fun t hf y => ?_
  have ht := lt32 t
  have place : ((cfg0.win 7).blk t).view.emb y = (ix3 (seq t) (row t (y 1)) (col t (y 2)) : S4x2048x2816.Idx) := by
    have h0 : (y 0).val < 1 := (y 0).isLt
    blk_ext [idx_val t, seq, row, col]
  blk_simp; rw [after_7]
  refine (congrArg (k0_pay7 (F := Ideal) (scaled m c t) (tile (grid0.coords t) (iblk m c 5 t)) (iblk m c 3 t)) (ix3_of y)).trans
    ((da_block m c t (y 1) (y 2)).trans ?_)
  exact congr (congr (congrArg (da m c) (congrFun place 0).symm) (congrFun place 1).symm) (congrFun place 2).symm

/-- … the second's, … -/
theorem final_8 : (dats m 0 c).arrAt 8 (cfgs 0).N
    = (fun j => db m c (j 0) (j 1) (j 2) : FVec Ideal S4x2048x2816 .bf16) := by
  refine (dats m 0 c).arrAt_eq_of_covers 8 _ (by decide +kernel) fun t hf y => ?_
  have ht := lt32 t
  have place : ((cfg0.win 8).blk t).view.emb y = (ix3 (seq t) (row t (y 1)) (col t (y 2)) : S4x2048x2816.Idx) := by
    have h0 : (y 0).val < 1 := (y 0).isLt
    blk_ext [idx_val t, seq, row, col]
  blk_simp; rw [after_8]
  refine (congrArg (k0_pay8 (F := Ideal) (scaled m c t) (tile (grid0.coords t) (iblk m c 5 t)) (iblk m c 4 t)) (ix3_of y)).trans
    ((db_block m c t (y 1) (y 2)).trans ?_)
  exact congr (congr (congrArg (db m c) (congrFun place 0).symm) (congrFun place 1).symm) (congrFun place 2).symm

/-! ## The gate's gradient -/

/-- The first step of the n-th row tile. -/
def pair (n : Fin 16) : Fin grid0.N := ⟨2 * n.val, lt_of_lt_of_eq (by have := n.isLt; omega : 2 * n.val < 32) N_0.symm⟩

theorem gate_congr {n n' : ℕ} (e : n = n') (h : n < grid0.N) (h' : n' < grid0.N) :
    gate (F := Ideal) m c n h = gate (F := Ideal) m c n' h' := by
  subst e
  rfl

/-- The sum so far after the n-th row tile. -/
def sofar (n : ℕ) (h : n < 16) : Vec Ideal S1x1x1024 .f32 := gate (F := Ideal) m c (2 * n) (pair ⟨n, h⟩).isLt

theorem sofar_start (n : Fin 16) (h : n.val % 4 = 0) (x : S1x1x1024.Idx) :
    sofar m c n.val n.isLt x = 0 + ∑ r : Fin 512, share m c (seq (pair n)) (row (pair n) r) (x 2) := by
  unfold sofar
  refine (congrFun (gate_start m c (pair n) (by show 2 * n.val % 8 = 0; omega)) x).trans ?_
  rw [zero_add]
  exact (congrArg (k0_pay4 (F := Ideal) _ _) (ix3_zero x)).trans ((start_at _ _ (x 2)).trans (shares_block m c (pair n) (x 2)))

theorem sofar_add (n : Fin 16) (h : ¬n.val % 4 = 0) (x : S1x1x1024.Idx) :
    sofar m c n.val n.isLt x = sofar m c (n.val - 1) (Nat.lt_of_le_of_lt (Nat.sub_le _ _) n.isLt) x
      + ∑ r : Fin 512, share m c (seq (pair n)) (row (pair n) r) (x 2) := by
  have hn := n.isLt
  have q : 2 * n.val - 1 - 1 = 2 * (n.val - 1) := by omega
  have l1 : 2 * n.val - 1 < grid0.N := lt_of_lt_of_eq (by omega : 2 * n.val - 1 < 32) N_0.symm
  have l2 : 2 * n.val - 1 - 1 < grid0.N := lt_of_lt_of_eq (by omega : 2 * n.val - 1 - 1 < 32) N_0.symm
  have l3 : 2 * (n.val - 1) < grid0.N := lt_of_lt_of_eq (by omega : 2 * (n.val - 1) < 32) N_0.symm
  have e : gate m c (2 * n.val - 1) l1 = gate m c (2 * (n.val - 1)) l3 :=
    (gate_odd m c ⟨2 * n.val - 1, l1⟩ (by show (2 * n.val - 1) % 2 = 1; omega)).trans (gate_congr m c q l2 l3)
  have e' : gate m c ((pair n).val - 1) (Nat.lt_of_le_of_lt (Nat.sub_le _ _) (pair n).isLt) = gate m c (2 * (n.val - 1)) l3 := e
  unfold sofar
  refine (congrFun (gate_add m c (pair n) (by show 2 * n.val % 2 = 0; omega) (by show 2 * n.val % 8 ≠ 0; omega)) x).trans ?_
  rw [e']
  exact (congrArg (k0_pay5 (F := Ideal) _ _ _) (ix3_zero x)).trans ((add_at _ _ _ (x 2)).trans
    (congrArg₂ (· + ·) (congrArg _ (ix3_zero x).symm) (shares_block m c (pair n) (x 2))))

/-- At a sequence's last step the buffer holds the sum of the shares of all its rows. -/
theorem gate_last (h7 : t.val % 8 = 7) (x : S1x1x1024.Idx) :
    gate m c t.val t.isLt x = ∑ s : Fin 2048, share m c (seq t) s (x 2) := by
  have ht := lt32 t
  have e : gate m c t.val t.isLt = sofar m c (t.val / 2) (by omega) :=
    (gate_odd m c t (by omega)).trans (gate_congr m c (by omega) _ _)
  rw [e]
  refine (Pipeline.eq_sum_fin_of_reset_step_apply_of_flush (N := 16) (sofar m c) 4 (fun _ => 0)
    (fun n (x : S1x1x1024.Idx) => ∑ r : Fin 512, share m c (seq (pair n)) (row (pair n) r) (x 2))
    (sofar_start m c) (sofar_add m c) ⟨t.val / 2, by omega⟩ (by show t.val / 2 % 4 = 4 - 1; omega) x).trans ?_
  rw [zero_add]
  refine Fin.sum_mul_add_congr fun s r hl => ?_
  refine congrArg₂ (fun b s => share m c b s (x 2)) (Fin.ext ?_) (Fin.ext ?_)
  · show 2 * (4 * (t.val / 2 / 4) + s.val) / 8 = t.val / 8
    omega
  · show 2 * (4 * (t.val / 2 / 4) + s.val) / 2 % 4 * 512 + r.val = s.val * 512 + r.val
    omega

/-- … and the gate's, whole. -/
theorem final_9 : (dats m 0 c).arrAt 9 (cfgs 0).N
    = (fun j => ∑ s : Fin 2048, share m c (j 0) s (j 2) : FVec Ideal S4x1x1024 .f32) := by
  refine (dats m 0 c).arrAt_eq_of_covers 9 _ (by decide +kernel) fun t hf y => ?_
  have ht := lt32 t
  have h7 : t.val % 8 = 7 := (flush0_9 t).mp hf
  have place : ((cfg0.win 9).blk t).view.emb y = (ix3 (seq t) 0 (y 2) : S4x1x1024.Idx) := by
    have h0 : (y 0).val < 1 := (y 0).isLt
    have h1 : (y 1).val < 1 := (y 1).isLt
    blk_ext [idx_val t, seq]
  blk_simp; rw [after_9]
  refine (gate_last m c t h7 y).trans ?_
  exact (congrArg (fun j : S4x1x1024.Idx => ∑ s : Fin 2048, share m c (j 0) s (j 2)) place.symm)

end Hidden.Array
-- ==== Proof.HiddenEqual.lean ====
/- The blocked gradient through the down projection is the plain one. -/
module

public import proofs.«01_k».proof.Defs
public import proofs.«01_k».proof.Proof.HiddenArray
public import proofs.«01_k».proof.Proof.NormEqual
public import proofs.«01_k».proof.Proof.Gen.HiddenRefIdeal.Read

@[expose] public section

set_option maxRecDepth 16384

open Idealize.ShloMosaic Idealize.ShloMosaic.TcCoe Idealize.SL.Sem
open scoped BigOperators

namespace Hidden

theorem half_real : half = ((1 / 2 : ℝ) : EReal) := by
  unfold half
  simp [Ideal.ofBits, Ideal.ieee, -EReal.coe_mul]; norm_num

/-- On real numbers the rule for products may be applied before or after the multiplication by the incoming gradient. -/
theorem through_product {g a b : EReal} (hg : ∃ r : ℝ, g = r) (ha : ∃ r : ℝ, a = r) (hb : ∃ r : ℝ, b = r) :
    g * b * Ideal.logistic a + a * (g * b) * (Ideal.logistic a * (1 - Ideal.logistic a)) = g * slopeA a b := by
  obtain ⟨z, rfl⟩ := hg
  obtain ⟨x, rfl⟩ := ha
  obtain ⟨y, rfl⟩ := hb
  unfold slopeA
  rw [Ideal.logistic_coe]
  simp only [← EReal.coe_one, ← EReal.coe_mul, ← EReal.coe_add, ← EReal.coe_sub]
  exact congrArg _ (by ring)

/-- On real numbers half of a sum of products is the sum of the halves. -/
theorem half_sum {n : ℕ} {p q : Fin n → EReal} (hp : ∀ s, ∃ r : ℝ, p s = r) (hq : ∀ s, ∃ r : ℝ, q s = r) :
    half * ∑ s, p s * q s = ∑ s, half * p s * q s := by
  choose x hx using hp
  choose y hy using hq
  rw [half_real]
  simp only [hx, hy, ← EReal.coe_mul, Norm.Real.sum_coe]
  exact congrArg _ ((Finset.mul_sum ..).trans (Finset.sum_congr rfl fun s _ => (mul_assoc ..).symm))

end Hidden

namespace Hidden.Reference

open Cert.HiddenRefIdeal Cert.HiddenRefIdeal.Read

variable (x0 : FVec Ideal S4x2048x1024 .f32) (x1 : FVec Ideal S4x1x1024 .f32) (x2 : FVec Ideal S4x2048x1024 .bf16)
  (x3 x4 : FVec Ideal S4x2048x2816 .f32) (x5 : FVec Ideal S2816x1024 .bf16) (b : Fin 4) (s : Fin 2048) (d : Fin 1024) (k : Fin 2816)

theorem scaled : val_main_v6 (F := Ideal) x0 x1 (ix3 b s d) = half * x1 (ix3 b 0 d) * x0 (ix3 b s d) := by
  unfold val_main_v6 val_main_v5 val_main_v2 val_main_v1 val_main_cst
  pointwise []

theorem scaled_out : val_main_v20 (F := Ideal) x0 x1 (ix3 b s d) = half * x1 (ix3 b 0 d) * x0 (ix3 b s d) := by
  refine Eq.trans ?_ (scaled x0 x1 b s d)
  unfold val_main_v20
  pointwise []

theorem gate : val_main_v11 (F := Ideal) x0 x2 (ix3 b 0 d) = half * ∑ s : Fin 2048, x0 (ix3 b s d) * x2 (ix3 b s d) := by
  unfold val_main_v11 val_main_v10 val_main_cst_1 val_main_v9 val_main_v8 val_main_cst_0 val_main_v7 val_main_v0
  pointwise []

theorem back : val_main_v16 (F := Ideal) x0 x1 x5 (ix3 b s k)
    = ∑ d : Fin 1024, val_main_v6 (F := Ideal) x0 x1 (ix3 b s d) * x5 (ix2 k d) := by
  unfold val_main_v16 val_main_v14
  pointwise []

theorem logistic : val_main_v12_2 (F := Ideal) x3 (ix3 b s k) = Ideal.logistic (x3 (ix3 b s k)) := by
  unfold val_main_v12_2 val_main_call0_v4 val_main_call0_cst_0 val_main_call0_v3 val_main_call0_v2 val_main_call0_cst val_main_call0_v1 val_main_call0_v0
  pointwise []
  rfl

theorem db : val_main_v22 (F := Ideal) x0 x1 x3 x5 (ix3 b s k)
    = slopeB (x3 (ix3 b s k)) * val_main_v16 (F := Ideal) x0 x1 x5 (ix3 b s k) := by
  unfold slopeB
  rw [← logistic]
  unfold val_main_v22 val_main_v17 val_main_v12_0
  pointwise []

theorem da (hg : ∃ r : ℝ, val_main_v16 (F := Ideal) x0 x1 x5 (ix3 b s k) = r) (ha : ∃ r : ℝ, x3 (ix3 b s k) = r)
    (hb : ∃ r : ℝ, x4 (ix3 b s k) = r) : val_main_v21 (F := Ideal) x0 x1 x3 x4 x5 (ix3 b s k)
      = val_main_v16 (F := Ideal) x0 x1 x5 (ix3 b s k) * slopeA (x3 (ix3 b s k)) (x4 (ix3 b s k)) := by
  rw [← through_product hg ha hb, ← logistic]
  unfold val_main_v21 val_main_v19 val_main_call1_v1 val_main_call1_v2 val_main_call1_v0 val_main_v18
    val_main_v12_1 val_main_call0_v7 val_main_call0_v6 val_main_call0_cst_1
  pointwise []

end Hidden.Reference

namespace Hidden.Equal

instance facts : Cert.Pre_finite_hidden.Facts where
  bitsLt_bf16_f32 := by decide
  bcast_S_S4x2048x1024 := by decide +kernel
  bcast_S_S4x1x1024 := by decide +kernel
  bcast_S_S4x2048x2816 := by decide +kernel
  bcast_S_S2816x1024 := by decide +kernel

section Run

open Cert.HiddenIdeal Cert.HiddenIdeal.Gen

variable (m : (ℓ : Loc nD τ sig) → Buf (Elt Ideal) ℓ) (ρ : Dev nD → PrngReg)

/-- The launch leaves the four arrays that its blocks make up, and the arguments as they were. -/
theorem run_blocks : θ_run defs (onTc (τ := τ) (main (F := Ideal))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_v8_2) = (dats m 0 c).arrAt 8 cfg0.N
      ∧ r.2.mem ((c : Thread nD τ).loc main_v8_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c)))⟩) (run_main m ρ)

end Run

variable (m : (ℓ : Loc Cert.HiddenIdeal.nD Cert.HiddenIdeal.τ Cert.HiddenIdeal.sig) → Buf (Elt Ideal) ℓ) (c : Dev Cert.HiddenIdeal.nD)

theorem back_eq (b : Fin 4) (s : Fin 2048) (k : Fin 2816) :
    Cert.HiddenRefIdeal.Read.val_main_v16 (F := Ideal) (Array.dA m c) (Array.gtA m c) (Array.wA m c) (ix3 b s k) = Array.back m c b s k := by
  refine (Reference.back _ _ _ b s k).trans (Finset.sum_congr rfl fun d _ => ?_)
  rw [Reference.scaled]
  rfl

/-- On inputs that the precondition admits the gradient before the projection is a real number, … -/
theorem back_real (h : Cert.Pre_HiddenIdeal_finite_hidden m) (b : Fin 4) (s : Fin 2048) (k : Fin 2816) : ∃ r : ℝ, Array.back m c b s k = r := by
  obtain ⟨h0, h1, h2, h3, h4, h5⟩ := h c
  exact Norm.real_sum fun d => Norm.real_mul (Norm.real_mul (Norm.real_mul ⟨1 / 2, half_real⟩ (Norm.real_of_abs (congrFun h1 (ix3 b 0 d))))
    (Norm.real_of_abs (congrFun h0 (ix3 b s d)))) (Norm.real_of_abs (congrFun h5 (ix2 k d)))

/-- … so the first projection's gradient is the plain one, … -/
theorem whole_da (h : Cert.Pre_HiddenIdeal_finite_hidden m) (b : Fin 4) (s : Fin 2048) (k : Fin 2816) :
    Cert.HiddenRefIdeal.Read.val_main_v21 (F := Ideal) (Array.dA m c) (Array.gtA m c) (Array.aA m c) (Array.bA m c) (Array.wA m c) (ix3 b s k)
      = Array.da m c b s k := by
  have e := back_eq m c b s k
  obtain ⟨z, hz⟩ := back_real m c h b s k
  obtain ⟨h0, h1, h2, h3, h4, h5⟩ := h c
  exact (Reference.da _ _ _ _ _ b s k ⟨z, e.trans hz⟩ (Norm.real_of_abs (congrFun h3 (ix3 b s k))) (Norm.real_of_abs (congrFun h4 (ix3 b s k)))).trans
    (congrArg (· * slopeA (Array.aA m c (ix3 b s k)) (Array.bA m c (ix3 b s k))) e)

theorem whole_db (b : Fin 4) (s : Fin 2048) (k : Fin 2816) :
    Cert.HiddenRefIdeal.Read.val_main_v22 (F := Ideal) (Array.dA m c) (Array.gtA m c) (Array.aA m c) (Array.wA m c) (ix3 b s k)
      = Array.db m c b s k :=
  (Reference.db _ _ _ _ b s k).trans ((mul_comm _ _).trans (congrArg (· * slopeB (Array.aA m c (ix3 b s k))) (back_eq m c b s k)))

/-- … and so is the gate's. -/
theorem whole_gate (h : Cert.Pre_HiddenIdeal_finite_hidden m) (b : Fin 4) (d : Fin 1024) :
    Cert.HiddenRefIdeal.Read.val_main_v11 (F := Ideal) (Array.dA m c) (Array.fA m c) (ix3 b 0 d) = ∑ s : Fin 2048, Array.share m c b s d := by
  obtain ⟨h0, h1, h2, h3, h4, h5⟩ := h c
  exact (Reference.gate _ _ b d).trans (half_sum (fun s => Norm.real_of_abs (congrFun h0 (ix3 b s d))) fun s => Norm.real_of_abs (congrFun h2 (ix3 b s d)))

theorem eq_zero (i : Cert.HiddenIdeal.S4x1x1024.Idx) : i = ix3 (i 0) 0 (i 2) := by
  have h1 : (i 1).val < 1 := (i 1).isLt
  funext a; apply Fin.ext
  match a with
  | ⟨0, _⟩ => rfl
  | ⟨1, _⟩ => show (i 1).val = 0; omega
  | ⟨2, _⟩ => rfl

/-- Run from inputs that agree and are finite, the two programs leave the same four arrays. -/
theorem equal : Cert.algebraic_HiddenIdeal_HiddenRefIdeal_pre_finite_hidden := by
  pair_intro
  · run_from run_blocks m g
  · refine θ_run_mono (Cert.HiddenRefIdeal.Value.run (F := Ideal) m' g') fun r hr c => ?_
    obtain ⟨h0, h1, h2, h3, h4⟩ := hr c
    obtain ⟨e0, e1, e2, e3, e4, e5⟩ := hagree c
    refine ⟨(h0.trans (Cert.HiddenRefIdeal.Read.val_main_v20_eq ..)).trans ?_, (h1.trans (Cert.HiddenRefIdeal.Read.val_main_v21_eq ..)).trans ?_,
      (h2.trans (Cert.HiddenRefIdeal.Read.val_main_v22_eq ..)).trans ?_, (h3.trans (Cert.HiddenRefIdeal.Read.val_main_v11_eq ..)).trans ?_, h4⟩
    · rw [e0, e1]
      refine Eq.trans ?_ (Array.final_6 m c).symm
      funext i
      rw [eq_ix3 i]
      exact Reference.scaled_out _ _ (i 0) (i 1) (i 2)
    · rw [e0, e1, e3, e4, e5]
      refine Eq.trans ?_ (Array.final_7 m c).symm
      funext i
      rw [eq_ix3 i]
      exact whole_da m c (by assumption) (i 0) (i 1) (i 2)
    · rw [e0, e1, e3, e5]
      refine Eq.trans ?_ (Array.final_8 m c).symm
      funext i
      rw [eq_ix3 i]
      exact whole_db m c (i 0) (i 1) (i 2)
    · rw [e0, e2]
      refine Eq.trans ?_ (Array.final_9 m c).symm
      funext i
      exact (congrArg _ (eq_zero i)).trans (whole_gate m c (by assumption) (i 0) (i 2))

/-- The ideal program ends with its arguments as they were and every counter at zero. -/
theorem ideal_frame : Cert.quiescent_HiddenIdeal := fun m ρ _ => Hidden.frame_any m ρ

theorem ideal_frame_finite : Cert.quiescent_HiddenIdeal_pre_finite_hidden := fun m ρ _ => Hidden.frame_any m ρ

/-- The reference ends with its arguments as they were; it has no counters. -/
theorem reference_frame : Cert.quiescent_HiddenRefIdeal := fun m ρ _ =>
  θ_run_mono (Cert.HiddenRefIdeal.Value.run (F := Ideal) m ρ)
    fun r h => ⟨fun c => (h c).2.2.2.2, sem_eq_zero_of_no_sems (by decide) r.2⟩

theorem reference_frame_finite : Cert.quiescent_HiddenRefIdeal_pre_finite_hidden := fun m ρ _ =>
  θ_run_mono (Cert.HiddenRefIdeal.Value.run (F := Ideal) m ρ)
    fun r h => ⟨fun c => (h c).2.2.2.2, sem_eq_zero_of_no_sems (by decide) r.2⟩

end Hidden.Equal

end
-- ==== Proof.HiddenKernel.lean ====
/- The kernel's program and its ideal one are the same text, so the run that was proved over any float values is the run of both. -/
module

public import proofs.«01_k».proof.Defs
public import proofs.«01_k».proof.Proof.HiddenFrame
public import proofs.«01_k».proof.Proof.Gen.Hidden.Launch

@[expose] public section

set_option maxRecDepth 16384

open Idealize.ShloMosaic Idealize.ShloMosaic.TcCoe Idealize.SL.Sem

namespace Hidden.Equal

/-- They have one body, … -/
theorem bodies : Cert.Hidden.defs₀ (F := Bits) = Cert.HiddenIdeal.defs₀ (F := Bits) := by
  unfold Cert.Hidden.defs₀ Cert.HiddenIdeal.defs₀
  refine congrArg Defs.onTc (funext fun l => funext fun a => ?_)
  match l, a with
  | ⟨0, _⟩, a => rfl

theorem launches : Cert.Hidden.defs (F := Bits) = Cert.HiddenIdeal.defs (F := Bits) := congrArg (Pipeline.defs Cert.HiddenIdeal.pcfgs) bodies

theorem mains : Cert.Hidden.main (F := Bits) = Cert.HiddenIdeal.main (F := Bits) := rfl

theorem runs : θ_run (Cert.Hidden.defs (F := Bits)) (onTc (τ := Cert.Hidden.τ) (Cert.Hidden.main (F := Bits)))
    = θ_run (Cert.HiddenIdeal.defs (F := Bits)) (onTc (τ := Cert.HiddenIdeal.τ) (Cert.HiddenIdeal.main (F := Bits))) :=
  congr (congrArg θ_run launches) (congrArg (onTc (τ := Cert.HiddenIdeal.τ)) mains)

/-- … so the kernel too ends with its arguments as they were and every counter at zero. -/
theorem frame : Cert.quiescent_Hidden := fun m ρ _ => by
  rw [runs]
  exact Hidden.frame_any (F := Bits) m ρ

end Hidden.Equal

end
-- ==== Proof.MixBlock.lean ====
/- What one step of the gradient through the mixer's projection and norm computes from its block. -/
module

public import proofs.«01_k».proof.Proof.Gen.MixIdeal.Value
public import proofs.«01_k».proof.Proof.NormBlock

@[expose] public section

set_option maxRecDepth 16384

noncomputable section

open Idealize.ShloMosaic Idealize.ShloMosaic.TcCoe Idealize.SL.Sem
open Idealize.ShloMosaic.Pipeline (Dat)
open scoped BigOperators

namespace Mix.Block

open Cert.MixIdeal Cert.MixIdeal.Gen Norm

theorem dh_at (v5 : Vec Ideal S1x512x3072 .bf16) (v7 : Vec Ideal S1024x3072 .bf16) (v9 : Vec Ideal S1x512x512 .bf16)
    (v11 : Vec Ideal S1024x512 .bf16) (v14 : Vec Ideal S1x512x2048 .bf16) (v16 : Vec Ideal S1024x2048 .bf16)
    (r : Fin 512) (d : Fin 1024) : k0_pay4 (F := Ideal) v5 v7 v9 v11 v14 v16 (ix2 r d)
      = (∑ h : Fin 3072, v5 (ix3 0 r h) * v7 (ix2 d h)) + (∑ h : Fin 512, v9 (ix3 0 r h) * v11 (ix2 d h))
        + ∑ h : Fin 2048, v14 (ix3 0 r h) * v16 (ix2 d h) := by
  pointwise [k0_pay4]

theorem x_at (v19 : Vec Ideal S1x512x1024 .f32) (r : Fin 512) (d : Fin 1024) :
    k0_pay5 (F := Ideal) v19 (ix2 r d) = v19 (ix3 0 r d) := by
  pointwise [k0_pay5]

theorem root_at (v19 : Vec Ideal S1x512x1024 .f32) (r : Fin 512) :
    k0_pay8 (F := Ideal) (k0_pay6 v19) k0_pay7 (ix2 r 0) = Ideal.rsqrt (Ideal.div (∑ d : Fin 1024, v19 (ix3 0 r d) * v19 (ix3 0 r d))
      (Ideal.ofBits FTy.f32 1149239296#32) + Ideal.ofBits FTy.f32 897988541#32) := by
  pointwise [k0_pay8, k0_pay7, k0_pay6, k0_pay5]

theorem xhat_at (v20 : FVec Ideal S512x1024 .f32) (v26 v27 : FVec Ideal S512x1 .f32) (r : Fin 512) (d : Fin 1024) :
    k0_pay9 (F := Ideal) v20 v26 v27 (ix2 r d) = v20 (ix2 r d) * k0_pay8 (F := Ideal) v26 v27 (ix2 r 0) := by
  pointwise [k0_pay9]

theorem dhn_at (v18 : FVec Ideal S512x1024 .f32) (v32 : Vec Ideal S1x1x1024 .f32) (r : Fin 512) (d : Fin 1024) :
    k0_pay10 (F := Ideal) v18 v32 (ix2 r d) = v18 (ix2 r d) * (1 + v32 (ix3 0 0 d)) := by
  pointwise [k0_pay10]

theorem shift_at (v18 : FVec Ideal S512x1024 .f32) (d : Fin 1024) :
    k0_pay11 (F := Ideal) v18 (ix2 0 d) = ∑ r : Fin 512, v18 (ix2 r d) := by
  pointwise [k0_pay11]

theorem scaling_at (v18 v20 : FVec Ideal S512x1024 .f32) (v21 : Vec Ideal S1x1024 .f32) (v26 v27 : FVec Ideal S512x1 .f32) (d : Fin 1024) :
    k0_pay12 (F := Ideal) v18 v20 v21 v26 v27 (ix2 0 d)
      = ∑ r : Fin 512, v18 (ix2 r d) * (k0_pay9 (F := Ideal) v20 v26 v27 (ix2 r d) * v21 (ix2 0 d)) := by
  pointwise [k0_pay12]

theorem gain_at (v18 v20 : FVec Ideal S512x1024 .f32) (v26 v27 : FVec Ideal S512x1 .f32) (v32 : Vec Ideal S1x1x1024 .f32) (d : Fin 1024) :
    k0_pay13 (F := Ideal) v18 v20 v26 v27 v32 (ix2 0 d)
      = ∑ r : Fin 512, k0_pay10 (F := Ideal) v18 v32 (ix2 r d) * k0_pay9 (F := Ideal) v20 v26 v27 (ix2 r d) := by
  pointwise [k0_pay13]

theorem dx_at (v18 v20 : FVec Ideal S512x1024 .f32) (v21 : Vec Ideal S1x1024 .f32) (v26 v27 : FVec Ideal S512x1 .f32)
    (v32 : Vec Ideal S1x1x1024 .f32) (v50 : Vec Ideal S1x512x1024 .f32) (r : Fin 512) (d : Fin 1024) :
    k0_pay14 (F := Ideal) v18 v20 v21 v26 v27 v32 v50 (ix3 0 r d)
      = v50 (ix3 0 r d) + k0_pay8 (F := Ideal) v26 v27 (ix2 r 0) * (k0_pay10 (F := Ideal) v18 v32 (ix2 r d) * v21 (ix2 0 d)
        - k0_pay9 (F := Ideal) v20 v26 v27 (ix2 r d) * Ideal.div (∑ k : Fin 1024, k0_pay10 (F := Ideal) v18 v32 (ix2 r k) * v21 (ix2 0 k)
          * k0_pay9 (F := Ideal) v20 v26 v27 (ix2 r k)) (Ideal.ofBits FTy.f32 1149239296#32)) := by
  pointwise [k0_pay14]

variable (m : (ℓ : Loc nD τ sig) → Buf (Elt Ideal) ℓ)

abbrev p1 (c : Dev nD) : FVec Ideal S4x2048x3072 .bf16 := m ((c : Thread nD τ).loc main_arg0)
abbrev pu (c : Dev nD) : FVec Ideal S4x2048x512 .bf16 := m ((c : Thread nD τ).loc main_arg1)
abbrev p3 (c : Dev nD) : FVec Ideal S4x2048x2048 .bf16 := m ((c : Thread nD τ).loc main_arg2)
abbrev win (c : Dev nD) : FVec Ideal S1024x5632 .bf16 := m ((c : Thread nD τ).loc main_arg3)

/-- What comes back through the projection, over its three groups of columns. -/
def back (c : Dev nD) (b : Fin 4) (s : Fin 2048) (d : Fin 1024) : EReal :=
  (∑ h : Fin 3072, p1 m c (ix3 b s h) * win m c (ix2 d ⟨h.val, by omega⟩))
    + (∑ h : Fin 512, pu m c (ix3 b s h) * win m c (ix2 d ⟨3072 + h.val, by omega⟩))
    + ∑ h : Fin 2048, p3 m c (ix3 b s h) * win m c (ix2 d ⟨3584 + h.val, by omega⟩)

/-- The arguments on a device. -/
abbrev data (c : Dev nD) : Data where
  dh := back m c
  x b s d := (m ((c : Thread nD τ).loc main_arg4) : FVec Ideal S4x2048x1024 .f32) (ix3 b s d)
  g d := (m ((c : Thread nD τ).loc main_arg5) : FVec Ideal S1x1024 .f32) (ix2 0 d)
  sc b d := (m ((c : Thread nD τ).loc main_arg6) : FVec Ideal S4x1x1024 .f32) (ix3 b 0 d)
  dxo b s d := (m ((c : Thread nD τ).loc main_arg7) : FVec Ideal S4x2048x1024 .f32) (ix3 b s d)

theorem lt16 (t : Fin cfg0.N) : t.val < 16 := lt_of_lt_of_eq t.isLt N_0

/-- The sequence and the rows of a step. -/
def seq (t : Fin cfg0.N) : Fin 4 := ⟨t.val / 4, by have := lt16 t; omega⟩
def row (t : Fin cfg0.N) (r : Fin 512) : Fin 2048 := ⟨t.val % 4 * 512 + r.val, by omega⟩

theorem idx_val : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![0, 0]
    ∧ win0_5.index t = ![t.val / 4, 0, 0] ∧ win0_6.index t = ![t.val / 4, t.val % 4, 0] ∧ win0_7.index t = ![t.val / 4, t.val % 4, 0]
    ∧ win0_8.index t = ![t.val / 4, 0, 0] ∧ win0_9.index t = ![t.val / 4, 0, 0] ∧ win0_10.index t = ![0, 0] :=
  (by decide +kernel : ∀ t : Fin grid0.N, _)

variable (c : Dev nD) (t : Fin cfg0.N)

theorem load_p1 (r : Fin 512) (h : Fin 3072) : iblk m c 0 t (ix3 0 r h) = p1 m c (ix3 (seq t) (row t r) h) := by
  blk_point [iblk, V, idx_val t, seq, row]
theorem load_pu (r : Fin 512) (h : Fin 512) : iblk m c 1 t (ix3 0 r h) = pu m c (ix3 (seq t) (row t r) h) := by
  blk_point [iblk, V, idx_val t, seq, row]
theorem load_p3 (r : Fin 512) (h : Fin 2048) : iblk m c 2 t (ix3 0 r h) = p3 m c (ix3 (seq t) (row t r) h) := by
  blk_point [iblk, V, idx_val t, seq, row]
theorem load_x (r : Fin 512) (d : Fin 1024) : iblk m c 3 t (ix3 0 r d) = (data m c).x (seq t) (row t r) d := by
  blk_point [iblk, V, idx_val t, seq, row]
theorem load_g (d : Fin 1024) : iblk m c 4 t (ix2 0 d) = (data m c).g d := by
  blk_point [iblk, V, idx_val t, seq, row]
theorem load_sc (d : Fin 1024) : iblk m c 5 t (ix3 0 0 d) = (data m c).sc (seq t) d := by
  blk_point [iblk, V, idx_val t, seq, row]
theorem load_dxo (r : Fin 512) (d : Fin 1024) : iblk m c 6 t (ix3 0 r d) = (data m c).dxo (seq t) (row t r) d := by
  blk_point [iblk, V, idx_val t, seq, row]

/-- The three groups of columns, cut out before the call. -/
def w1 : FVec Ideal S1024x3072 .bf16 := V m c main_v0
def wu : FVec Ideal S1024x512 .bf16 := V m c main_v1
def w3 : FVec Ideal S1024x2048 .bf16 := V m c main_v2

theorem w1_at (d : Fin 1024) (h : Fin 3072) : w1 m c (ix2 d h) = win m c (ix2 d ⟨h.val, by omega⟩) := by
  have e : w1 m c = extractStridedSlice S1024x3072 ![0, 0] (win m c) slices_S1024x5632_S1024x3072_0_0 := by
    show StableHlo.after (List.flatten [hostOps0]) (fun b => m (c, b)) main_v0 = _
    simp only [List.flatten_cons, List.flatten_nil, List.append_nil]
    after_results
  rw [e]
  pointwise []
theorem wu_at (d : Fin 1024) (h : Fin 512) : wu m c (ix2 d h) = win m c (ix2 d ⟨3072 + h.val, by omega⟩) := by
  have e : wu m c = extractStridedSlice S1024x512 ![0, 3072] (win m c) slices_S1024x5632_S1024x512_0_3072 := by
    show StableHlo.after (List.flatten [hostOps0]) (fun b => m (c, b)) main_v1 = _
    simp only [List.flatten_cons, List.flatten_nil, List.append_nil]
    after_results
  rw [e]
  pointwise []
theorem w3_at (d : Fin 1024) (h : Fin 2048) : w3 m c (ix2 d h) = win m c (ix2 d ⟨3584 + h.val, by omega⟩) := by
  have e : w3 m c = extractStridedSlice S1024x2048 ![0, 3584] (win m c) slices_S1024x5632_S1024x2048_0_3584 := by
    show StableHlo.after (List.flatten [hostOps0]) (fun b => m (c, b)) main_v2 = _
    simp only [List.flatten_cons, List.flatten_nil, List.append_nil]
    after_results
  rw [e]
  pointwise []

/-- They are copied at the first step and stay. -/
theorem weights (n : ℕ) (hn : n < cfg0.N) : (outsAt0 m c n hn).2.2.2.2 = (w1 m c, wu m c, w3 m c) := by
  induction n with
  | zero =>
    rw [outsAt0_A m c ⟨0, hn⟩ rfl rfl (by show ¬1 ≤ 0 % 4; omega) rfl (by show ¬1 ≤ 0; omega)]
    frame_out
    rw [Norm.Block.canon_whole, Norm.Block.canon_whole, Norm.Block.canon_whole]
    rfl
  | succ n ih =>
    have h := ih (by omega)
    have h16 := lt16 ⟨n + 1, hn⟩
    by_cases h4 : (n + 1) % 4 = 0
    · rw [outsAt0_C m c ⟨n + 1, hn⟩ (by simp only at *; omega) h4 (by simp only at *; omega) (by simp only at *; omega) (by simp only at *; omega)]
      unfold sout0_C_0 sout0_C_1 sout0_C_2
      exact h
    · rw [outsAt0_B m c ⟨n + 1, hn⟩ (by simp only at *; omega) h4 (by simp only at *; omega) (by simp only at *; omega) (by simp only at *; omega)]
      unfold sout0_B_0 sout0_B_1 sout0_B_2
      exact h

/-- The gradient of the norm's output over the step's rows, the rows themselves, and their mean squares. -/
def dhBlock : FVec Ideal S512x1024 .f32 :=
  k0_pay4 (iblk m c 0 t) (w1 m c) (iblk m c 1 t) (wu m c) (iblk m c 2 t) (w3 m c)
def xBlock : FVec Ideal S512x1024 .f32 := k0_pay5 (iblk m c 3 t)
def sqBlock : FVec Ideal S512x1 .f32 := k0_pay6 (iblk m c 3 t)

/-- What a step leaves in its block of the input's gradient, … -/
def dxBlock : Vec Ideal S1x512x1024 .f32 :=
  k0_pay14 (dhBlock m c t) (xBlock m c t) (iblk m c 4 t) (sqBlock m c t) k0_pay7 (iblk m c 5 t) (iblk m c 6 t)

/-- … and its part of the gain's gradient. -/
def gainBlock : FVec Ideal S1x1024 .f32 :=
  k0_pay13 (dhBlock m c t) (xBlock m c t) (sqBlock m c t) k0_pay7 (iblk m c 5 t)

theorem before (n : ℕ) (hn : n < cfg0.N) : (outsAt0 m c n hn).2.2.2.2.1 = w1 m c ∧ (outsAt0 m c n hn).2.2.2.2.2.1 = wu m c
    ∧ (outsAt0 m c n hn).2.2.2.2.2.2 = w3 m c := by
  rw [weights]
  exact ⟨rfl, rfl, rfl⟩

/-- The first step of all, … -/
theorem at_first (h0 : t.val = 0) : (outsAt0 m c t.val t.isLt).1 = dxBlock m c t
    ∧ (outsAt0 m c t.val t.isLt).2.1 = k0_pay15 (dhBlock m c t)
    ∧ (outsAt0 m c t.val t.isLt).2.2.1 = k0_pay16 (dhBlock m c t) (xBlock m c t) (iblk m c 4 t) (sqBlock m c t) k0_pay7
    ∧ (outsAt0 m c t.val t.isLt).2.2.2.1 = gainBlock m c t := by
  rw [outsAt0_A m c t (by omega) (by omega) (by omega) (by omega) (by omega)]
  frame_out
  rw [Norm.Block.load_copied, Norm.Block.load_copied, Norm.Block.load_copied]
  exact ⟨rfl, rfl, rfl, rfl⟩

/-- … the first of another sequence, … -/
theorem at_start (h0 : ¬t.val = 0) (h4 : t.val % 4 = 0) : (outsAt0 m c t.val t.isLt).1 = dxBlock m c t
    ∧ (outsAt0 m c t.val t.isLt).2.1 = k0_pay15 (dhBlock m c t)
    ∧ (outsAt0 m c t.val t.isLt).2.2.1 = k0_pay16 (dhBlock m c t) (xBlock m c t) (iblk m c 4 t) (sqBlock m c t) k0_pay7
    ∧ (outsAt0 m c t.val t.isLt).2.2.2.1
      = k0_pay3 (gainBlock m c t) (outsAt0 m c (t.val - 1) (by have := lt16 t; have := N_0; omega)).2.2.2.1 := by
  obtain ⟨ha, hb, hc⟩ := before m c (t.val - 1) (by have := lt16 t; have := N_0; omega)
  have ht := lt16 t
  rw [outsAt0_C m c t (by omega) (by omega) (by omega) (by omega) (by omega)]
  frame_out
  rw [read_unread_whole, read_unread_whole, read_unread_whole, ha, hb, hc]
  exact ⟨rfl, rfl, rfl, rfl⟩

/-- … and any other. -/
theorem at_next (h4 : ¬t.val % 4 = 0) : (outsAt0 m c t.val t.isLt).1 = dxBlock m c t
    ∧ (outsAt0 m c t.val t.isLt).2.1
      = k0_pay1 (k0_pay11 (dhBlock m c t)) (outsAt0 m c (t.val - 1) (by have := lt16 t; have := N_0; omega)).2.1
    ∧ (outsAt0 m c t.val t.isLt).2.2.1
      = k0_pay2 (k0_pay12 (dhBlock m c t) (xBlock m c t) (iblk m c 4 t) (sqBlock m c t) k0_pay7)
        (outsAt0 m c (t.val - 1) (by have := lt16 t; have := N_0; omega)).2.2.1
    ∧ (outsAt0 m c t.val t.isLt).2.2.2.1
      = k0_pay3 (gainBlock m c t) (outsAt0 m c (t.val - 1) (by have := lt16 t; have := N_0; omega)).2.2.2.1 := by
  obtain ⟨ha, hb, hc⟩ := before m c (t.val - 1) (by have := lt16 t; have := N_0; omega)
  have ht := lt16 t
  rw [outsAt0_B m c t (by omega) (by omega) (by omega) (by omega) (by omega)]
  frame_out
  rw [read_unread_whole, read_unread_whole, read_unread_whole, ha, hb, hc]
  exact ⟨rfl, rfl, rfl, rfl⟩

end Mix.Block

end
-- ==== Proof.MixArray.lean ====
/- From the steps' blocks to the whole gradients through the mixer's projection and norm. -/
module

public import proofs.«01_k».proof.Proof.MixBlock
public import proofs.«01_k».proof.Proof.NormArray

@[expose] public section

set_option maxRecDepth 16384

noncomputable section

open Idealize.ShloMosaic Idealize.ShloMosaic.TcCoe Idealize.SL.Sem
open Idealize.ShloMosaic.Pipeline (Dat)
open scoped BigOperators

namespace Mix.Array

open Cert.MixIdeal Cert.MixIdeal.Gen Mix.Block
open Norm (Data)
open Norm.Array (ix3_of ix3_zero ix2_zero)

variable (m : (ℓ : Loc nD τ sig) → Buf (Elt Ideal) ℓ) (c : Dev nD) (t : Fin cfg0.N)

theorem dh_block (r : Fin 512) (d : Fin 1024) : dhBlock m c t (ix2 r d) = (data m c).dh (seq t) (row t r) d := by
  refine (dh_at _ _ _ _ _ _ r d).trans ?_
  exact congrArg₂ (· + ·) (congrArg₂ (· + ·)
      (Finset.sum_congr rfl fun h _ => congrArg₂ (· * ·) (load_p1 m c t r h) (w1_at m c d h))
      (Finset.sum_congr rfl fun h _ => congrArg₂ (· * ·) (load_pu m c t r h) (wu_at m c d h)))
    (Finset.sum_congr rfl fun h _ => congrArg₂ (· * ·) (load_p3 m c t r h) (w3_at m c d h))

theorem root_block (r : Fin 512) : k0_pay8 (F := Ideal) (sqBlock m c t) k0_pay7 (ix2 r 0) = (data m c).root (seq t) (row t r) := by
  refine (root_at _ r).trans ?_
  unfold Data.root Data.square
  simp only [load_x]

theorem xhat_block (r : Fin 512) (d : Fin 1024) :
    k0_pay9 (F := Ideal) (xBlock m c t) (sqBlock m c t) k0_pay7 (ix2 r d) = (data m c).xhat (seq t) (row t r) d := by
  rw [xhat_at, root_block]
  exact congrArg (· * _) ((x_at _ r d).trans (load_x m c t r d))

theorem dhn_block (r : Fin 512) (d : Fin 1024) : k0_pay10 (F := Ideal) (dhBlock m c t) (iblk m c 5 t) (ix2 r d)
    = (data m c).dh (seq t) (row t r) d * (1 + (data m c).sc (seq t) d) := by
  refine (dhn_at _ _ r d).trans ?_
  rw [dh_block, load_sc]

theorem dx_block (r : Fin 512) (d : Fin 1024) : dxBlock m c t (ix3 0 r d) = (data m c).dx (seq t) (row t r) d := by
  refine (dx_at _ _ _ _ _ _ _ r d).trans ?_
  simp only [dhn_block, root_block, xhat_block, load_g, load_dxo]
  rfl

theorem shift_block (d : Fin 1024) : k0_pay11 (F := Ideal) (dhBlock m c t) (ix2 0 d) = ∑ r : Fin 512, (data m c).dh (seq t) (row t r) d := by
  rw [shift_at]
  simp only [dh_block]

theorem scale_block (d : Fin 1024) :
    k0_pay12 (F := Ideal) (dhBlock m c t) (xBlock m c t) (iblk m c 4 t) (sqBlock m c t) k0_pay7 (ix2 0 d)
      = ∑ r : Fin 512, (data m c).dh (seq t) (row t r) d * ((data m c).xhat (seq t) (row t r) d * (data m c).g d) := by
  rw [scaling_at]
  simp only [dh_block, xhat_block, load_g]

theorem gain_block (d : Fin 1024) : gainBlock m c t (ix2 0 d)
    = ∑ r : Fin 512, (data m c).dh (seq t) (row t r) d * (1 + (data m c).sc (seq t) d) * (data m c).xhat (seq t) (row t r) d := by
  refine (gain_at _ _ _ _ _ d).trans ?_
  simp only [dhn_block, xhat_block]

/-- Every step leaves its block of the input's gradient. -/
theorem one : (outsAt0 m c t.val t.isLt).1 = dxBlock m c t := by
  by_cases h0 : t.val = 0
  · exact (at_first m c t h0).1
  by_cases h4 : t.val % 4 = 0
  · exact (at_start m c t h0 h4).1
  · exact (at_next m c t h4).1

/-- The input's gradient, whole. -/
theorem final_7 : (dats m 0 c).arrAt 7 (cfgs 0).N
    = (fun j => (data m c).dx (j 0) (j 1) (j 2) : FVec Ideal S4x2048x1024 .f32) := by
  refine (dats m 0 c).arrAt_eq_of_covers 7 _ (by decide +kernel) fun t hf y => ?_
  have ht := lt16 t
  have place : ((cfg0.win 7).blk t).view.emb y = (ix3 (seq t) (row t (y 1)) (y 2) : S4x2048x1024.Idx) := by
    have h0 : (y 0).val < 1 := (y 0).isLt
    blk_ext [idx_val t, seq, row]
  blk_simp; rw [after0_7]
  refine (congrFun (one m c t) y).trans ((congrArg (dxBlock m c t) (ix3_of y)).trans ((dx_block m c t (y 1) (y 2)).trans ?_))
  exact (congrArg (fun j : S4x2048x1024.Idx => (data m c).dx (j 0) (j 1) (j 2)) place.symm)

/-- A sum over a sequence's steps of sums over their rows is the sum over all rows. -/
theorem sum_rows (f : Fin 4 → Fin 2048 → EReal) (n : ℕ) (hn : n < 4) (h : ∀ s : Fin 4, 4 * n + s.val < cfg0.N) :
    ∑ s : Fin 4, ∑ r : Fin 512, f (seq ⟨4 * n + s.val, h s⟩) (row ⟨4 * n + s.val, h s⟩ r) = ∑ s : Fin 2048, f ⟨n, hn⟩ s :=
  Norm.Array.sum_rows f n hn h

theorem add_shift (u : FVec Ideal S1x1024 .f32) (z : Vec Ideal S1x1x1024 .f32) (d : Fin 1024) :
    k0_pay1 (F := Ideal) u z (ix3 0 0 d) = z (ix3 0 0 d) + u (ix2 0 d) := by
  pointwise [k0_pay1]

theorem first_shift (v18 : FVec Ideal S512x1024 .f32) (d : Fin 1024) :
    k0_pay15 (F := Ideal) v18 (ix3 0 0 d) = k0_pay11 (F := Ideal) v18 (ix2 0 d) := by
  pointwise [k0_pay15]

theorem add_scale (u : FVec Ideal S1x1024 .f32) (z : Vec Ideal S1x1x1024 .f32) (d : Fin 1024) :
    k0_pay2 (F := Ideal) u z (ix3 0 0 d) = z (ix3 0 0 d) + u (ix2 0 d) := by
  pointwise [k0_pay2]

theorem first_scale (v18 v20 : FVec Ideal S512x1024 .f32) (v21 : Vec Ideal S1x1024 .f32) (v26 v27 : FVec Ideal S512x1 .f32) (d : Fin 1024) :
    k0_pay16 (F := Ideal) v18 v20 v21 v26 v27 (ix3 0 0 d) = k0_pay12 (F := Ideal) v18 v20 v21 v26 v27 (ix2 0 d) := by
  pointwise [k0_pay16]

theorem add_gain (u z : FVec Ideal S1x1024 .f32) (d : Fin 1024) :
    k0_pay3 (F := Ideal) u z (ix2 0 d) = z (ix2 0 d) + u (ix2 0 d) := by
  pointwise [k0_pay3]

/-- A sequence's first step, whether or not it is the first of all. -/
theorem start (h4 : t.val % 4 = 0) : (outsAt0 m c t.val t.isLt).2.1 = k0_pay15 (dhBlock m c t)
    ∧ (outsAt0 m c t.val t.isLt).2.2.1 = k0_pay16 (dhBlock m c t) (xBlock m c t) (iblk m c 4 t) (sqBlock m c t) k0_pay7 := by
  by_cases h0 : t.val = 0
  · exact ⟨(at_first m c t h0).2.1, (at_first m c t h0).2.2.1⟩
  · exact ⟨(at_start m c t h0 h4).2.1, (at_start m c t h0 h4).2.2.1⟩

theorem gain_next (h0 : ¬t.val = 0) : (outsAt0 m c t.val t.isLt).2.2.2.1
    = k0_pay3 (gainBlock m c t) (outsAt0 m c (t.val - 1) (by have := lt16 t; have := N_0; omega)).2.2.2.1 := by
  by_cases h4 : t.val % 4 = 0
  · exact (at_start m c t h0 h4).2.2.2
  · exact (at_next m c t h4).2.2.2

/-- What the shift's gradient holds at a sequence's last step, … -/
theorem shift_last (h3 : t.val % 4 = 3) (y : S1x1x1024.Idx) :
    (outsAt0 m c t.val t.isLt).2.1 y = (data m c).dshift (seq t) (y 2) := by
  have ht := lt16 t
  refine (Pipeline.eq_sum_fin_of_reset_step_apply_of_flush (fun n h => (outsAt0 m c n h).2.1) 4 (fun _ => 0)
    (fun n (x : S1x1x1024.Idx) => ∑ r : Fin 512, (data m c).dh (seq n) (row n r) (x 2))
    (fun t h x => by
      rw [(start m c t h).1]
      exact (congrArg (k0_pay15 (F := Ideal) _) (ix3_zero x)).trans
        ((first_shift _ (x 2)).trans ((shift_block m c t (x 2)).trans (zero_add _).symm)))
    (fun t h x => by
      rw [(at_next m c t h).2.1]
      exact (congrArg (k0_pay1 (F := Ideal) _ _) (ix3_zero x)).trans ((add_shift _ _ (x 2)).trans
        (congrArg₂ (· + ·) (congrArg _ (ix3_zero x).symm) (shift_block m c t (x 2)))))
    t h3 y).trans ?_
  rw [zero_add]
  exact sum_rows (fun b s => (data m c).dh b s (y 2)) (t.val / 4) (by omega) fun s => by have := N_0; omega

/-- … and the scale's. -/
theorem scale_last (h3 : t.val % 4 = 3) (y : S1x1x1024.Idx) :
    (outsAt0 m c t.val t.isLt).2.2.1 y = (data m c).dscale (seq t) (y 2) := by
  have ht := lt16 t
  refine (Pipeline.eq_sum_fin_of_reset_step_apply_of_flush (fun n h => (outsAt0 m c n h).2.2.1) 4 (fun _ => 0)
    (fun n (x : S1x1x1024.Idx) => ∑ r : Fin 512, (data m c).dh (seq n) (row n r) (x 2)
      * ((data m c).xhat (seq n) (row n r) (x 2) * (data m c).g (x 2)))
    (fun t h x => by
      rw [(start m c t h).2]
      exact (congrArg (k0_pay16 (F := Ideal) _ _ _ _ _) (ix3_zero x)).trans
        ((first_scale _ _ _ _ _ (x 2)).trans ((scale_block m c t (x 2)).trans (zero_add _).symm)))
    (fun t h x => by
      rw [(at_next m c t h).2.2.1]
      exact (congrArg (k0_pay2 (F := Ideal) _ _) (ix3_zero x)).trans ((add_scale _ _ (x 2)).trans
        (congrArg₂ (· + ·) (congrArg _ (ix3_zero x).symm) (scale_block m c t (x 2)))))
    t h3 y).trans ?_
  rw [zero_add]
  exact sum_rows (fun b s => (data m c).dh b s (y 2) * ((data m c).xhat b s (y 2) * (data m c).g (y 2))) (t.val / 4) (by omega)
    fun s => by have := N_0; omega

end Mix.Array

end
-- ==== Proof.MixFinal.lean ====
/- The gradients of the mixer's shift, scale and gain, whole. -/
module

public import proofs.«01_k».proof.Proof.MixArray

@[expose] public section

set_option maxRecDepth 16384

noncomputable section

open Idealize.ShloMosaic Idealize.ShloMosaic.TcCoe Idealize.SL.Sem
open Idealize.ShloMosaic.Pipeline (Dat)
open scoped BigOperators

namespace Mix.Array

open Cert.MixIdeal Cert.MixIdeal.Gen Mix.Block
open Norm (Data)
open Norm.Array (ix2_zero)

variable (m : (ℓ : Loc nD τ sig) → Buf (Elt Ideal) ℓ) (c : Dev nD) (t : Fin cfg0.N)

/-- The shift's gradient, whole. -/
theorem final_8 : (dats m 0 c).arrAt 8 (cfgs 0).N
    = (fun j => (data m c).dshift (j 0) (j 2) : FVec Ideal S4x1x1024 .f32) := by
  refine (dats m 0 c).arrAt_eq_of_covers 8 _ (by decide +kernel) fun t hf y => ?_
  have ht := lt16 t
  have place : ((cfg0.win 8).blk t).view.emb y = (ix3 (seq t) 0 (y 2) : S4x1x1024.Idx) := by
    have h0 : (y 0).val < 1 := (y 0).isLt
    have h1 : (y 1).val < 1 := (y 1).isLt
    blk_ext [idx_val t, seq]
  blk_simp; rw [after0_8]
  refine (shift_last m c t ((flush0_8 t).mp hf) y).trans ?_
  have p0 : (win0_8.blk t).view.emb y 0 = seq t := congrFun place 0
  have p2 : (win0_8.blk t).view.emb y 2 = y 2 := congrFun place 2
  exact congrArg₂ (data m c).dshift p0.symm p2.symm

/-- The scale's gradient, whole. -/
theorem final_9 : (dats m 0 c).arrAt 9 (cfgs 0).N
    = (fun j => (data m c).dscale (j 0) (j 2) : FVec Ideal S4x1x1024 .f32) := by
  refine (dats m 0 c).arrAt_eq_of_covers 9 _ (by decide +kernel) fun t hf y => ?_
  have ht := lt16 t
  have place : ((cfg0.win 9).blk t).view.emb y = (ix3 (seq t) 0 (y 2) : S4x1x1024.Idx) := by
    have h0 : (y 0).val < 1 := (y 0).isLt
    have h1 : (y 1).val < 1 := (y 1).isLt
    blk_ext [idx_val t, seq]
  blk_simp; rw [after0_9]
  refine (scale_last m c t ((flush0_9 t).mp hf) y).trans ?_
  have p0 : (win0_9.blk t).view.emb y 0 = seq t := congrFun place 0
  have p2 : (win0_9.blk t).view.emb y 2 = y 2 := congrFun place 2
  exact congrArg₂ (data m c).dscale p0.symm p2.symm

/-- What one step adds to the gain's gradient. -/
def gainPart (x : S1x1024.Idx) : EReal := ∑ r : Fin 512, (data m c).dh (seq t) (row t r) (x 1)
  * (1 + (data m c).sc (seq t) (x 1)) * (data m c).xhat (seq t) (row t r) (x 1)

theorem gain_part (x : S1x1024.Idx) : gainBlock m c t x = gainPart m c t x :=
  (congrArg (gainBlock m c t) (ix2_zero x)).trans (gain_block m c t (x 1))

/-- The gain's gradient, whole. -/
theorem final_10 : (dats m 0 c).arrAt 10 (cfgs 0).N = (fun j => (data m c).dgain (j 1) : FVec Ideal S1x1024 .f32) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0)
    (fun t x => gainPart m c t x)
    (fun t h x => by
      rw [(at_first m c t (by have := lt16 t; omega)).2.2.2]
      exact (gain_part m c t x).trans (zero_add _).symm)
    (fun t h x => by
      rw [gain_next m c t (by omega)]
      exact (congrArg (k0_pay3 (F := Ideal) _ _) (ix2_zero x)).trans ((add_gain _ _ (x 1)).trans
        (congrArg₂ (· + ·) (congrArg _ (ix2_zero x).symm) ((gain_block m c t (x 1))))))
    (le_of_eq N_0) t0_15 rfl j, zero_add]
  show ∑ t : Fin cfg0.N, gainPart m c t j = (data m c).dgain (j 1)
  unfold gainPart Data.dgain
  refine Fin.sum_points_lanes_congr 4 fun t r ha hl => ?_
  rfl

end Mix.Array

end
-- ==== Proof.MixReference.lean ====
/- The reference's gradient through the mixer's projection and norm, stage by stage, in the terms of `NormSpec`. -/
module

public import proofs.«01_k».proof.Proof.NormSpec
public import proofs.«01_k».proof.Proof.ConvReference
public import proofs.«01_k».proof.Proof.Gen.MixRefIdeal.Read

@[expose] public section

set_option maxRecDepth 16384

noncomputable section

open Idealize.ShloMosaic Idealize.ShloMosaic.TcCoe Idealize.SL.Sem
open scoped BigOperators

namespace Mix.Reference

open Cert.MixRefIdeal Cert.MixRefIdeal.Read
open Norm (Data)

variable (x0 : FVec Ideal S4x2048x3072 .bf16) (x1 : FVec Ideal S4x2048x512 .bf16) (x2 : FVec Ideal S4x2048x2048 .bf16)
  (x3 : FVec Ideal S1024x5632 .bf16) (x4 : FVec Ideal S4x2048x1024 .f32) (x5 : FVec Ideal S1x1024 .f32)
  (x6 : FVec Ideal S4x1x1024 .f32) (x7 : FVec Ideal S4x2048x1024 .f32)

/-- What comes back through the projection, over its three groups of columns. -/
def back (b : Fin 4) (s : Fin 2048) (d : Fin 1024) : EReal :=
  (∑ h : Fin 3072, x0 (ix3 b s h) * x3 (ix2 d ⟨h.val, by omega⟩))
    + (∑ h : Fin 512, x1 (ix3 b s h) * x3 (ix2 d ⟨3072 + h.val, by omega⟩))
    + ∑ h : Fin 2048, x2 (ix3 b s h) * x3 (ix2 d ⟨3584 + h.val, by omega⟩)

/-- The arguments, read by their indices. -/
abbrev of : Data where
  dh := back x0 x1 x2 x3
  x b s d := x4 (ix3 b s d)
  g d := x5 (ix2 0 d)
  sc b d := x6 (ix3 b 0 d)
  dxo b s d := x7 (ix3 b s d)

variable (b : Fin 4) (s : Fin 2048) (d : Fin 1024)

/-- The three gradients side by side, read in each of the three groups of columns. -/
theorem left (h : Fin 3072) : val_main_v31 (F := Ideal) x0 x1 x2 (ix3 b s ⟨h.val, by omega⟩) = x0 (ix3 b s h) := by
  have h1 : h.val < 3072 := h.isLt
  unfold val_main_v31 val_main_v30 val_main_v29 val_main_v28
  pointwise []

theorem middle (h : Fin 512) : val_main_v31 (F := Ideal) x0 x1 x2 (ix3 b s ⟨3072 + h.val, by omega⟩) = x1 (ix3 b s h) := by
  unfold val_main_v31 val_main_v30 val_main_v29 val_main_v28
  pointwise []

theorem right (h : Fin 2048) : val_main_v31 (F := Ideal) x0 x1 x2 (ix3 b s ⟨3584 + h.val, by omega⟩) = x2 (ix3 b s h) := by
  unfold val_main_v31 val_main_v30 val_main_v29 val_main_v28
  pointwise []
  rw [dif_neg (by omega), dif_neg (by omega)]
  exact congrArg (fun k => x2 (ix3 b s k)) (Fin.ext (by show 3584 + h.val - 3072 - 512 = h.val; omega))

/-- A sum over all columns is the sum over the three groups. -/
theorem sum_groups (f : Fin 5632 → EReal) : ∑ k, f k = (∑ h : Fin 3072, f ⟨h.val, by omega⟩)
    + (∑ h : Fin 512, f ⟨3072 + h.val, by omega⟩) + ∑ h : Fin 2048, f ⟨3584 + h.val, by omega⟩ := by
  refine (Fin.sum_univ_add (a := 3584) (b := 2048) f).trans ?_
  exact congrArg (· + _) (Fin.sum_univ_add (a := 3072) (b := 512) fun k => f (Fin.castAdd 2048 k))

/-- The gradient of the norm's output. -/
theorem dh : val_main_v32 (F := Ideal) x0 x1 x2 x3 (ix3 b s d) = back x0 x1 x2 x3 b s d := by
  have e : val_main_v32 (F := Ideal) x0 x1 x2 x3 (ix3 b s d)
      = ∑ k : Fin 5632, val_main_v31 (F := Ideal) x0 x1 x2 (ix3 b s k) * x3 (ix2 d k) := by
    unfold val_main_v32 val_main_v0
    pointwise []
  rw [e, sum_groups]
  simp only [left, middle, right]
  rfl

/-- A row's mean square, … -/
theorem square : val_main_v8 (F := Ideal) x4 (ix3 b s 0) = (of x0 x1 x2 x3 x4 x5 x6 x7).square b s := by
  unfold val_main_v8 val_main_v7 val_main_v6 val_main_v5 val_main_v4 val_main_v3 val_main_v2 val_main_cst_0 val_main_cst_1 val_main_cst_2
  pointwise []
  rfl

/-- … its root, … -/
theorem root : val_main_v9 (F := Ideal) x4 (ix3 b s 0) = (of x0 x1 x2 x3 x4 x5 x6 x7).root b s := by
  unfold Data.root
  rw [← square]
  unfold val_main_v9
  pointwise []

/-- … and the root's derivative. -/
theorem slope : val_main_v12 (F := Ideal) x4 (ix3 b s 0) = Ideal.ofBits FTy.f32 3204448256#32
    * Ideal.div ((of x0 x1 x2 x3 x4 x5 x6 x7).root b s) ((of x0 x1 x2 x3 x4 x5 x6 x7).square b s) := by
  rw [← square, ← root]
  unfold val_main_v12 val_main_v11 val_main_v10 val_main_cst_3
  pointwise []

/-- The normed row. -/
theorem xhat : val_main_v14 (F := Ideal) x4 (ix3 b s d) = (of x0 x1 x2 x3 x4 x5 x6 x7).xhat b s d := by
  unfold Data.xhat
  rw [← root]
  unfold val_main_v14 val_main_v13
  pointwise []

/-- The shift's gradient. -/
theorem dshift : val_main_v34 (F := Ideal) x0 x1 x2 x3 (ix3 b 0 d) = (of x0 x1 x2 x3 x4 x5 x6 x7).dshift b d := by
  unfold Data.dshift
  simp only [← dh]
  unfold val_main_v34 val_main_v33 val_main_cst_5
  pointwise []

/-- The scale's gradient. -/
theorem dscale : val_main_v37 (F := Ideal) x0 x1 x2 x3 x4 x5 (ix3 b 0 d) = (of x0 x1 x2 x3 x4 x5 x6 x7).dscale b d := by
  unfold Data.dscale
  simp only [← dh, ← xhat]
  unfold val_main_v37 val_main_v36 val_main_v35 val_main_v17 val_main_v16 val_main_v15 val_main_cst_6
  pointwise []
  exact Finset.sum_congr rfl fun k _ => mul_comm _ _

/-- The gradient of the scaled row before its gain. -/
theorem scaled : val_main_v39 (F := Ideal) x0 x1 x2 x3 x6 (ix3 b s d)
    = back x0 x1 x2 x3 b s d * (1 + x6 (ix3 b 0 d)) := by
  rw [← dh]
  unfold val_main_v39 val_main_v38 val_main_v19 val_main_v18 val_main_cst_4
  pointwise []

/-- The gain's gradient. -/
theorem dgain : val_main_v46 (F := Ideal) x0 x1 x2 x3 x4 x6 (ix2 0 d) = (of x0 x1 x2 x3 x4 x5 x6 x7).dgain d := by
  unfold Data.dgain
  simp only [← xhat]
  unfold val_main_v46 val_main_v45 val_main_v42 val_main_v41 val_main_v40 val_main_cst_7 val_main_cst_8
  pointwise [Conv.sum_leading]
  rw [Fin.sum_univ_one, Fin.sum_univ_one]
  exact Finset.sum_congr rfl fun b _ => Finset.sum_congr rfl fun s _ => by
    rw [scaled]
    exact mul_comm _ _

/-- The gradient of the normed row. -/
theorem dxh : val_main_v44 (F := Ideal) x0 x1 x2 x3 x5 x6 (ix3 b s d) = (of x0 x1 x2 x3 x4 x5 x6 x7).dxh b s d := by
  unfold Data.dxh
  rw [← scaled]
  unfold val_main_v44 val_main_v43 val_main_v15
  pointwise []

/-- What reaches every entry of a row through its root. -/
theorem through : val_main_v56 (F := Ideal) x0 x1 x2 x3 x4 x5 x6 (ix3 b s d)
    = Ideal.div ((∑ k : Fin 1024, x4 (ix3 b s k) * (of x0 x1 x2 x3 x4 x5 x6 x7).dxh b s k) * (Ideal.ofBits FTy.f32 3204448256#32
        * Ideal.div ((of x0 x1 x2 x3 x4 x5 x6 x7).root b s) ((of x0 x1 x2 x3 x4 x5 x6 x7).square b s)))
      (Ideal.ofBits FTy.f32 1149239296#32) := by
  simp only [← dxh]
  rw [← slope]
  unfold val_main_v56 val_main_v55 val_main_v54 val_main_v53 val_main_v52 val_main_v49 val_main_v48 val_main_v47
    val_main_cst_9 val_main_cst_10 val_main_cst_11
  pointwise []
  exact Fin.sum_univ_one _

/-- The gradient of the norm's input, through the two uses of the input in the square. -/
theorem dx : val_main_v61 (F := Ideal) x0 x1 x2 x3 x4 x5 x6 x7 (ix3 b s d)
    = x7 (ix3 b s d) + ((of x0 x1 x2 x3 x4 x5 x6 x7).dxh b s d * (of x0 x1 x2 x3 x4 x5 x6 x7).root b s
      + x4 (ix3 b s d) * val_main_v56 (F := Ideal) x0 x1 x2 x3 x4 x5 x6 (ix3 b s d)
      + val_main_v56 (F := Ideal) x0 x1 x2 x3 x4 x5 x6 (ix3 b s d) * x4 (ix3 b s d)) := by
  rw [← dxh, ← root]
  unfold val_main_v61 val_main_v60 val_main_v59 val_main_v58 val_main_v57 val_main_v51 val_main_v50
  pointwise []

end Mix.Reference

end
-- ==== Proof.MixEqual.lean ====
/- The gradients through the mixer's projection and norm, computed block by block, are those of the plain ones. -/
module

public import proofs.«01_k».proof.Defs
public import proofs.«01_k».proof.Proof.MixFinal
public import proofs.«01_k».proof.Proof.MixReference
public import proofs.«01_k».proof.Proof.NormEqual
public import proofs.«01_k».proof.Proof.Gen.Mix.Frame

@[expose] public section

set_option maxRecDepth 16384

open Idealize.ShloMosaic Idealize.ShloMosaic.TcCoe Idealize.SL.Sem
open scoped BigOperators

namespace Mix.Equal

open Norm (Data real_mul real_add real_sum real_of_abs)

instance facts : Cert.Pre_finite_mix.Facts where
  bitsLt_bf16_f32 := by decide
  bcast_S_S4x2048x3072 := by decide +kernel
  bcast_S_S4x2048x512 := by decide +kernel
  bcast_S_S4x2048x2048 := by decide +kernel
  bcast_S_S1024x5632 := by decide +kernel
  bcast_S_S4x2048x1024 := by decide +kernel
  bcast_S_S1x1024 := by decide +kernel
  bcast_S_S4x1x1024 := by decide +kernel

/-- What the precondition says of the arguments. -/
theorem finite (m : (ℓ : Loc Cert.MixIdeal.nD Cert.MixIdeal.τ Cert.MixIdeal.sig) → Buf (Elt Ideal) ℓ)
    (h : Cert.Pre_MixIdeal_finite_mix m) (c : Dev Cert.MixIdeal.nD) : (Block.data m c).Finite := by
  obtain ⟨h0, h1, h2, h3, h4, h5, h6⟩ := h c
  exact ⟨fun b s d => real_add (real_add
      (real_sum fun k => real_mul (real_of_abs (congrFun h0 (ix3 b s k))) (real_of_abs (congrFun h3 (ix2 d _))))
      (real_sum fun k => real_mul (real_of_abs (congrFun h1 (ix3 b s k))) (real_of_abs (congrFun h3 (ix2 d _)))))
      (real_sum fun k => real_mul (real_of_abs (congrFun h2 (ix3 b s k))) (real_of_abs (congrFun h3 (ix2 d _)))),
    fun b s d => real_of_abs (congrFun h4 (ix3 b s d)), fun d => real_of_abs (congrFun h5 (ix2 0 d)),
    fun b d => real_of_abs (congrFun h6 (ix3 b 0 d))⟩

/-- The reference's gradient of the input is the one that the blocks give. -/
theorem whole (D : Data) (x0 : FVec Ideal Cert.MixRefIdeal.S4x2048x3072 .bf16) (x1 : FVec Ideal Cert.MixRefIdeal.S4x2048x512 .bf16)
    (x2 : FVec Ideal Cert.MixRefIdeal.S4x2048x2048 .bf16) (x3 : FVec Ideal Cert.MixRefIdeal.S1024x5632 .bf16)
    (x4 : FVec Ideal Cert.MixRefIdeal.S4x2048x1024 .f32) (x5 : FVec Ideal Cert.MixRefIdeal.S1x1024 .f32)
    (x6 : FVec Ideal Cert.MixRefIdeal.S4x1x1024 .f32) (x7 : FVec Ideal Cert.MixRefIdeal.S4x2048x1024 .f32)
    (e : Reference.of x0 x1 x2 x3 x4 x5 x6 x7 = D) (h : D.Finite) (b : Fin 4) (s : Fin 2048) (d : Fin 1024) :
    Cert.MixRefIdeal.Read.val_main_v61 (F := Ideal) x0 x1 x2 x3 x4 x5 x6 x7 (ix3 b s d) = D.dx b s d := by
  subst e
  exact (Reference.dx x0 x1 x2 x3 x4 x5 x6 x7 b s d).trans
    (Norm.Equal.dx_eq h b s d _ (Reference.through x0 x1 x2 x3 x4 x5 x6 x7 b s d))

/-- Run from inputs that agree and are finite, the two programs leave the same four gradients. -/
theorem equal : Cert.algebraic_MixIdeal_MixRefIdeal_pre_finite_mix := by
  pair_intro
  · run_from Cert.MixIdeal.Value.run_blocks m g
  · refine θ_run_mono (Cert.MixRefIdeal.Value.run (F := Ideal) m' g') fun r hr c => ?_
    obtain ⟨h0, h1, h2, h3, h4⟩ := hr c
    obtain ⟨e0, e1, e2, e3, e4, e5, e6, e7⟩ := hagree c
    refine ⟨(h0.trans (Cert.MixRefIdeal.Read.val_main_v61_eq m' c)).trans ?_, (h1.trans (Cert.MixRefIdeal.Read.val_main_v34_eq ..)).trans ?_,
      (h2.trans (Cert.MixRefIdeal.Read.val_main_v37_eq ..)).trans ?_, (h3.trans (Cert.MixRefIdeal.Read.val_main_v46_eq ..)).trans ?_, h4⟩
    · rw [e0, e1, e2, e3, e4, e5, e6, e7]
      refine Eq.trans ?_ (Array.final_7 m c).symm
      funext i
      rw [eq_ix3 i]
      exact whole (Block.data m c) _ _ _ _ _ _ _ _ rfl (finite m (by assumption) c) (i 0) (i 1) (i 2)
    · rw [e0, e1, e2, e3]
      refine Eq.trans ?_ (Array.final_8 m c).symm
      funext i
      rw [Norm.Array.ix3_mid i]
      exact Reference.dshift _ _ _ _ _ _ _ _ _ _
    · rw [e0, e1, e2, e3, e4, e5]
      refine Eq.trans ?_ (Array.final_9 m c).symm
      funext i
      rw [Norm.Array.ix3_mid i]
      exact Reference.dscale _ _ _ _ _ _ _ _ _ _
    · rw [e0, e1, e2, e3, e4, e6]
      refine Eq.trans ?_ (Array.final_10 m c).symm
      funext i
      rw [Norm.Array.ix2_zero i]
      exact Reference.dgain _ _ _ _ _ _ _ _ _

/-- The kernel ends with its arguments as they were and every counter at zero; so does its ideal program. -/
theorem frame : Cert.quiescent_Mix := fun m ρ _ => Cert.Mix.Gen.frame m ρ

theorem ideal_frame : Cert.quiescent_MixIdeal := fun m ρ _ => Cert.MixIdeal.Gen.frame m ρ

theorem ideal_frame_finite : Cert.quiescent_MixIdeal_pre_finite_mix := fun m ρ _ => Cert.MixIdeal.Gen.frame m ρ

/-- The reference ends with its arguments as they were; it has no counters. -/
theorem reference_frame : Cert.quiescent_MixRefIdeal := fun m ρ _ =>
  θ_run_mono (Cert.MixRefIdeal.Value.run (F := Ideal) m ρ)
    fun r h => ⟨fun c => (h c).2.2.2.2, sem_eq_zero_of_no_sems (by decide) r.2⟩

theorem reference_frame_finite : Cert.quiescent_MixRefIdeal_pre_finite_mix := fun m ρ _ =>
  θ_run_mono (Cert.MixRefIdeal.Value.run (F := Ideal) m ρ)
    fun r h => ⟨fun c => (h c).2.2.2.2, sem_eq_zero_of_no_sems (by decide) r.2⟩

end Mix.Equal

end
-- ==== Proof.WeightSum.lean ====
/- The gradient of a projection's weights, summed by an accumulator over eight blocks of 1024 rows, in any number of runs
   of eight steps: stated once for the weights' gradients of the mixer. -/
module

public import Idealize.ShloMosaic.Lib.Pipeline.ValueKit
public import Idealize.ShloMosaic.Lib.Pipeline.ReadBack

@[expose] public section

noncomputable section

open Idealize.ShloMosaic
open scoped BigOperators

namespace WeightSum

variable {M N T : ℕ} {ι : Type} (a : Fin 8192 → Fin M → EReal) (b : Fin 8192 → Fin N → EReal)

/-- The gradient: each weight's sum over all rows. -/
def grad (i : Fin M) (j : Fin N) : EReal := ∑ k : Fin 8192, a k i * b k j

/-- The part of the sum over the rows that step `n` reads. -/
def part (n : ℕ) (i : Fin M) (j : Fin N) : EReal :=
  ∑ r : Fin 1024, a ⟨n % 8 * 1024 + r.val, by omega⟩ i * b ⟨n % 8 * 1024 + r.val, by omega⟩ j

/-- An accumulator that starts a run of eight steps from nothing and gains one part at each step holds the gradient at the
    last: `row` and `col` say which weight an entry of it stands for, the same one throughout a run. -/
theorem last (f : (n : ℕ) → n < T → ι → EReal) (row : ι → Fin M) (col : Fin T → ι → Fin N)
    (same : ∀ s t : Fin T, s.val / 8 = t.val / 8 → col s = col t)
    (start : ∀ t : Fin T, t.val % 8 = 0 → ∀ x, f t.val t.isLt x = 0 + part a b t.val (row x) (col t x))
    (step : ∀ t : Fin T, ¬t.val % 8 = 0 → ∀ x,
      f t.val t.isLt x = f (t.val - 1) (Nat.lt_of_le_of_lt (Nat.sub_le _ _) t.isLt) x + part a b t.val (row x) (col t x))
    (t : Fin T) (h7 : t.val % 8 = 7) (x : ι) : f t.val t.isLt x = grad a b (row x) (col t x) := by
  rw [Pipeline.eq_sum_fin_of_reset_step_apply_of_flush f 8 (fun _ => 0) (fun t x => part a b t.val (row x) (col t x))
    start step t h7 x, zero_add]
  unfold grad part
  refine Fin.sum_mul_add_congr fun s r hl => ?_
  have e1 : (8 * (t.val / 8) + s.val) % 8 = s.val := by omega
  have e2 : (8 * (t.val / 8) + s.val) / 8 = t.val / 8 := by omega
  rw [same ⟨8 * (t.val / 8) + s.val, _⟩ t e2]
  simp only [e1]

end WeightSum

end
-- ==== Proof.WeightInArray.lean ====
/- The gradient of the mixer's input weights, the columns of the convolution's three inputs, in three column tiles. -/
module

public import proofs.«01_k».proof.Proof.Gen.WeightInIdeal.Value
public import proofs.«01_k».proof.Proof.WeightSum

@[expose] public section

set_option maxRecDepth 16384

noncomputable section

open Idealize.ShloMosaic Idealize.ShloMosaic.TcCoe Idealize.SL.Sem
open Idealize.ShloMosaic.Pipeline (Dat)
open scoped BigOperators

namespace WeightIn.Array

open Cert.WeightInIdeal Cert.WeightInIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S8192x3072 .bf16 := m ((c : Thread nD τ).loc main_arg1)

theorem idx_val : ∀ t : Fin cfg0.N, win0_0.index t = ![t.val % 8, 0]
    ∧ win0_1.index t = ![t.val % 8, t.val / 8] ∧ win0_2.index t = ![0, t.val / 8] :=
  (by decide +kernel : ∀ t : Fin grid0.N, _)

theorem ltN (t : Fin cfg0.N) : t.val < 24 := lt_of_lt_of_eq t.isLt N_0

/-- The gradient of the weights. -/
def grad (c : Dev nD) (i : Fin 1024) (j : Fin 3072) : EReal := WeightSum.grad (fun k i => aA m c (ix2 k i)) (fun k j => bA m c (ix2 k j)) i j

/-- The column of the weights that an entry of the tile is. -/
def col (t : Fin cfg0.N) (x : S1024x1024.Idx) : Fin 3072 := ⟨t.val / 8 * 1024 + (x 1).val, by have h := ltN t; have h1 : (x 1).val < 1024 := (x 1).isLt; omega⟩

/-- One step's part of the sum. -/
def part (c : Dev nD) (t : Fin cfg0.N) (x : S1024x1024.Idx) : EReal :=
  WeightSum.part (fun k i => aA m c (ix2 k i)) (fun k j => bA m c (ix2 k j)) t.val (x 0) (col t x)

theorem load_a (c : Dev nD) (t : Fin cfg0.N) (r : Fin 1024) (i : Fin 1024) :
    iblk m c 0 t (ix2 r i) = aA m c (ix2 ⟨t.val % 8 * 1024 + r.val, by omega⟩ i) := by
  blk_point [iblk, V, idx_val t]

theorem load_b (c : Dev nD) (t : Fin cfg0.N) (r : Fin 1024) (x : S1024x1024.Idx) :
    iblk m c 1 t (ix2 r (x 1)) = bA m c (ix2 ⟨t.val % 8 * 1024 + r.val, by omega⟩ (col t x)) := by
  unfold col
  blk_point [iblk, V, idx_val t]

theorem step_eq (c : Dev nD) (t : Fin cfg0.N) (z : Vec Ideal S1024x1024 .f32) (x : S1024x1024.Idx) :
    k0_pay2 (F := Ideal) (iblk m c 0 t) (iblk m c 1 t) z x = z x + part m c t x := by
  rw [eq_ix2 x]
  pointwise [k0_pay2]
  unfold part WeightSum.part
  refine congrArg (_ + ·) (Finset.sum_congr rfl fun r _ => ?_)
  exact congrArg₂ (fun u v : EReal => u * v) (load_a m c t r (x 0)) (load_b m c t r x)

theorem start_eq (x : S1024x1024.Idx) : k0_pay1 (F := Ideal) x = 0 := by
  rw [eq_ix2 x]
  pointwise [k0_pay1]

/-- The accumulator at the last step of a run. -/
theorem acc_last (c : Dev nD) (t : Fin cfg0.N) (h7 : t.val % 8 = 7) (x : S1024x1024.Idx) :
    (outsAt0 m c t.val t.isLt).2 x = grad m c (x 0) (col t x) :=
  WeightSum.last _ _ (fun n h => (outsAt0 m c n h).2) (fun x => x 0) col
    (fun s t h => by funext x; unfold col; simp only [h])
    (fun t h x => by
      rw [outsAt0_A m c t h (by omega)]; frame_out
      rw [step_eq, start_eq]; rfl)
    (fun t h x => by
      by_cases h7 : t.val % 8 = 7
      · rw [outsAt0_C m c t h h7]; frame_out; rw [step_eq, read_unread_whole]; rfl
      · rw [outsAt0_B m c t h h7]; frame_out; rw [step_eq, read_unread_whole]; rfl)
    t h7 x

/-- The last step of a run stores the accumulator as it then is. -/
theorem stored (c : Dev nD) (t : Fin cfg0.N) (h7 : t.val % 8 = 7) (y : S1024x1024.Idx) :
    (outsAt0 m c t.val t.isLt).1 y = (outsAt0 m c t.val t.isLt).2 y := by
  rw [outsAt0_C m c t (by omega) h7]
  frame_out
  rfl

/-- The whole gradient. -/
theorem final (c : Dev nD) : (dats m 0 c).arrAt 2 (cfgs 0).N
    = (fun j => grad m c (j 0) (j 1) : FVec Ideal S1024x3072 .bf16) := by
  refine (dats m 0 c).arrAt_eq_of_covers 2 _ (by decide +kernel) fun t hf y => ?_
  have h7 : t.val % 8 = 7 := (flush0_2 t).mp hf
  have place : ((cfg0.win 2).blk t).view.emb y = (ix2 (y 0) (col t y) : S1024x3072.Idx) := by
    unfold col
    blk_ext [idx_val t]
  blk_simp; rw [after0_2]
  refine (stored m c t h7 y).trans ((acc_last m c t h7 y).trans ?_)
  exact congrArg (fun j : S1024x3072.Idx => grad m c (j 0) (j 1)) place.symm

end WeightIn.Array

end
-- ==== Proof.WeightInEqual.lean ====
/- The blocked product is the gradient of the mixer's input projection with respect to the columns of the convolution's inputs. -/
module

public import proofs.«01_k».proof.Defs
public import proofs.«01_k».proof.Proof.WeightInArray
public import proofs.«01_k».proof.Proof.Gen.WeightInRefIdeal.Read
public import proofs.«01_k».proof.Proof.Gen.WeightIn.Frame

@[expose] public section

set_option maxRecDepth 16384

open Idealize.ShloMosaic Idealize.SL.Sem

namespace WeightIn.Equal

/-- The gradient of `w ↦ a · w` along `b`. -/
theorem equal : Cert.algebraic_WeightInIdeal_WeightInRefIdeal := by
  pair_intro
  · run_from Cert.WeightInIdeal.Value.run_blocks m g
  · run_from Cert.WeightInRefIdeal.Value.run m' g'
    obtain ⟨e0, e1⟩ := hagree c
    refine (Cert.WeightInRefIdeal.Read.val_main_v6_eq _ _).trans ?_
    refine Eq.trans ?_ (Array.final m c).symm
    funext i
    rw [eq_ix2 i]
    unfold Cert.WeightInRefIdeal.Read.val_main_v6 Cert.WeightInRefIdeal.Read.val_main_v5 Cert.WeightInRefIdeal.Read.val_main_v4
      Cert.WeightInRefIdeal.Read.val_main_v3 Cert.WeightInRefIdeal.Read.val_main_v1
    pointwise [Array.grad, WeightSum.grad]
    exact Finset.sum_congr rfl fun k _ => mul_comm _ _

/-- The kernel ends with its arguments as they were and every counter at zero; so does its ideal program. -/
theorem frame : Cert.quiescent_WeightIn := fun m ρ _ => Cert.WeightIn.Gen.frame m ρ

theorem ideal_frame : Cert.quiescent_WeightInIdeal := fun m ρ _ => Cert.WeightInIdeal.Gen.frame m ρ

theorem reference_frame : Cert.quiescent_WeightInRefIdeal := fun m ρ _ =>
  θ_run_mono (Cert.WeightInRefIdeal.Value.run (F := Ideal) m ρ)
    fun r h => ⟨fun c => (h c).2, sem_eq_zero_of_no_sems (by decide) r.2⟩

end WeightIn.Equal

end
-- ==== Proof.WeightScanArray.lean ====
/- The gradient of the mixer's input weights, the columns of the scan's input, in one tile. -/
module

public import proofs.«01_k».proof.Proof.Gen.WeightScanIdeal.Value
public import proofs.«01_k».proof.Proof.WeightSum

@[expose] public section

set_option maxRecDepth 16384

noncomputable section

open Idealize.ShloMosaic Idealize.ShloMosaic.TcCoe Idealize.SL.Sem
open Idealize.ShloMosaic.Pipeline (Dat)
open scoped BigOperators

namespace WeightScan.Array

open Cert.WeightScanIdeal Cert.WeightScanIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S8192x512 .bf16 := m ((c : Thread nD τ).loc main_arg1)

theorem idx_val : ∀ t : Fin cfg0.N, win0_0.index t = ![t.val % 8, 0]
    ∧ win0_1.index t = ![t.val % 8, 0] ∧ win0_2.index t = ![0, 0] :=
  (by decide +kernel : ∀ t : Fin grid0.N, _)

theorem ltN (t : Fin cfg0.N) : t.val < 8 := lt_of_lt_of_eq t.isLt N_0

/-- The gradient of the weights. -/
def grad (c : Dev nD) (i : Fin 1024) (j : Fin 512) : EReal := WeightSum.grad (fun k i => aA m c (ix2 k i)) (fun k j => bA m c (ix2 k j)) i j

/-- The column of the weights that an entry of the tile is. -/
def col (t : Fin cfg0.N) (x : S1024x512.Idx) : Fin 512 := x 1

/-- One step's part of the sum. -/
def part (c : Dev nD) (t : Fin cfg0.N) (x : S1024x512.Idx) : EReal :=
  WeightSum.part (fun k i => aA m c (ix2 k i)) (fun k j => bA m c (ix2 k j)) t.val (x 0) (col t x)

theorem load_a (c : Dev nD) (t : Fin cfg0.N) (r : Fin 1024) (i : Fin 1024) :
    iblk m c 0 t (ix2 r i) = aA m c (ix2 ⟨t.val % 8 * 1024 + r.val, by omega⟩ i) := by
  blk_point [iblk, V, idx_val t]

theorem load_b (c : Dev nD) (t : Fin cfg0.N) (r : Fin 1024) (x : S1024x512.Idx) :
    iblk m c 1 t (ix2 r (x 1)) = bA m c (ix2 ⟨t.val % 8 * 1024 + r.val, by omega⟩ (col t x)) := by
  unfold col
  blk_point [iblk, V, idx_val t]

theorem step_eq (c : Dev nD) (t : Fin cfg0.N) (z : Vec Ideal S1024x512 .f32) (x : S1024x512.Idx) :
    k0_pay2 (F := Ideal) (iblk m c 0 t) (iblk m c 1 t) z x = z x + part m c t x := by
  rw [eq_ix2 x]
  pointwise [k0_pay2]
  unfold part WeightSum.part
  refine congrArg (_ + ·) (Finset.sum_congr rfl fun r _ => ?_)
  exact congrArg₂ (fun u v : EReal => u * v) (load_a m c t r (x 0)) (load_b m c t r x)

theorem start_eq (x : S1024x512.Idx) : k0_pay1 (F := Ideal) x = 0 := by
  rw [eq_ix2 x]
  pointwise [k0_pay1]

/-- The accumulator at the last step of a run. -/
theorem acc_last (c : Dev nD) (t : Fin cfg0.N) (h7 : t.val % 8 = 7) (x : S1024x512.Idx) :
    (outsAt0 m c t.val t.isLt).2 x = grad m c (x 0) (col t x) :=
  WeightSum.last _ _ (fun n h => (outsAt0 m c n h).2) (fun x => x 0) col
    (fun s t h => by funext x; unfold col; rfl)
    (fun t h x => by
      rw [outsAt0_A m c t h (by omega)]; frame_out
      rw [step_eq, start_eq]; rfl)
    (fun t h x => by
      by_cases h7 : t.val % 8 = 7
      · rw [outsAt0_C m c t h h7]; frame_out; rw [step_eq, read_unread_whole]; rfl
      · rw [outsAt0_B m c t h h7]; frame_out; rw [step_eq, read_unread_whole]; rfl)
    t h7 x

/-- The last step of a run stores the accumulator as it then is. -/
theorem stored (c : Dev nD) (t : Fin cfg0.N) (h7 : t.val % 8 = 7) (y : S1024x512.Idx) :
    (outsAt0 m c t.val t.isLt).1 y = (outsAt0 m c t.val t.isLt).2 y := by
  rw [outsAt0_C m c t (by omega) h7]
  frame_out
  rfl

/-- The whole gradient. -/
theorem final (c : Dev nD) : (dats m 0 c).arrAt 2 (cfgs 0).N
    = (fun j => grad m c (j 0) (j 1) : FVec Ideal S1024x512 .bf16) := by
  refine (dats m 0 c).arrAt_eq_of_covers 2 _ (by decide +kernel) fun t hf y => ?_
  have h7 : t.val % 8 = 7 := (flush0_2 t).mp hf
  have place : ((cfg0.win 2).blk t).view.emb y = (ix2 (y 0) (col t y) : S1024x512.Idx) := by
    unfold col
    blk_ext [idx_val t]
  blk_simp; rw [after0_2]
  refine (stored m c t h7 y).trans ((acc_last m c t h7 y).trans ?_)
  have e := congrArg (fun j : S1024x512.Idx => grad m c (j 0) (j 1)) place.symm
  exact e

end WeightScan.Array

end
-- ==== Proof.WeightScanEqual.lean ====
/- The blocked product is the gradient of the mixer's input projection with respect to the columns of the scan's input. -/
module

public import proofs.«01_k».proof.Defs
public import proofs.«01_k».proof.Proof.WeightScanArray
public import proofs.«01_k».proof.Proof.Gen.WeightScanRefIdeal.Read
public import proofs.«01_k».proof.Proof.Gen.WeightScan.Frame

@[expose] public section

set_option maxRecDepth 16384

open Idealize.ShloMosaic Idealize.SL.Sem

namespace WeightScan.Equal

/-- The gradient of `w ↦ a · w` along `b`. -/
theorem equal : Cert.algebraic_WeightScanIdeal_WeightScanRefIdeal := by
  pair_intro
  · run_from Cert.WeightScanIdeal.Value.run_blocks m g
  · run_from Cert.WeightScanRefIdeal.Value.run m' g'
    obtain ⟨e0, e1⟩ := hagree c
    refine (Cert.WeightScanRefIdeal.Read.val_main_v6_eq _ _).trans ?_
    refine Eq.trans ?_ (Array.final m c).symm
    funext i
    rw [eq_ix2 i]
    unfold Cert.WeightScanRefIdeal.Read.val_main_v6 Cert.WeightScanRefIdeal.Read.val_main_v5 Cert.WeightScanRefIdeal.Read.val_main_v4
      Cert.WeightScanRefIdeal.Read.val_main_v3 Cert.WeightScanRefIdeal.Read.val_main_v1
    pointwise [Array.grad, WeightSum.grad]
    exact Finset.sum_congr rfl fun k _ => mul_comm _ _

/-- The kernel ends with its arguments as they were and every counter at zero; so does its ideal program. -/
theorem frame : Cert.quiescent_WeightScan := fun m ρ _ => Cert.WeightScan.Gen.frame m ρ

theorem ideal_frame : Cert.quiescent_WeightScanIdeal := fun m ρ _ => Cert.WeightScanIdeal.Gen.frame m ρ

theorem reference_frame : Cert.quiescent_WeightScanRefIdeal := fun m ρ _ =>
  θ_run_mono (Cert.WeightScanRefIdeal.Value.run (F := Ideal) m ρ)
    fun r h => ⟨fun c => (h c).2, sem_eq_zero_of_no_sems (by decide) r.2⟩

end WeightScan.Equal

end
-- ==== Proof.WeightGateArray.lean ====
/- The gradient of the mixer's input weights, the columns of the two gates, in two column tiles. -/
module

public import proofs.«01_k».proof.Proof.Gen.WeightGateIdeal.Value
public import proofs.«01_k».proof.Proof.WeightSum

@[expose] public section

set_option maxRecDepth 16384

noncomputable section

open Idealize.ShloMosaic Idealize.ShloMosaic.TcCoe Idealize.SL.Sem
open Idealize.ShloMosaic.Pipeline (Dat)
open scoped BigOperators

namespace WeightGate.Array

open Cert.WeightGateIdeal Cert.WeightGateIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S8192x2048 .bf16 := m ((c : Thread nD τ).loc main_arg1)

theorem idx_val : ∀ t : Fin cfg0.N, win0_0.index t = ![t.val % 8, 0]
    ∧ win0_1.index t = ![t.val % 8, t.val / 8] ∧ win0_2.index t = ![0, t.val / 8] :=
  (by decide +kernel : ∀ t : Fin grid0.N, _)

theorem ltN (t : Fin cfg0.N) : t.val < 16 := lt_of_lt_of_eq t.isLt N_0

/-- The gradient of the weights. -/
def grad (c : Dev nD) (i : Fin 1024) (j : Fin 2048) : EReal := WeightSum.grad (fun k i => aA m c (ix2 k i)) (fun k j => bA m c (ix2 k j)) i j

/-- The column of the weights that an entry of the tile is. -/
def col (t : Fin cfg0.N) (x : S1024x1024.Idx) : Fin 2048 := ⟨t.val / 8 * 1024 + (x 1).val, by have h := ltN t; have h1 : (x 1).val < 1024 := (x 1).isLt; omega⟩

/-- One step's part of the sum. -/
def part (c : Dev nD) (t : Fin cfg0.N) (x : S1024x1024.Idx) : EReal :=
  WeightSum.part (fun k i => aA m c (ix2 k i)) (fun k j => bA m c (ix2 k j)) t.val (x 0) (col t x)

theorem load_a (c : Dev nD) (t : Fin cfg0.N) (r : Fin 1024) (i : Fin 1024) :
    iblk m c 0 t (ix2 r i) = aA m c (ix2 ⟨t.val % 8 * 1024 + r.val, by omega⟩ i) := by
  blk_point [iblk, V, idx_val t]

theorem load_b (c : Dev nD) (t : Fin cfg0.N) (r : Fin 1024) (x : S1024x1024.Idx) :
    iblk m c 1 t (ix2 r (x 1)) = bA m c (ix2 ⟨t.val % 8 * 1024 + r.val, by omega⟩ (col t x)) := by
  unfold col
  blk_point [iblk, V, idx_val t]

theorem step_eq (c : Dev nD) (t : Fin cfg0.N) (z : Vec Ideal S1024x1024 .f32) (x : S1024x1024.Idx) :
    k0_pay2 (F := Ideal) (iblk m c 0 t) (iblk m c 1 t) z x = z x + part m c t x := by
  rw [eq_ix2 x]
  pointwise [k0_pay2]
  unfold part WeightSum.part
  refine congrArg (_ + ·) (Finset.sum_congr rfl fun r _ => ?_)
  exact congrArg₂ (fun u v : EReal => u * v) (load_a m c t r (x 0)) (load_b m c t r x)

theorem start_eq (x : S1024x1024.Idx) : k0_pay1 (F := Ideal) x = 0 := by
  rw [eq_ix2 x]
  pointwise [k0_pay1]

/-- The accumulator at the last step of a run. -/
theorem acc_last (c : Dev nD) (t : Fin cfg0.N) (h7 : t.val % 8 = 7) (x : S1024x1024.Idx) :
    (outsAt0 m c t.val t.isLt).2 x = grad m c (x 0) (col t x) :=
  WeightSum.last _ _ (fun n h => (outsAt0 m c n h).2) (fun x => x 0) col
    (fun s t h => by funext x; unfold col; simp only [h])
    (fun t h x => by
      rw [outsAt0_A m c t h (by omega)]; frame_out
      rw [step_eq, start_eq]; rfl)
    (fun t h x => by
      by_cases h7 : t.val % 8 = 7
      · rw [outsAt0_C m c t h h7]; frame_out; rw [step_eq, read_unread_whole]; rfl
      · rw [outsAt0_B m c t h h7]; frame_out; rw [step_eq, read_unread_whole]; rfl)
    t h7 x

/-- The last step of a run stores the accumulator as it then is. -/
theorem stored (c : Dev nD) (t : Fin cfg0.N) (h7 : t.val % 8 = 7) (y : S1024x1024.Idx) :
    (outsAt0 m c t.val t.isLt).1 y = (outsAt0 m c t.val t.isLt).2 y := by
  rw [outsAt0_C m c t (by omega) h7]
  frame_out
  rfl

/-- The whole gradient. -/
theorem final (c : Dev nD) : (dats m 0 c).arrAt 2 (cfgs 0).N
    = (fun j => grad m c (j 0) (j 1) : FVec Ideal S1024x2048 .bf16) := by
  refine (dats m 0 c).arrAt_eq_of_covers 2 _ (by decide +kernel) fun t hf y => ?_
  have h7 : t.val % 8 = 7 := (flush0_2 t).mp hf
  have place : ((cfg0.win 2).blk t).view.emb y = (ix2 (y 0) (col t y) : S1024x2048.Idx) := by
    unfold col
    blk_ext [idx_val t]
  blk_simp; rw [after0_2]
  refine (stored m c t h7 y).trans ((acc_last m c t h7 y).trans ?_)
  exact congrArg (fun j : S1024x2048.Idx => grad m c (j 0) (j 1)) place.symm

end WeightGate.Array

end
-- ==== Proof.WeightGateEqual.lean ====
/- The blocked product is the gradient of the mixer's input projection with respect to the columns of the gates. -/
module

public import proofs.«01_k».proof.Defs
public import proofs.«01_k».proof.Proof.WeightGateArray
public import proofs.«01_k».proof.Proof.Gen.WeightGateRefIdeal.Read
public import proofs.«01_k».proof.Proof.Gen.WeightGate.Frame

@[expose] public section

set_option maxRecDepth 16384

open Idealize.ShloMosaic Idealize.SL.Sem

namespace WeightGate.Equal

/-- The gradient of `w ↦ a · w` along `b`. -/
theorem equal : Cert.algebraic_WeightGateIdeal_WeightGateRefIdeal := by
  pair_intro
  · run_from Cert.WeightGateIdeal.Value.run_blocks m g
  · run_from Cert.WeightGateRefIdeal.Value.run m' g'
    obtain ⟨e0, e1⟩ := hagree c
    refine (Cert.WeightGateRefIdeal.Read.val_main_v6_eq _ _).trans ?_
    refine Eq.trans ?_ (Array.final m c).symm
    funext i
    rw [eq_ix2 i]
    unfold Cert.WeightGateRefIdeal.Read.val_main_v6 Cert.WeightGateRefIdeal.Read.val_main_v5 Cert.WeightGateRefIdeal.Read.val_main_v4
      Cert.WeightGateRefIdeal.Read.val_main_v3 Cert.WeightGateRefIdeal.Read.val_main_v1
    pointwise [Array.grad, WeightSum.grad]
    exact Finset.sum_congr rfl fun k _ => mul_comm _ _

/-- The kernel ends with its arguments as they were and every counter at zero; so does its ideal program. -/
theorem frame : Cert.quiescent_WeightGate := fun m ρ _ => Cert.WeightGate.Gen.frame m ρ

theorem ideal_frame : Cert.quiescent_WeightGateIdeal := fun m ρ _ => Cert.WeightGateIdeal.Gen.frame m ρ

theorem reference_frame : Cert.quiescent_WeightGateRefIdeal := fun m ρ _ =>
  θ_run_mono (Cert.WeightGateRefIdeal.Value.run (F := Ideal) m ρ)
    fun r h => ⟨fun c => (h c).2, sem_eq_zero_of_no_sems (by decide) r.2⟩

end WeightGate.Equal

end
-- ==== Proof.WeightOutArray.lean ====
/- The gradient of a square projection's weights, in one tile. -/
module

public import proofs.«01_k».proof.Proof.Gen.WeightOutIdeal.Value
public import proofs.«01_k».proof.Proof.WeightSum

@[expose] public section

set_option maxRecDepth 16384

noncomputable section

open Idealize.ShloMosaic Idealize.ShloMosaic.TcCoe Idealize.SL.Sem
open Idealize.ShloMosaic.Pipeline (Dat)
open scoped BigOperators

namespace WeightOut.Array

open Cert.WeightOutIdeal Cert.WeightOutIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S8192x1024 .bf16 := m ((c : Thread nD τ).loc main_arg1)

theorem idx_val : ∀ t : Fin cfg0.N, win0_0.index t = ![t.val % 8, 0]
    ∧ win0_1.index t = ![t.val % 8, 0] ∧ win0_2.index t = ![0, 0] :=
  (by decide +kernel : ∀ t : Fin grid0.N, _)

theorem ltN (t : Fin cfg0.N) : t.val < 8 := lt_of_lt_of_eq t.isLt N_0

/-- The gradient of the weights. -/
def grad (c : Dev nD) (i : Fin 1024) (j : Fin 1024) : EReal := WeightSum.grad (fun k i => aA m c (ix2 k i)) (fun k j => bA m c (ix2 k j)) i j

/-- The column of the weights that an entry of the tile is. -/
def col (t : Fin cfg0.N) (x : S1024x1024.Idx) : Fin 1024 := x 1

/-- One step's part of the sum. -/
def part (c : Dev nD) (t : Fin cfg0.N) (x : S1024x1024.Idx) : EReal :=
  WeightSum.part (fun k i => aA m c (ix2 k i)) (fun k j => bA m c (ix2 k j)) t.val (x 0) (col t x)

theorem load_a (c : Dev nD) (t : Fin cfg0.N) (r : Fin 1024) (i : Fin 1024) :
    iblk m c 0 t (ix2 r i) = aA m c (ix2 ⟨t.val % 8 * 1024 + r.val, by omega⟩ i) := by
  blk_point [iblk, V, idx_val t]

theorem load_b (c : Dev nD) (t : Fin cfg0.N) (r : Fin 1024) (x : S1024x1024.Idx) :
    iblk m c 1 t (ix2 r (x 1)) = bA m c (ix2 ⟨t.val % 8 * 1024 + r.val, by omega⟩ (col t x)) := by
  unfold col
  blk_point [iblk, V, idx_val t]

theorem step_eq (c : Dev nD) (t : Fin cfg0.N) (z : Vec Ideal S1024x1024 .f32) (x : S1024x1024.Idx) :
    k0_pay2 (F := Ideal) (iblk m c 0 t) (iblk m c 1 t) z x = z x + part m c t x := by
  rw [eq_ix2 x]
  pointwise [k0_pay2]
  unfold part WeightSum.part
  refine congrArg (_ + ·) (Finset.sum_congr rfl fun r _ => ?_)
  exact congrArg₂ (fun u v : EReal => u * v) (load_a m c t r (x 0)) (load_b m c t r x)

theorem start_eq (x : S1024x1024.Idx) : k0_pay1 (F := Ideal) x = 0 := by
  rw [eq_ix2 x]
  pointwise [k0_pay1]

/-- The accumulator at the last step of a run. -/
theorem acc_last (c : Dev nD) (t : Fin cfg0.N) (h7 : t.val % 8 = 7) (x : S1024x1024.Idx) :
    (outsAt0 m c t.val t.isLt).2 x = grad m c (x 0) (col t x) :=
  WeightSum.last _ _ (fun n h => (outsAt0 m c n h).2) (fun x => x 0) col
    (fun s t h => by funext x; unfold col; rfl)
    (fun t h x => by
      rw [outsAt0_A m c t h (by omega)]; frame_out
      rw [step_eq, start_eq]; rfl)
    (fun t h x => by
      by_cases h7 : t.val % 8 = 7
      · rw [outsAt0_C m c t h h7]; frame_out; rw [step_eq, read_unread_whole]; rfl
      · rw [outsAt0_B m c t h h7]; frame_out; rw [step_eq, read_unread_whole]; rfl)
    t h7 x

/-- The last step of a run stores the accumulator as it then is. -/
theorem stored (c : Dev nD) (t : Fin cfg0.N) (h7 : t.val % 8 = 7) (y : S1024x1024.Idx) :
    (outsAt0 m c t.val t.isLt).1 y = (outsAt0 m c t.val t.isLt).2 y := by
  rw [outsAt0_C m c t (by omega) h7]
  frame_out
  rfl

/-- The whole gradient. -/
theorem final (c : Dev nD) : (dats m 0 c).arrAt 2 (cfgs 0).N
    = (fun j => grad m c (j 0) (j 1) : FVec Ideal S1024x1024 .bf16) := by
  refine (dats m 0 c).arrAt_eq_of_covers 2 _ (by decide +kernel) fun t hf y => ?_
  have h7 : t.val % 8 = 7 := (flush0_2 t).mp hf
  have place : ((cfg0.win 2).blk t).view.emb y = (ix2 (y 0) (col t y) : S1024x1024.Idx) := by
    unfold col
    blk_ext [idx_val t]
  blk_simp; rw [after0_2]
  refine (stored m c t h7 y).trans ((acc_last m c t h7 y).trans ?_)
  have e := congrArg (fun j : S1024x1024.Idx => grad m c (j 0) (j 1)) place.symm
  exact e

end WeightOut.Array

end
-- ==== Proof.WeightOutEqual.lean ====
/- The blocked product is the gradient of a square projection with respect to its weights. -/
module

public import proofs.«01_k».proof.Defs
public import proofs.«01_k».proof.Proof.WeightOutArray
public import proofs.«01_k».proof.Proof.Gen.WeightOutRefIdeal.Read
public import proofs.«01_k».proof.Proof.Gen.WeightOut.Frame

@[expose] public section

set_option maxRecDepth 16384

open Idealize.ShloMosaic Idealize.SL.Sem

namespace WeightOut.Equal

/-- The gradient of `w ↦ a · w` along `b`. -/
theorem equal : Cert.algebraic_WeightOutIdeal_WeightOutRefIdeal := by
  pair_intro
  · run_from Cert.WeightOutIdeal.Value.run_blocks m g
  · run_from Cert.WeightOutRefIdeal.Value.run m' g'
    obtain ⟨e0, e1⟩ := hagree c
    refine (Cert.WeightOutRefIdeal.Read.val_main_v6_eq _ _).trans ?_
    refine Eq.trans ?_ (Array.final m c).symm
    funext i
    rw [eq_ix2 i]
    unfold Cert.WeightOutRefIdeal.Read.val_main_v6 Cert.WeightOutRefIdeal.Read.val_main_v5 Cert.WeightOutRefIdeal.Read.val_main_v4
      Cert.WeightOutRefIdeal.Read.val_main_v3 Cert.WeightOutRefIdeal.Read.val_main_v1
    pointwise [Array.grad, WeightSum.grad]
    exact Finset.sum_congr rfl fun k _ => mul_comm _ _

/-- The kernel ends with its arguments as they were and every counter at zero; so does its ideal program. -/
theorem frame : Cert.quiescent_WeightOut := fun m ρ _ => Cert.WeightOut.Gen.frame m ρ

theorem ideal_frame : Cert.quiescent_WeightOutIdeal := fun m ρ _ => Cert.WeightOutIdeal.Gen.frame m ρ

theorem reference_frame : Cert.quiescent_WeightOutRefIdeal := fun m ρ _ =>
  θ_run_mono (Cert.WeightOutRefIdeal.Value.run (F := Ideal) m ρ)
    fun r h => ⟨fun c => (h c).2, sem_eq_zero_of_no_sems (by decide) r.2⟩

end WeightOut.Equal

end
-- ==== Proof.ProjInArray.lean ====
/- The mixer's input projection: the columns of the convolution's three inputs, in three column tiles. -/
module

public import proofs.«01_k».proof.Proof.Gen.ProjInIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace ProjIn.Array

open Cert.ProjInIdeal Cert.ProjInIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S1024x3072 .bf16 := m ((c : Thread nD τ).loc main_arg1)

theorem idx_val : ∀ t : Fin cfg0.N, win0_0.index t = ![t.val / 3, 0]
    ∧ win0_1.index t = ![0, t.val % 3] ∧ win0_2.index t = ![t.val / 3, t.val % 3] :=
  (by decide +kernel : ∀ t : Fin grid0.N, _)

theorem ltN (t : Fin cfg0.N) : t.val < 24 := lt_of_lt_of_eq t.isLt N_0

/-- The product. -/
def proj (c : Dev nD) (i : Fin 8192) (j : Fin 3072) : EReal := ∑ k : Fin 1024, aA m c (ix2 i k) * bA m c (ix2 k j)

/-- The row and the column of the product that an entry of a tile is. -/
def row (t : Fin cfg0.N) (x : S1024x1024.Idx) : Fin 8192 :=
  ⟨t.val / 3 * 1024 + (x 0).val, by have h := ltN t; have h1 : (x 0).val < 1024 := (x 0).isLt; omega⟩
def col (t : Fin cfg0.N) (x : S1024x1024.Idx) : Fin 3072 := ⟨t.val % 3 * 1024 + (x 1).val, by have h1 : (x 1).val < 1024 := (x 1).isLt; omega⟩

theorem load_a (c : Dev nD) (t : Fin cfg0.N) (x : S1024x1024.Idx) (k : Fin 1024) :
    iblk m c 0 t (ix2 (x 0) k) = aA m c (ix2 (row t x) k) := by
  unfold row
  blk_point [iblk, V, idx_val t]

theorem load_b (c : Dev nD) (t : Fin cfg0.N) (x : S1024x1024.Idx) (k : Fin 1024) :
    iblk m c 1 t (ix2 k (x 1)) = bA m c (ix2 k (col t x)) := by
  unfold col
  blk_point [iblk, V, idx_val t]

/-- The one step of a tile: the product, from nothing. -/
theorem step_eq (c : Dev nD) (t : Fin cfg0.N) (x : S1024x1024.Idx) :
    k0_pay2 (F := Ideal) (iblk m c 0 t) (iblk m c 1 t) (k0_pay1 (F := Ideal)) x = proj m c (row t x) (col t x) := by
  rw [eq_ix2 x]
  pointwise [k0_pay2, k0_pay1]
  unfold proj
  refine Finset.sum_congr rfl fun k _ => ?_
  exact congrArg₂ (fun u v : EReal => u * v) (load_a m c t x k) (load_b m c t x k)

theorem stored (c : Dev nD) (t : Fin cfg0.N) (x : S1024x1024.Idx) : outsAt0 m c t x = proj m c (row t x) (col t x) := by
  unfold outsAt0
  frame_out
  exact step_eq m c t x

/-- The whole product. -/
theorem final (c : Dev nD) : (dats m 0 c).arrAt 2 (cfgs 0).N
    = (fun j => proj m c (j 0) (j 1) : FVec Ideal S8192x3072 .bf16) := by
  refine (dats m 0 c).arrAt_eq_of_covers 2 _ (by decide +kernel) fun t hf y => ?_
  have place : ((cfg0.win 2).blk t).view.emb y = (ix2 (row t y) (col t y) : S8192x3072.Idx) := by
    unfold row col
    blk_ext [idx_val t]
  blk_simp; rw [after0_2]
  have e := congrArg (fun j : S8192x3072.Idx => proj m c (j 0) (j 1)) place.symm
  exact (stored m c t y).trans e

end ProjIn.Array

end
-- ==== Proof.ProjInEqual.lean ====
/- The blocked product is the plain one: the mixer's input projection, the columns of the convolution's three inputs. -/
module

public import proofs.«01_k».proof.Defs
public import proofs.«01_k».proof.Proof.ProjInArray
public import proofs.«01_k».proof.Proof.Gen.ProjInRefIdeal.Read
public import proofs.«01_k».proof.Proof.Gen.ProjIn.Frame

@[expose] public section

set_option maxRecDepth 16384

open Idealize.ShloMosaic Idealize.SL.Sem

namespace ProjIn.Equal

/-- Run from inputs that agree, the two programs leave the same product. -/
theorem equal : Cert.algebraic_ProjInIdeal_ProjInRefIdeal := by
  pair_intro
  · run_from Cert.ProjInIdeal.Value.run_blocks m g
  · run_from Cert.ProjInRefIdeal.Value.run m' g'
    obtain ⟨e0, e1⟩ := hagree c
    refine (Cert.ProjInRefIdeal.Read.val_main_v3_eq _ _).trans ?_
    refine Eq.trans ?_ (Array.final m c).symm
    funext i
    rw [eq_ix2 i]
    unfold Cert.ProjInRefIdeal.Read.val_main_v3 Cert.ProjInRefIdeal.Read.val_main_v2 Cert.ProjInRefIdeal.Read.val_main_v1 Cert.ProjInRefIdeal.Read.val_main_v0
    pointwise [Array.proj]

/-- The kernel ends with its arguments as they were and every counter at zero; so does its ideal program. -/
theorem frame : Cert.quiescent_ProjIn := fun m ρ _ => Cert.ProjIn.Gen.frame m ρ

theorem ideal_frame : Cert.quiescent_ProjInIdeal := fun m ρ _ => Cert.ProjInIdeal.Gen.frame m ρ

theorem reference_frame : Cert.quiescent_ProjInRefIdeal := fun m ρ _ =>
  θ_run_mono (Cert.ProjInRefIdeal.Value.run (F := Ideal) m ρ)
    fun r h => ⟨fun c => (h c).2, sem_eq_zero_of_no_sems (by decide) r.2⟩

end ProjIn.Equal

end
-- ==== Proof.ProjGateArray.lean ====
/- The mixer's input projection: the columns of the two gates, in two column tiles. -/
module

public import proofs.«01_k».proof.Proof.Gen.ProjGateIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace ProjGate.Array

open Cert.ProjGateIdeal Cert.ProjGateIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S1024x2048 .bf16 := m ((c : Thread nD τ).loc main_arg1)

theorem idx_val : ∀ t : Fin cfg0.N, win0_0.index t = ![t.val / 2, 0]
    ∧ win0_1.index t = ![0, t.val % 2] ∧ win0_2.index t = ![t.val / 2, t.val % 2] :=
  (by decide +kernel : ∀ t : Fin grid0.N, _)

theorem ltN (t : Fin cfg0.N) : t.val < 16 := lt_of_lt_of_eq t.isLt N_0

/-- The product. -/
def proj (c : Dev nD) (i : Fin 8192) (j : Fin 2048) : EReal := ∑ k : Fin 1024, aA m c (ix2 i k) * bA m c (ix2 k j)

/-- The row and the column of the product that an entry of a tile is. -/
def row (t : Fin cfg0.N) (x : S1024x1024.Idx) : Fin 8192 :=
  ⟨t.val / 2 * 1024 + (x 0).val, by have h := ltN t; have h1 : (x 0).val < 1024 := (x 0).isLt; omega⟩
def col (t : Fin cfg0.N) (x : S1024x1024.Idx) : Fin 2048 := ⟨t.val % 2 * 1024 + (x 1).val, by have h1 : (x 1).val < 1024 := (x 1).isLt; omega⟩

theorem load_a (c : Dev nD) (t : Fin cfg0.N) (x : S1024x1024.Idx) (k : Fin 1024) :
    iblk m c 0 t (ix2 (x 0) k) = aA m c (ix2 (row t x) k) := by
  unfold row
  blk_point [iblk, V, idx_val t]

theorem load_b (c : Dev nD) (t : Fin cfg0.N) (x : S1024x1024.Idx) (k : Fin 1024) :
    iblk m c 1 t (ix2 k (x 1)) = bA m c (ix2 k (col t x)) := by
  unfold col
  blk_point [iblk, V, idx_val t]

/-- The one step of a tile: the product, from nothing. -/
theorem step_eq (c : Dev nD) (t : Fin cfg0.N) (x : S1024x1024.Idx) :
    k0_pay2 (F := Ideal) (iblk m c 0 t) (iblk m c 1 t) (k0_pay1 (F := Ideal)) x = proj m c (row t x) (col t x) := by
  rw [eq_ix2 x]
  pointwise [k0_pay2, k0_pay1]
  unfold proj
  refine Finset.sum_congr rfl fun k _ => ?_
  exact congrArg₂ (fun u v : EReal => u * v) (load_a m c t x k) (load_b m c t x k)

theorem stored (c : Dev nD) (t : Fin cfg0.N) (x : S1024x1024.Idx) : outsAt0 m c t x = proj m c (row t x) (col t x) := by
  unfold outsAt0
  frame_out
  exact step_eq m c t x

/-- The whole product. -/
theorem final (c : Dev nD) : (dats m 0 c).arrAt 2 (cfgs 0).N
    = (fun j => proj m c (j 0) (j 1) : FVec Ideal S8192x2048 .bf16) := by
  refine (dats m 0 c).arrAt_eq_of_covers 2 _ (by decide +kernel) fun t hf y => ?_
  have place : ((cfg0.win 2).blk t).view.emb y = (ix2 (row t y) (col t y) : S8192x2048.Idx) := by
    unfold row col
    blk_ext [idx_val t]
  blk_simp; rw [after0_2]
  have e := congrArg (fun j : S8192x2048.Idx => proj m c (j 0) (j 1)) place.symm
  exact (stored m c t y).trans e

end ProjGate.Array

end
-- ==== Proof.ProjGateEqual.lean ====
/- The blocked product is the plain one: the mixer's input projection, the columns of the two gates. -/
module

public import proofs.«01_k».proof.Defs
public import proofs.«01_k».proof.Proof.ProjGateArray
public import proofs.«01_k».proof.Proof.Gen.ProjGateRefIdeal.Read
public import proofs.«01_k».proof.Proof.Gen.ProjGate.Frame

@[expose] public section

set_option maxRecDepth 16384

open Idealize.ShloMosaic Idealize.SL.Sem

namespace ProjGate.Equal

/-- Run from inputs that agree, the two programs leave the same product. -/
theorem equal : Cert.algebraic_ProjGateIdeal_ProjGateRefIdeal := by
  pair_intro
  · run_from Cert.ProjGateIdeal.Value.run_blocks m g
  · run_from Cert.ProjGateRefIdeal.Value.run m' g'
    obtain ⟨e0, e1⟩ := hagree c
    refine (Cert.ProjGateRefIdeal.Read.val_main_v3_eq _ _).trans ?_
    refine Eq.trans ?_ (Array.final m c).symm
    funext i
    rw [eq_ix2 i]
    unfold Cert.ProjGateRefIdeal.Read.val_main_v3 Cert.ProjGateRefIdeal.Read.val_main_v2 Cert.ProjGateRefIdeal.Read.val_main_v1 Cert.ProjGateRefIdeal.Read.val_main_v0
    pointwise [Array.proj]

/-- The kernel ends with its arguments as they were and every counter at zero; so does its ideal program. -/
theorem frame : Cert.quiescent_ProjGate := fun m ρ _ => Cert.ProjGate.Gen.frame m ρ

theorem ideal_frame : Cert.quiescent_ProjGateIdeal := fun m ρ _ => Cert.ProjGateIdeal.Gen.frame m ρ

theorem reference_frame : Cert.quiescent_ProjGateRefIdeal := fun m ρ _ =>
  θ_run_mono (Cert.ProjGateRefIdeal.Value.run (F := Ideal) m ρ)
    fun r h => ⟨fun c => (h c).2, sem_eq_zero_of_no_sems (by decide) r.2⟩

end ProjGate.Equal

end
-- ==== Proof.ProjOutArray.lean ====
/- The projection at the end of the convolution, in tiles of rows. -/
module

public import proofs.«01_k».proof.Proof.Gen.ProjOutIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace ProjOut.Array

open Cert.ProjOutIdeal Cert.ProjOutIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S1024x1024 .bf16 := m ((c : Thread nD τ).loc main_arg1)

theorem idx_val : ∀ t : Fin cfg0.N, win0_0.index t = ![t.val, 0]
    ∧ win0_1.index t = ![0, 0] ∧ win0_2.index t = ![t.val, 0] :=
  (by decide +kernel : ∀ t : Fin grid0.N, _)

theorem ltN (t : Fin cfg0.N) : t.val < 8 := lt_of_lt_of_eq t.isLt N_0

/-- The product. -/
def proj (c : Dev nD) (i : Fin 8192) (j : Fin 1024) : EReal := ∑ k : Fin 1024, aA m c (ix2 i k) * bA m c (ix2 k j)

/-- The row and the column of the product that an entry of a tile is. -/
def row (t : Fin cfg0.N) (x : S1024x1024.Idx) : Fin 8192 :=
  ⟨t.val * 1024 + (x 0).val, by have h := ltN t; have h1 : (x 0).val < 1024 := (x 0).isLt; omega⟩
def col (_ : Fin cfg0.N) (x : S1024x1024.Idx) : Fin 1024 := x 1

theorem load_a (c : Dev nD) (t : Fin cfg0.N) (x : S1024x1024.Idx) (k : Fin 1024) :
    iblk m c 0 t (ix2 (x 0) k) = aA m c (ix2 (row t x) k) := by
  unfold row
  blk_point [iblk, V, idx_val t]

theorem load_b (c : Dev nD) (t : Fin cfg0.N) (x : S1024x1024.Idx) (k : Fin 1024) :
    iblk m c 1 t (ix2 k (x 1)) = bA m c (ix2 k (col t x)) := by
  unfold col
  blk_point [iblk, V, idx_val t]

/-- The one step of a tile: the product, from nothing. -/
theorem step_eq (c : Dev nD) (t : Fin cfg0.N) (x : S1024x1024.Idx) :
    k0_pay2 (F := Ideal) (iblk m c 0 t) (iblk m c 1 t) (k0_pay1 (F := Ideal)) x = proj m c (row t x) (col t x) := by
  rw [eq_ix2 x]
  pointwise [k0_pay2, k0_pay1]
  unfold proj
  refine Finset.sum_congr rfl fun k _ => ?_
  exact congrArg₂ (fun u v : EReal => u * v) (load_a m c t x k) (load_b m c t x k)

theorem stored (c : Dev nD) (t : Fin cfg0.N) (x : S1024x1024.Idx) : outsAt0 m c t x = proj m c (row t x) (col t x) := by
  unfold outsAt0
  frame_out
  exact step_eq m c t x

/-- The whole product. -/
theorem final (c : Dev nD) : (dats m 0 c).arrAt 2 (cfgs 0).N
    = (fun j => proj m c (j 0) (j 1) : FVec Ideal S8192x1024 .bf16) := by
  refine (dats m 0 c).arrAt_eq_of_covers 2 _ (by decide +kernel) fun t hf y => ?_
  have place : ((cfg0.win 2).blk t).view.emb y = (ix2 (row t y) (col t y) : S8192x1024.Idx) := by
    unfold row col
    blk_ext [idx_val t]
  blk_simp; rw [after0_2]
  have e := congrArg (fun j : S8192x1024.Idx => proj m c (j 0) (j 1)) place.symm
  exact (stored m c t y).trans e

end ProjOut.Array

end
-- ==== Proof.ProjOutEqual.lean ====
/- The blocked product is the plain one: the projection at the end of the convolution. -/
module

public import proofs.«01_k».proof.Defs
public import proofs.«01_k».proof.Proof.ProjOutArray
public import proofs.«01_k».proof.Proof.Gen.ProjOutRefIdeal.Read
public import proofs.«01_k».proof.Proof.Gen.ProjOut.Frame

@[expose] public section

set_option maxRecDepth 16384

open Idealize.ShloMosaic Idealize.SL.Sem

namespace ProjOut.Equal

/-- Run from inputs that agree, the two programs leave the same product. -/
theorem equal : Cert.algebraic_ProjOutIdeal_ProjOutRefIdeal := by
  pair_intro
  · run_from Cert.ProjOutIdeal.Value.run_blocks m g
  · run_from Cert.ProjOutRefIdeal.Value.run m' g'
    obtain ⟨e0, e1⟩ := hagree c
    refine (Cert.ProjOutRefIdeal.Read.val_main_v3_eq _ _).trans ?_
    refine Eq.trans ?_ (Array.final m c).symm
    funext i
    rw [eq_ix2 i]
    unfold Cert.ProjOutRefIdeal.Read.val_main_v3 Cert.ProjOutRefIdeal.Read.val_main_v2 Cert.ProjOutRefIdeal.Read.val_main_v1 Cert.ProjOutRefIdeal.Read.val_main_v0
    pointwise [Array.proj]

/-- The kernel ends with its arguments as they were and every counter at zero; so does its ideal program. -/
theorem frame : Cert.quiescent_ProjOut := fun m ρ _ => Cert.ProjOut.Gen.frame m ρ

theorem ideal_frame : Cert.quiescent_ProjOutIdeal := fun m ρ _ => Cert.ProjOutIdeal.Gen.frame m ρ

theorem reference_frame : Cert.quiescent_ProjOutRefIdeal := fun m ρ _ =>
  θ_run_mono (Cert.ProjOutRefIdeal.Value.run (F := Ideal) m ρ)
    fun r h => ⟨fun c => (h c).2, sem_eq_zero_of_no_sems (by decide) r.2⟩

end ProjOut.Equal

end
-- ==== Proof.ProjScanArray.lean ====
/- The mixer's input projection: the columns of the scan's input, in one column tile. -/
module

public import proofs.«01_k».proof.Proof.Gen.ProjScanIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace ProjScan.Array

open Cert.ProjScanIdeal Cert.ProjScanIdeal.Gen

variable (m : (ℓ : Loc nD τ sig) → Buf (Elt Ideal) ℓ)

abbrev aA (c : Dev nD) : FVec Ideal S8192x1024 .bf16 := m ((c : Thread nD τ).loc main_arg0)
abbrev bA (c : Dev nD) : FVec Ideal S1024x512 .bf16 := m ((c : Thread nD τ).loc main_arg1)

theorem idx_val : ∀ t : Fin cfg0.N, win0_0.index t = ![t.val, 0]
    ∧ win0_1.index t = ![0, 0] ∧ win0_2.index t = ![t.val, 0] :=
  (by decide +kernel : ∀ t : Fin grid0.N, _)

theorem ltN (t : Fin cfg0.N) : t.val < 8 := lt_of_lt_of_eq t.isLt N_0

/-- The product. -/
def proj (c : Dev nD) (i : Fin 8192) (j : Fin 512) : EReal := ∑ k : Fin 1024, aA m c (ix2 i k) * bA m c (ix2 k j)

/-- The row and the column of the product that an entry of a tile is. -/
def row (t : Fin cfg0.N) (x : S1024x512.Idx) : Fin 8192 :=
  ⟨t.val * 1024 + (x 0).val, by have h := ltN t; have h1 : (x 0).val < 1024 := (x 0).isLt; omega⟩
def col (_ : Fin cfg0.N) (x : S1024x512.Idx) : Fin 512 := x 1

theorem load_a (c : Dev nD) (t : Fin cfg0.N) (x : S1024x512.Idx) (k : Fin 1024) :
    iblk m c 0 t (ix2 (x 0) k) = aA m c (ix2 (row t x) k) := by
  unfold row
  blk_point [iblk, V, idx_val t]

theorem load_b (c : Dev nD) (t : Fin cfg0.N) (x : S1024x512.Idx) (k : Fin 1024) :
    iblk m c 1 t (ix2 k (x 1)) = bA m c (ix2 k (col t x)) := by
  unfold col
  blk_point [iblk, V, idx_val t]

/-- The one step of a tile: the product, from nothing. -/
theorem step_eq (c : Dev nD) (t : Fin cfg0.N) (x : S1024x512.Idx) :
    k0_pay2 (F := Ideal) (iblk m c 0 t) (iblk m c 1 t) (k0_pay1 (F := Ideal)) x = proj m c (row t x) (col t x) := by
  rw [eq_ix2 x]
  pointwise [k0_pay2, k0_pay1]
  unfold proj
  refine Finset.sum_congr rfl fun k _ => ?_
  exact congrArg₂ (fun u v : EReal => u * v) (load_a m c t x k) (load_b m c t x k)

theorem stored (c : Dev nD) (t : Fin cfg0.N) (x : S1024x512.Idx) : outsAt0 m c t x = proj m c (row t x) (col t x) := by
  unfold outsAt0
  frame_out
  exact step_eq m c t x

/-- The whole product. -/
theorem final (c : Dev nD) : (dats m 0 c).arrAt 2 (cfgs 0).N
    = (fun j => proj m c (j 0) (j 1) : FVec Ideal S8192x512 .f32) := by
  refine (dats m 0 c).arrAt_eq_of_covers 2 _ (by decide +kernel) fun t hf y => ?_
  have place : ((cfg0.win 2).blk t).view.emb y = (ix2 (row t y) (col t y) : S8192x512.Idx) := by
    unfold row col
    blk_ext [idx_val t]
  blk_simp; rw [after0_2]
  have e := congrArg (fun j : S8192x512.Idx => proj m c (j 0) (j 1)) place.symm
  exact (stored m c t y).trans e

end ProjScan.Array

end
-- ==== Proof.ProjScanEqual.lean ====
/- The blocked product is the plain one: the mixer's input projection, the columns of the scan's input. -/
module

public import proofs.«01_k».proof.Defs
public import proofs.«01_k».proof.Proof.ProjScanArray
public import proofs.«01_k».proof.Proof.Gen.ProjScanRefIdeal.Read
public import proofs.«01_k».proof.Proof.Gen.ProjScan.Frame

@[expose] public section

set_option maxRecDepth 16384

open Idealize.ShloMosaic Idealize.SL.Sem

namespace ProjScan.Equal

/-- Run from inputs that agree, the two programs leave the same product. -/
theorem equal : Cert.algebraic_ProjScanIdeal_ProjScanRefIdeal := by
  pair_intro
  · run_from Cert.ProjScanIdeal.Value.run_blocks m g
  · run_from Cert.ProjScanRefIdeal.Value.run m' g'
    obtain ⟨e0, e1⟩ := hagree c
    refine (Cert.ProjScanRefIdeal.Read.val_main_v2_eq (F := Ideal) _ _).trans ?_
    refine Eq.trans ?_ (Array.final m c).symm
    funext i
    rw [eq_ix2 i]
    unfold Cert.ProjScanRefIdeal.Read.val_main_v2 Cert.ProjScanRefIdeal.Read.val_main_v1 Cert.ProjScanRefIdeal.Read.val_main_v0
    pointwise [Array.proj]

/-- The kernel ends with its arguments as they were and every counter at zero; so does its ideal program. -/
theorem frame : Cert.quiescent_ProjScan := fun m ρ _ => Cert.ProjScan.Gen.frame m ρ

theorem ideal_frame : Cert.quiescent_ProjScanIdeal := fun m ρ _ => Cert.ProjScanIdeal.Gen.frame m ρ

theorem reference_frame : Cert.quiescent_ProjScanRefIdeal := fun m ρ _ =>
  θ_run_mono (Cert.ProjScanRefIdeal.Value.run (F := Ideal) m ρ)
    fun r h => ⟨fun c => (h c).2, sem_eq_zero_of_no_sems (by decide) r.2⟩

end ProjScan.Equal

end
-- ==== Proof.UnmergeArray.lean ====
/- What the gradient of the mixer's merge computes, from its blocks to its whole results: the gradient that reaches the
   projection, those of the two branches and of their gates, and that of the gate on the whole mixer. -/
module

public import proofs.«01_k».proof.Proof.Gen.UnmergeIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Unmerge.Array

open Cert.UnmergeIdeal Cert.UnmergeIdeal.Gen

variable (m : (ℓ : Loc nD τ sig) → Buf (Elt Ideal) ℓ) (c : Dev nD) (t : Fin cfg0.N)

abbrev dxA : FVec Ideal S4x2048x1024 .f32 := m ((c : Thread nD τ).loc main_arg0)
abbrev gtA : FVec Ideal S4x1x1024 .f32 := m ((c : Thread nD τ).loc main_arg1)
abbrev mixA : FVec Ideal S4x2048x1024 .bf16 := m ((c : Thread nD τ).loc main_arg2)
abbrev yaA : FVec Ideal S4x2048x1024 .bf16 := m ((c : Thread nD τ).loc main_arg3)
abbrev ybA : FVec Ideal S4x2048x1024 .bf16 := m ((c : Thread nD τ).loc main_arg4)
abbrev pA : FVec Ideal S4x2048x2048 .bf16 := m ((c : Thread nD τ).loc main_arg5)
abbrev wA : FVec Ideal S1024x1024 .bf16 := m ((c : Thread nD τ).loc main_arg6)

theorem lt16 : t.val < 16 := lt_of_lt_of_eq t.isLt N_0

/-- The sequence and the rows of a step, and the columns of the two gates. -/
def seq (t : Fin cfg0.N) : Fin 4 := ⟨t.val / 4, by have := lt16 t; omega⟩
def row (t : Fin cfg0.N) (r : Fin 512) : Fin 2048 := ⟨t.val % 4 * 512 + r.val, by omega⟩
def left (d : Fin 1024) : Fin 2048 := ⟨d.val, by omega⟩
def right (d : Fin 1024) : Fin 2048 := ⟨1024 + d.val, by omega⟩

theorem idx_val : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 1] ∧ win0_7.index t = ![0, 0]
    ∧ win0_8.index t = ![t.val / 4, t.val % 4, 0] ∧ win0_9.index t = ![t.val / 4, t.val % 4, 0]
    ∧ win0_10.index t = ![t.val / 4, t.val % 4, 0] ∧ win0_11.index t = ![t.val / 4, t.val % 4, 0]
    ∧ win0_12.index t = ![t.val / 4, 0, 0] :=
  (by decide +kernel : ∀ t : Fin grid0.N, _)

/-- The gradient that reaches the projection, and that of the gate on the whole. -/
def dmix (b : Fin 4) (s : Fin 2048) (d : Fin 1024) : EReal := gtA m c (ix3 b 0 d) * dxA m c (ix3 b s d)
def dgt (b : Fin 4) (d : Fin 1024) : EReal := ∑ s : Fin 2048, dxA m c (ix3 b s d) * mixA m c (ix3 b s d)

/-- Behind the projection. -/
def back (b : Fin 4) (s : Fin 2048) (k : Fin 1024) : EReal := ∑ d : Fin 1024, dmix m c b s d * wA m c (ix2 k d)

/-- The two gates, the branches' gradients, … -/
def gateA (b : Fin 4) (s : Fin 2048) (d : Fin 1024) : EReal := Ideal.logistic (pA m c (ix3 b s (left d)))
def gateB (b : Fin 4) (s : Fin 2048) (d : Fin 1024) : EReal := Ideal.logistic (pA m c (ix3 b s (right d)))
def dya (b : Fin 4) (s : Fin 2048) (d : Fin 1024) : EReal := back m c b s d * gateA m c b s d
def dyb (b : Fin 4) (s : Fin 2048) (d : Fin 1024) : EReal := back m c b s d * gateB m c b s d

/-- … and the gates'. -/
def dga (b : Fin 4) (s : Fin 2048) (d : Fin 1024) : EReal :=
  back m c b s d * yaA m c (ix3 b s d) * (gateA m c b s d * (1 - gateA m c b s d))
def dgb (b : Fin 4) (s : Fin 2048) (d : Fin 1024) : EReal :=
  back m c b s d * ybA m c (ix3 b s d) * (gateB m c b s d * (1 - gateB m c b s d))
def dgates (b : Fin 4) (s : Fin 2048) (l : Fin 2048) : EReal :=
  if h : l.val < 1024 then dga m c b s ⟨l.val, h⟩ else dgb m c b s ⟨l.val - 1024, by omega⟩

theorem dmix_at (dx : Vec Ideal S1x512x1024 .f32) (gt : Vec Ideal S1x1x1024 .f32) (r : Fin 512) (d : Fin 1024) :
    k0_pay2 (F := Ideal) dx gt (ix2 r d) = gt (ix3 0 0 d) * dx (ix3 0 r d) := by
  pointwise [k0_pay2, k0_pay1]

theorem dmix_stored (dx : Vec Ideal S1x512x1024 .f32) (gt : Vec Ideal S1x1x1024 .f32) (r : Fin 512) (d : Fin 1024) :
    k0_pay3 (F := Ideal) dx gt (ix3 0 r d) = k0_pay2 (F := Ideal) dx gt (ix2 r d) := by
  pointwise [k0_pay3]

theorem dgt_at (dx : Vec Ideal S1x512x1024 .f32) (mix : Vec Ideal S1x512x1024 .bf16) (d : Fin 1024) :
    k0_pay4 (F := Ideal) dx mix (ix2 0 d) = ∑ r : Fin 512, dx (ix3 0 r d) * mix (ix3 0 r d) := by
  pointwise [k0_pay4, k0_pay1]

theorem dgt_first (dx : Vec Ideal S1x512x1024 .f32) (mix : Vec Ideal S1x512x1024 .bf16) (d : Fin 1024) :
    k0_pay5 (F := Ideal) dx mix (ix3 0 0 d) = k0_pay4 (F := Ideal) dx mix (ix2 0 d) := by
  pointwise [k0_pay5]

theorem dgt_add (dx : Vec Ideal S1x512x1024 .f32) (mix : Vec Ideal S1x512x1024 .bf16) (z : Vec Ideal S1x1x1024 .f32) (d : Fin 1024) :
    k0_pay6 (F := Ideal) dx mix z (ix3 0 0 d) = z (ix3 0 0 d) + k0_pay4 (F := Ideal) dx mix (ix2 0 d) := by
  pointwise [k0_pay6]

theorem back_at (dx : Vec Ideal S1x512x1024 .f32) (gt : Vec Ideal S1x1x1024 .f32) (w : Vec Ideal S1024x1024 .bf16) (r : Fin 512)
    (k : Fin 1024) : k0_pay7 (F := Ideal) dx gt w (ix2 r k) = ∑ d : Fin 1024, k0_pay2 (F := Ideal) dx gt (ix2 r d) * w (ix2 k d) := by
  pointwise [k0_pay7]

theorem gateA_at (g : Vec Ideal S1x512x1024 .bf16) (r : Fin 512) (d : Fin 1024) :
    k0_pay8 (F := Ideal) g (ix2 r d) = Ideal.logistic (g (ix3 0 r d)) := by
  pointwise [k0_pay8]

theorem gateB_at (g : Vec Ideal S1x512x1024 .bf16) (r : Fin 512) (d : Fin 1024) :
    k0_pay9 (F := Ideal) g (ix2 r d) = Ideal.logistic (g (ix3 0 r d)) := by
  pointwise [k0_pay9]

theorem dya_at (u g : FVec Ideal S512x1024 .f32) (r : Fin 512) (d : Fin 1024) :
    k0_pay10 (F := Ideal) u g (ix3 0 r d) = u (ix2 r d) * g (ix2 r d) := by
  pointwise [k0_pay10]

theorem dyb_at (u : FVec Ideal S512x1024 .f32) (g : Vec Ideal S1x512x1024 .bf16) (r : Fin 512) (d : Fin 1024) :
    k0_pay11 (F := Ideal) u g (ix3 0 r d) = u (ix2 r d) * k0_pay9 (F := Ideal) g (ix2 r d) := by
  pointwise [k0_pay11]

theorem dga_at (u g : FVec Ideal S512x1024 .f32) (y : Vec Ideal S1x512x1024 .bf16) (r : Fin 512) (d : Fin 1024) :
    k0_pay12 (F := Ideal) u g y (ix3 0 r d) = u (ix2 r d) * y (ix3 0 r d) * (g (ix2 r d) * (1 - g (ix2 r d))) := by
  rw [← mul_assoc]
  pointwise [k0_pay12]

theorem dgb_at (u : FVec Ideal S512x1024 .f32) (g y : Vec Ideal S1x512x1024 .bf16) (r : Fin 512) (d : Fin 1024) :
    k0_pay13 (F := Ideal) u g y (ix3 0 r d)
      = u (ix2 r d) * y (ix3 0 r d) * (k0_pay9 (F := Ideal) g (ix2 r d) * (1 - k0_pay9 (F := Ideal) g (ix2 r d))) := by
  rw [← mul_assoc]
  pointwise [k0_pay13]

theorem load_dx (r : Fin 512) (d : Fin 1024) : iblk m c 0 t (ix3 0 r d) = dxA m c (ix3 (seq t) (row t r) d) := by
  blk_point [iblk, V, idx_val t, seq, row]
theorem load_gt (d : Fin 1024) : iblk m c 1 t (ix3 0 0 d) = gtA m c (ix3 (seq t) 0 d) := by
  blk_point [iblk, V, idx_val t, seq, row]
theorem load_mix (r : Fin 512) (d : Fin 1024) : iblk m c 2 t (ix3 0 r d) = mixA m c (ix3 (seq t) (row t r) d) := by
  blk_point [iblk, V, idx_val t, seq, row]
theorem load_ya (r : Fin 512) (d : Fin 1024) : iblk m c 3 t (ix3 0 r d) = yaA m c (ix3 (seq t) (row t r) d) := by
  blk_point [iblk, V, idx_val t, seq, row]
theorem load_yb (r : Fin 512) (d : Fin 1024) : iblk m c 4 t (ix3 0 r d) = ybA m c (ix3 (seq t) (row t r) d) := by
  blk_point [iblk, V, idx_val t, seq, row]
theorem load_ga (r : Fin 512) (d : Fin 1024) : iblk m c 5 t (ix3 0 r d) = pA m c (ix3 (seq t) (row t r) (left d)) := by
  blk_point [iblk, V, idx_val t, seq, row, left]
theorem load_gb (r : Fin 512) (d : Fin 1024) : iblk m c 6 t (ix3 0 r d) = pA m c (ix3 (seq t) (row t r) (right d)) := by
  blk_point [iblk, V, idx_val t, seq, row, right]
theorem load_w (k : Fin 1024) (d : Fin 1024) : iblk m c 7 t (ix2 k d) = wA m c (ix2 k d) := by
  blk_point [iblk, V, idx_val t, seq, row]

theorem dmix_block (r : Fin 512) (d : Fin 1024) :
    k0_pay2 (F := Ideal) (iblk m c 0 t) (iblk m c 1 t) (ix2 r d) = dmix m c (seq t) (row t r) d :=
  (dmix_at _ _ r d).trans (congrArg₂ (fun u v : EReal => u * v) (load_gt m c t d) (load_dx m c t r d))

theorem dgt_block (d : Fin 1024) : k0_pay4 (F := Ideal) (iblk m c 0 t) (iblk m c 2 t) (ix2 0 d)
    = ∑ r : Fin 512, dxA m c (ix3 (seq t) (row t r) d) * mixA m c (ix3 (seq t) (row t r) d) :=
  (dgt_at _ _ d).trans (Finset.sum_congr rfl fun r _ =>
    congrArg₂ (fun u v : EReal => u * v) (load_dx m c t r d) (load_mix m c t r d))

/-- The gradient behind the projection, of a step. -/
def backBlock : FVec Ideal S512x1024 .f32 := k0_pay7 (iblk m c 0 t) (iblk m c 1 t) (iblk m c 7 t)

theorem back_block (r : Fin 512) (k : Fin 1024) : backBlock m c t (ix2 r k) = back m c (seq t) (row t r) k :=
  (back_at _ _ _ r k).trans (Finset.sum_congr rfl fun d _ =>
    congrArg₂ (fun u v : EReal => u * v) (dmix_block m c t r d) (load_w m c t k d))

theorem gateA_block (r : Fin 512) (d : Fin 1024) :
    k0_pay8 (F := Ideal) (iblk m c 5 t) (ix2 r d) = gateA m c (seq t) (row t r) d :=
  (gateA_at _ r d).trans (congrArg Ideal.logistic (load_ga m c t r d))

theorem gateB_block (r : Fin 512) (d : Fin 1024) :
    k0_pay9 (F := Ideal) (iblk m c 6 t) (ix2 r d) = gateB m c (seq t) (row t r) d :=
  (gateB_at _ r d).trans (congrArg Ideal.logistic (load_gb m c t r d))

theorem dya_block (r : Fin 512) (d : Fin 1024) :
    k0_pay10 (F := Ideal) (backBlock m c t) (k0_pay8 (iblk m c 5 t)) (ix3 0 r d) = dya m c (seq t) (row t r) d :=
  (dya_at _ _ r d).trans (congrArg₂ (fun u v : EReal => u * v) (back_block m c t r d) (gateA_block m c t r d))

theorem dyb_block (r : Fin 512) (d : Fin 1024) :
    k0_pay11 (F := Ideal) (backBlock m c t) (iblk m c 6 t) (ix3 0 r d) = dyb m c (seq t) (row t r) d :=
  (dyb_at _ _ r d).trans (congrArg₂ (fun u v : EReal => u * v) (back_block m c t r d) (gateB_block m c t r d))

theorem dga_block (r : Fin 512) (d : Fin 1024) :
    k0_pay12 (F := Ideal) (backBlock m c t) (k0_pay8 (iblk m c 5 t)) (iblk m c 3 t) (ix3 0 r d) = dga m c (seq t) (row t r) d :=
  (dga_at _ _ _ r d).trans (congrArg₂ (fun u v : EReal => u * v)
    (congrArg₂ (fun u v : EReal => u * v) (back_block m c t r d) (load_ya m c t r d))
    (congrArg (fun g : EReal => g * (1 - g)) (gateA_block m c t r d)))

theorem dgb_block (r : Fin 512) (d : Fin 1024) :
    k0_pay13 (F := Ideal) (backBlock m c t) (iblk m c 6 t) (iblk m c 4 t) (ix3 0 r d) = dgb m c (seq t) (row t r) d :=
  (dgb_at _ _ _ r d).trans (congrArg₂ (fun u v : EReal => u * v)
    (congrArg₂ (fun u v : EReal => u * v) (back_block m c t r d) (load_yb m c t r d))
    (congrArg (fun g : EReal => g * (1 - g)) (gateB_block m c t r d)))

theorem ix3_of {n : ℕ} (x : (⟨3, ![1, n, 1024]⟩ : Shape).Idx) : x = ix3 0 (x 1) (x 2) := by
  have h0 : (x 0).val < 1 := (x 0).isLt
  funext a; apply Fin.ext
  match a with
  | ⟨0, _⟩ => show (x 0).val = 0; omega
  | ⟨1, _⟩ => rfl
  | ⟨2, _⟩ => rfl

theorem ix3_zero (x : S1x1x1024.Idx) : x = ix3 0 0 (x 2) := by
  have h1 : (x 1).val < 1 := (x 1).isLt
  refine (ix3_of x).trans (congrArg (fun k : Fin 1 => ix3 0 k (x 2)) (Fin.ext ?_))
  show (x 1).val = 0
  omega

/-- What a step leaves in its blocks of the first three results, at whatever step. -/
theorem three : (outsAt0 m c t.val t.isLt).1 = k0_pay3 (iblk m c 0 t) (iblk m c 1 t)
    ∧ (outsAt0 m c t.val t.isLt).2.1 = k0_pay10 (backBlock m c t) (k0_pay8 (iblk m c 5 t))
    ∧ (outsAt0 m c t.val t.isLt).2.2.1 = k0_pay11 (backBlock m c t) (iblk m c 6 t) := by
  by_cases h : t.val % 4 = 0
  · rw [outsAt0_A m c t h (by omega)]
    frame_out
    refine ⟨?_, ?_, ?_⟩ <;> first | exact True.intro | rfl
  · rw [outsAt0_B m c t h (by omega)]
    frame_out
    refine ⟨?_, ?_, ?_⟩ <;> first | exact True.intro | rfl

/-- The gates' gradients at a step's place. -/
theorem gates_place (y : S1x512x2048.Idx) (r : Fin 512) (l : Fin 2048) (hr : (y 1).val = r.val) (hl : (y 2).val = l.val) :
    (fun j : S4x2048x2048.Idx => dgates m c (j 0) (j 1) (j 2)) (((cfg0.win 11).blk t).view.emb y) = dgates m c (seq t) (row t r) l := by
  have place : ((cfg0.win 11).blk t).view.emb y = (ix3 (seq t) (row t r) l : S4x2048x2048.Idx) := by
    have h0 : (y 0).val < 1 := (y 0).isLt
    blk_ext [idx_val t, seq, row]
  exact congrArg (fun j : S4x2048x2048.Idx => dgates m c (j 0) (j 1) (j 2)) place

theorem gates_left (r : Fin 512) (d : Fin 1024) (l : Fin 2048) (h : l.val = d.val) :
    k0_pay12 (F := Ideal) (backBlock m c t) (k0_pay8 (iblk m c 5 t)) (iblk m c 3 t) (ix3 0 r d) = dgates m c (seq t) (row t r) l := by
  rw [dga_block]
  unfold dgates
  rw [dif_pos (by omega)]
  exact congrArg _ (Fin.ext h.symm)

theorem gates_right (r : Fin 512) (d : Fin 1024) (l : Fin 2048) (h : l.val = 1024 + d.val) :
    k0_pay13 (F := Ideal) (backBlock m c t) (iblk m c 6 t) (iblk m c 4 t) (ix3 0 r d) = dgates m c (seq t) (row t r) l := by
  rw [dgb_block]
  unfold dgates
  rw [dif_neg (by omega)]
  exact congrArg _ (Fin.ext (by show d.val = l.val - 1024; omega))

theorem gates_point (y : S1x512x2048.Idx) : (outsAt0 m c t.val t.isLt).2.2.2.1 y
    = (fun j : S4x2048x2048.Idx => dgates m c (j 0) (j 1) (j 2)) (((cfg0.win 11).blk t).view.emb y) := by
  by_cases h4 : t.val % 4 = 0
  · rw [outsAt0_A m c t h4 (by omega)]
    frame_out
    canon_tiles x h
    · exact ((congrArg _ (ix3_of x)).trans (gates_right m c t (x 1) (x 2) _ rfl)).trans
        (gates_place m c t y (x 1) ⟨1024 + (x 2).val, by omega⟩ h1 h2).symm
    · exact ((congrArg _ (ix3_of x)).trans (gates_left m c t (x 1) (x 2) _ rfl)).trans
        (gates_place m c t y (x 1) ⟨(x 2).val, by omega⟩ h1 h2).symm
  · rw [outsAt0_B m c t h4 (by omega)]
    frame_out
    canon_tiles x h
    · exact ((congrArg _ (ix3_of x)).trans (gates_right m c t (x 1) (x 2) _ rfl)).trans
        (gates_place m c t y (x 1) ⟨1024 + (x 2).val, by omega⟩ h1 h2).symm
    · exact ((congrArg _ (ix3_of x)).trans (gates_left m c t (x 1) (x 2) _ rfl)).trans
        (gates_place m c t y (x 1) ⟨(x 2).val, by omega⟩ h1 h2).symm

/-- What the gradient of the gate on the whole holds at a sequence's last step. -/
theorem dgt_last (h3 : t.val % 4 = 3) (y : S1x1x1024.Idx) : (outsAt0 m c t.val t.isLt).2.2.2.2 y = dgt m c (seq t) (y 2) := by
  have ht := lt16 t
  refine (Pipeline.eq_sum_fin_of_reset_step_apply_of_flush (fun n h => (outsAt0 m c n h).2.2.2.2) 4 (fun _ => 0)
    (fun n (x : S1x1x1024.Idx) => ∑ r : Fin 512, dxA m c (ix3 (seq n) (row n r) (x 2)) * mixA m c (ix3 (seq n) (row n r) (x 2)))
    (fun t h x => by
      rw [outsAt0_A m c t h (by omega)]
      frame_out
      exact (congrArg (k0_pay5 (F := Ideal) _ _) (ix3_zero x)).trans
        ((dgt_first _ _ (x 2)).trans ((dgt_block m c t (x 2)).trans (zero_add _).symm)))
    (fun t h x => by
      rw [outsAt0_B m c t h (by omega)]
      frame_out
      exact (congrArg (k0_pay6 (F := Ideal) _ _ _) (ix3_zero x)).trans ((dgt_add _ _ _ (x 2)).trans
        (congrArg₂ (fun u v : EReal => u + v) (congrArg _ (ix3_zero x).symm) (dgt_block m c t (x 2)))))
    t h3 y).trans ?_
  rw [zero_add]
  unfold dgt
  refine Fin.sum_mul_add_congr fun s r hl => ?_
  have e1 : (4 * (t.val / 4) + s.val) / 4 = t.val / 4 := by omega
  have e2 : (4 * (t.val / 4) + s.val) % 4 = s.val := by omega
  unfold seq row
  simp only [e1, e2]

/-- The gradient that reaches the projection, whole. -/
theorem final_8 : (dats m 0 c).arrAt 8 (cfgs 0).N
    = (fun j => dmix m c (j 0) (j 1) (j 2) : FVec Ideal S4x2048x1024 .bf16) := by
  refine (dats m 0 c).arrAt_eq_of_covers 8 _ (by decide +kernel) fun t hf y => ?_
  have place : ((cfg0.win 8).blk t).view.emb y = (ix3 (seq t) (row t (y 1)) (y 2) : S4x2048x1024.Idx) := by
    have h0 : (y 0).val < 1 := (y 0).isLt
    blk_ext [idx_val t, seq, row]
  blk_simp; rw [after0_8]
  refine (congrFun (three m c t).1 y).trans ((congrArg (k0_pay3 (F := Ideal) _ _) (ix3_of y)).trans
    ((dmix_stored _ _ (y 1) (y 2)).trans ((dmix_block m c t (y 1) (y 2)).trans ?_)))
  exact (congrArg (fun j : S4x2048x1024.Idx => dmix m c (j 0) (j 1) (j 2)) place.symm)

/-- The first branch's gradient, whole. -/
theorem final_9 : (dats m 0 c).arrAt 9 (cfgs 0).N
    = (fun j => dya m c (j 0) (j 1) (j 2) : FVec Ideal S4x2048x1024 .bf16) := by
  refine (dats m 0 c).arrAt_eq_of_covers 9 _ (by decide +kernel) fun t hf y => ?_
  have place : ((cfg0.win 9).blk t).view.emb y = (ix3 (seq t) (row t (y 1)) (y 2) : S4x2048x1024.Idx) := by
    have h0 : (y 0).val < 1 := (y 0).isLt
    blk_ext [idx_val t, seq, row]
  blk_simp; rw [after0_9]
  refine (congrFun (three m c t).2.1 y).trans ((congrArg (k0_pay10 (F := Ideal) _ _) (ix3_of y)).trans
    ((dya_block m c t (y 1) (y 2)).trans ?_))
  exact (congrArg (fun j : S4x2048x1024.Idx => dya m c (j 0) (j 1) (j 2)) place.symm)

/-- The second branch's. -/
theorem final_10 : (dats m 0 c).arrAt 10 (cfgs 0).N
    = (fun j => dyb m c (j 0) (j 1) (j 2) : FVec Ideal S4x2048x1024 .bf16) := by
  refine (dats m 0 c).arrAt_eq_of_covers 10 _ (by decide +kernel) fun t hf y => ?_
  have place : ((cfg0.win 10).blk t).view.emb y = (ix3 (seq t) (row t (y 1)) (y 2) : S4x2048x1024.Idx) := by
    have h0 : (y 0).val < 1 := (y 0).isLt
    blk_ext [idx_val t, seq, row]
  blk_simp; rw [after0_10]
  refine (congrFun (three m c t).2.2 y).trans ((congrArg (k0_pay11 (F := Ideal) _ _) (ix3_of y)).trans
    ((dyb_block m c t (y 1) (y 2)).trans ?_))
  exact (congrArg (fun j : S4x2048x1024.Idx => dyb m c (j 0) (j 1) (j 2)) place.symm)

/-- The gates' gradients, whole. -/
theorem final_11 : (dats m 0 c).arrAt 11 (cfgs 0).N
    = (fun j => dgates m c (j 0) (j 1) (j 2) : FVec Ideal S4x2048x2048 .bf16) := by
  refine (dats m 0 c).arrAt_eq_of_covers 11 _ (by decide +kernel) fun t hf y => ?_
  blk_simp; rw [after0_11]
  exact gates_point m c t y

/-- The gradient of the gate on the whole. -/
theorem final_12 : (dats m 0 c).arrAt 12 (cfgs 0).N
    = (fun j => dgt m c (j 0) (j 2) : FVec Ideal S4x1x1024 .f32) := by
  refine (dats m 0 c).arrAt_eq_of_covers 12 _ (by decide +kernel) fun t hf y => ?_
  have h3 : t.val % 4 = 3 := (flush0_12 t).mp hf
  have place : ((cfg0.win 12).blk t).view.emb y = (ix3 (seq t) 0 (y 2) : S4x1x1024.Idx) := by
    have h0 : (y 0).val < 1 := (y 0).isLt
    have h1 : (y 1).val < 1 := (y 1).isLt
    blk_ext [idx_val t, seq]
  blk_simp; rw [after0_12]
  refine (dgt_last m c t h3 y).trans ?_
  exact (congrArg (fun j : S4x1x1024.Idx => dgt m c (j 0) (j 2)) place.symm)

end Unmerge.Array

end
-- ==== Proof.UnmergeEqual.lean ====
/- The blocked gradient of the merge is the plain one. -/
module

public import proofs.«01_k».proof.Defs
public import proofs.«01_k».proof.Proof.UnmergeArray
public import proofs.«01_k».proof.Proof.Gen.UnmergeRefIdeal.Read
public import proofs.«01_k».proof.Proof.Gen.Unmerge.Frame

@[expose] public section

set_option maxRecDepth 16384

open Idealize.ShloMosaic Idealize.ShloMosaic.TcCoe Idealize.SL.Sem
open scoped BigOperators

namespace Unmerge.Reference

open Cert.UnmergeRefIdeal Cert.UnmergeRefIdeal.Read

variable (x0 : FVec Ideal S4x2048x1024 .f32) (x1 : FVec Ideal S4x1x1024 .f32) (x2 x3 x4 : FVec Ideal S4x2048x1024 .bf16)
  (x5 : FVec Ideal S4x2048x2048 .bf16) (x6 : FVec Ideal S1024x1024 .bf16) (b : Fin 4) (s : Fin 2048) (d : Fin 1024)

theorem gateA : val_main_v19 (F := Ideal) x5 (ix3 b s d) = Ideal.logistic (x5 (ix3 b s (Array.left d))) := by
  unfold val_main_v19 val_main_v18 val_main_cst_1 val_main_v17 val_main_v16 val_main_cst_0 val_main_v15 val_main_v14 val_main_v12 val_main_v11
  pointwise [Array.left]
  rfl

theorem gateB : val_main_v29 (F := Ideal) x5 (ix3 b s d) = Ideal.logistic (x5 (ix3 b s (Array.right d))) := by
  unfold val_main_v29 val_main_v28 val_main_cst_4 val_main_v27 val_main_v26 val_main_cst_3 val_main_v25 val_main_v24 val_main_v13 val_main_v11
  pointwise [Array.right]
  rfl

theorem slopeA : val_main_v22 (F := Ideal) x5 (ix3 b s d)
    = val_main_v19 (F := Ideal) x5 (ix3 b s d) * (1 - val_main_v19 (F := Ideal) x5 (ix3 b s d)) := by
  unfold val_main_v22 val_main_v21 val_main_v20 val_main_cst_2
  pointwise []

theorem slopeB : val_main_v32 (F := Ideal) x5 (ix3 b s d)
    = val_main_v29 (F := Ideal) x5 (ix3 b s d) * (1 - val_main_v29 (F := Ideal) x5 (ix3 b s d)) := by
  unfold val_main_v32 val_main_v31 val_main_v30 val_main_cst_5
  pointwise []

theorem dmix : val_main_v5 (F := Ideal) x0 x1 (ix3 b s d) = x1 (ix3 b 0 d) * x0 (ix3 b s d) := by
  unfold val_main_v5 val_main_v4
  pointwise []

theorem dmix_stored : val_main_v44 (F := Ideal) x0 x1 (ix3 b s d) = val_main_v5 (F := Ideal) x0 x1 (ix3 b s d) := by
  unfold val_main_v44
  pointwise []

theorem back : val_main_v36 (F := Ideal) x0 x1 x6 (ix3 b s d)
    = ∑ k : Fin 1024, val_main_v5 (F := Ideal) x0 x1 (ix3 b s k) * x6 (ix2 d k) := by
  unfold val_main_v36 val_main_v0
  pointwise []

theorem dya : val_main_v45 (F := Ideal) x0 x1 x5 x6 (ix3 b s d)
    = val_main_v36 (F := Ideal) x0 x1 x6 (ix3 b s d) * val_main_v19 (F := Ideal) x5 (ix3 b s d) := by
  rw [mul_comm]
  unfold val_main_v45 val_main_v40
  pointwise []

theorem dyb : val_main_v46 (F := Ideal) x0 x1 x5 x6 (ix3 b s d)
    = val_main_v36 (F := Ideal) x0 x1 x6 (ix3 b s d) * val_main_v29 (F := Ideal) x5 (ix3 b s d) := by
  rw [mul_comm]
  unfold val_main_v46 val_main_v37
  pointwise []

theorem dga : val_main_v42 (F := Ideal) x0 x1 x3 x5 x6 (ix3 b s d)
    = val_main_v36 (F := Ideal) x0 x1 x6 (ix3 b s d) * x3 (ix3 b s d) * val_main_v22 (F := Ideal) x5 (ix3 b s d) := by
  unfold val_main_v42 val_main_v41 val_main_v9
  pointwise []

theorem dgb : val_main_v39 (F := Ideal) x0 x1 x4 x5 x6 (ix3 b s d)
    = val_main_v36 (F := Ideal) x0 x1 x6 (ix3 b s d) * x4 (ix3 b s d) * val_main_v32 (F := Ideal) x5 (ix3 b s d) := by
  unfold val_main_v39 val_main_v38 val_main_v10
  pointwise []

/-- The two gates' gradients side by side, read in each half of the columns. -/
theorem dgates_left : val_main_v47 (F := Ideal) x0 x1 x3 x4 x5 x6 (ix3 b s (Array.left d))
    = val_main_v42 (F := Ideal) x0 x1 x3 x5 x6 (ix3 b s d) := by
  have h : d.val < 1024 := d.isLt
  unfold val_main_v47 val_main_v43
  pointwise [Array.left]

theorem dgates_right : val_main_v47 (F := Ideal) x0 x1 x3 x4 x5 x6 (ix3 b s (Array.right d))
    = val_main_v39 (F := Ideal) x0 x1 x4 x5 x6 (ix3 b s d) := by
  have h : d.val < 1024 := d.isLt
  unfold val_main_v47 val_main_v43
  pointwise [Array.right]

theorem dgt (k : Fin 1) : val_main_v8 (F := Ideal) x0 x2 (ix3 b k d) = ∑ s : Fin 2048, x0 (ix3 b s d) * x2 (ix3 b s d) := by
  obtain rfl : k = 0 := Subsingleton.elim _ _
  unfold val_main_v8 val_main_v7 val_main_v6 val_main_v1 val_main_cst
  pointwise []

end Unmerge.Reference

namespace Unmerge.Equal

section

open Cert.UnmergeIdeal Cert.UnmergeRefIdeal.Read

variable (m : (ℓ : Loc nD τ sig) → Buf (Elt Ideal) ℓ) (c : Dev nD) (b : Fin 4) (s : Fin 2048) (d : Fin 1024)

/-- The reference's values at the kernel's arguments. -/
theorem back : val_main_v36 (F := Ideal) (Array.dxA m c) (Array.gtA m c) (Array.wA m c) (ix3 b s d) = Array.back m c b s d :=
  (Reference.back _ _ _ b s d).trans (Finset.sum_congr rfl fun k _ =>
    congrArg (fun u : EReal => u * Array.wA m c (ix2 d k)) (Reference.dmix _ _ b s k))

theorem gateA : val_main_v19 (F := Ideal) (Array.pA m c) (ix3 b s d) = Array.gateA m c b s d := Reference.gateA _ b s d

theorem gateB : val_main_v29 (F := Ideal) (Array.pA m c) (ix3 b s d) = Array.gateB m c b s d := Reference.gateB _ b s d

theorem dga : val_main_v42 (F := Ideal) (Array.dxA m c) (Array.gtA m c) (Array.yaA m c) (Array.pA m c) (Array.wA m c) (ix3 b s d)
    = Array.dga m c b s d := by
  rw [Reference.dga, Reference.slopeA, back, gateA]
  rfl

theorem dgb : val_main_v39 (F := Ideal) (Array.dxA m c) (Array.gtA m c) (Array.ybA m c) (Array.pA m c) (Array.wA m c) (ix3 b s d)
    = Array.dgb m c b s d := by
  rw [Reference.dgb, Reference.slopeB, back, gateB]
  rfl

theorem dgates (l : Fin 2048) : val_main_v47 (F := Ideal) (Array.dxA m c) (Array.gtA m c) (Array.yaA m c) (Array.ybA m c)
    (Array.pA m c) (Array.wA m c) (ix3 b s l) = Array.dgates m c b s l := by
  unfold Array.dgates
  by_cases h : l.val < 1024
  · rw [dif_pos h, ← dga]
    exact Reference.dgates_left _ _ _ _ _ _ b s ⟨l.val, h⟩
  · rw [dif_neg h, ← dgb]
    have e : l = Array.right ⟨l.val - 1024, by omega⟩ := Fin.ext (by show l.val = 1024 + (l.val - 1024); omega)
    exact (congrArg (fun l => val_main_v47 (F := Ideal) (Array.dxA m c) (Array.gtA m c) (Array.yaA m c) (Array.ybA m c)
      (Array.pA m c) (Array.wA m c) (ix3 b s l)) e).trans (Reference.dgates_right _ _ _ _ _ _ b s ⟨l.val - 1024, by omega⟩)

end

/-- Run from inputs that agree, the two programs leave the same five gradients. -/
theorem equal : Cert.algebraic_UnmergeIdeal_UnmergeRefIdeal := by
  pair_intro
  · run_from Cert.UnmergeIdeal.Value.run_blocks m g
  · refine θ_run_mono (Cert.UnmergeRefIdeal.Value.run (F := Ideal) m' g') fun r hr c => ?_
    obtain ⟨h0, h1, h2, h3, h4, h5⟩ := hr c
    obtain ⟨e0, e1, e2, e3, e4, e5, e6⟩ := hagree c
    refine ⟨(h0.trans (Cert.UnmergeRefIdeal.Read.val_main_v44_eq ..)).trans ?_, (h1.trans (Cert.UnmergeRefIdeal.Read.val_main_v45_eq ..)).trans ?_,
      (h2.trans (Cert.UnmergeRefIdeal.Read.val_main_v46_eq ..)).trans ?_, (h3.trans (Cert.UnmergeRefIdeal.Read.val_main_v47_eq ..)).trans ?_,
      (h4.trans (Cert.UnmergeRefIdeal.Read.val_main_v8_eq ..)).trans ?_, h5⟩
    · rw [e0, e1]
      refine Eq.trans ?_ (Array.final_8 m c).symm
      funext i
      rw [eq_ix3 i]
      exact (Reference.dmix_stored _ _ _ _ _).trans (Reference.dmix _ _ _ _ _)
    · rw [e0, e1, e5, e6]
      refine Eq.trans ?_ (Array.final_9 m c).symm
      funext i
      rw [eq_ix3 i]
      exact (Reference.dya _ _ _ _ _ _ _).trans (congrArg₂ (fun u v : EReal => u * v) (back m c _ _ _) (gateA m c _ _ _))
    · rw [e0, e1, e5, e6]
      refine Eq.trans ?_ (Array.final_10 m c).symm
      funext i
      rw [eq_ix3 i]
      exact (Reference.dyb _ _ _ _ _ _ _).trans (congrArg₂ (fun u v : EReal => u * v) (back m c _ _ _) (gateB m c _ _ _))
    · rw [e0, e1, e3, e4, e5, e6]
      refine Eq.trans ?_ (Array.final_11 m c).symm
      funext i
      rw [eq_ix3 i]
      exact dgates m c _ _ _
    · rw [e0, e2]
      refine Eq.trans ?_ (Array.final_12 m c).symm
      funext i
      rw [eq_ix3 i]
      exact Reference.dgt _ _ _ _ _

/-- The kernel ends with its arguments as they were and every counter at zero; so does its ideal program. -/
theorem frame : Cert.quiescent_Unmerge := fun m ρ _ => Cert.Unmerge.Gen.frame m ρ

theorem ideal_frame : Cert.quiescent_UnmergeIdeal := fun m ρ _ => Cert.UnmergeIdeal.Gen.frame m ρ

/-- The reference ends with its arguments as they were; it has no counters. -/
theorem reference_frame : Cert.quiescent_UnmergeRefIdeal := fun m ρ _ =>
  θ_run_mono (Cert.UnmergeRefIdeal.Value.run (F := Ideal) m ρ)
    fun r h => ⟨fun c => (h c).2.2.2.2.2, sem_eq_zero_of_no_sems (by decide) r.2⟩

end Unmerge.Equal

end
-- ==== Proof.MergeBlock.lean ====
/- What the mixer's merge computes: the two branches, each through its gate, added up
   and projected. -/
module

public import proofs.«01_k».proof.Proof.Gen.MergeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Merge.Array

open Cert.MergeIdeal Cert.MergeIdeal.Gen

variable (m : (ℓ : Loc nD τ sig) → Buf (Elt Ideal) ℓ) (c : Dev nD) (t : Fin cfg0.N)

abbrev yaA : FVec Ideal S4x2048x1024 .bf16 := m ((c : Thread nD τ).loc main_arg0)
abbrev ybA : FVec Ideal S4x2048x1024 .bf16 := m ((c : Thread nD τ).loc main_arg1)
abbrev pA : FVec Ideal S4x2048x2048 .bf16 := m ((c : Thread nD τ).loc main_arg2)
abbrev wA : FVec Ideal S1024x1024 .bf16 := m ((c : Thread nD τ).loc main_arg3)
abbrev xA : FVec Ideal S4x2048x1024 .f32 := m ((c : Thread nD τ).loc main_arg4)
abbrev gtA : FVec Ideal S4x1x1024 .f32 := m ((c : Thread nD τ).loc main_arg5)

theorem lt16 : t.val < 16 := lt_of_lt_of_eq t.isLt N_0

/-- The sequence and the rows of a step, and the columns of the two gates. -/
def seq (t : Fin cfg0.N) : Fin 4 := ⟨t.val / 4, by have := lt16 t; omega⟩
def row (t : Fin cfg0.N) (r : Fin 512) : Fin 2048 := ⟨t.val % 4 * 512 + r.val, by omega⟩
def left (d : Fin 1024) : Fin 2048 := ⟨d.val, by omega⟩
def right (d : Fin 1024) : Fin 2048 := ⟨1024 + d.val, by omega⟩

theorem idx_val : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 1]
    ∧ win0_4.index t = ![0, 0] ∧ win0_5.index t = ![t.val / 4, t.val % 4, 0] ∧ win0_6.index t = ![t.val / 4, 0, 0]
    ∧ win0_7.index t = ![t.val / 4, t.val % 4, 0] ∧ win0_8.index t = ![t.val / 4, t.val % 4, 0]
    ∧ win0_9.index t = ![t.val / 4, t.val % 4, 0] :=
  (by decide +kernel : ∀ t : Fin grid0.N, _)

/-- The two branches through their gates, … -/
def merged (b : Fin 4) (s : Fin 2048) (d : Fin 1024) : EReal :=
  Ideal.logistic (pA m c (ix3 b s (left d))) * yaA m c (ix3 b s d) + Ideal.logistic (pA m c (ix3 b s (right d))) * ybA m c (ix3 b s d)

/-- … projected, … -/
def mix (b : Fin 4) (s : Fin 2048) (d : Fin 1024) : EReal := ∑ k : Fin 1024, merged m c b s k * wA m c (ix2 k d)

/-- … and, gated, on top of what came in. -/
def out (b : Fin 4) (s : Fin 2048) (d : Fin 1024) : EReal := xA m c (ix3 b s d) + gtA m c (ix3 b 0 d) * mix m c b s d

theorem merged_at (ga ya gb yb : Vec Ideal S1x512x1024 .bf16) (r : Fin 512) (d : Fin 1024) :
    k0_pay2 (F := Ideal) ga ya gb yb (ix2 r d)
      = Ideal.logistic (ga (ix3 0 r d)) * ya (ix3 0 r d) + Ideal.logistic (gb (ix3 0 r d)) * yb (ix3 0 r d) := by
  pointwise [k0_pay2]

theorem mix_at (ga ya gb yb : Vec Ideal S1x512x1024 .bf16) (w : Vec Ideal S1024x1024 .bf16) (r : Fin 512) (d : Fin 1024) :
    k0_pay3 (F := Ideal) ga ya gb yb w (ix2 r d) = ∑ k : Fin 1024, k0_pay2 (F := Ideal) ga ya gb yb (ix2 r k) * w (ix2 k d) := by
  pointwise [k0_pay3]

theorem merged_stored (ga ya gb yb : Vec Ideal S1x512x1024 .bf16) (r : Fin 512) (d : Fin 1024) :
    k0_pay4 (F := Ideal) ga ya gb yb (ix3 0 r d) = k0_pay2 (F := Ideal) ga ya gb yb (ix2 r d) := by
  pointwise [k0_pay4]

theorem mix_stored (ga ya gb yb : Vec Ideal S1x512x1024 .bf16) (w : Vec Ideal S1024x1024 .bf16) (r : Fin 512) (d : Fin 1024) :
    k0_pay5 (F := Ideal) ga ya gb yb w (ix3 0 r d) = k0_pay3 (F := Ideal) ga ya gb yb w (ix2 r d) := by
  pointwise [k0_pay5]

theorem out_at (u : FVec Ideal S512x1024 .f32) (x : Vec Ideal S1x512x1024 .f32) (gt : Vec Ideal S1x1x1024 .f32) (r : Fin 512)
    (d : Fin 1024) : k0_pay1 (F := Ideal) u (k0_pay6 x) gt (ix3 0 r d) = x (ix3 0 r d) + gt (ix3 0 0 d) * u (ix2 r d) := by
  pointwise [k0_pay1, k0_pay6]

theorem load_ya (r : Fin 512) (d : Fin 1024) : iblk m c 0 t (ix3 0 r d) = yaA m c (ix3 (seq t) (row t r) d) := by
  blk_point [iblk, V, idx_val t, seq, row]
theorem load_yb (r : Fin 512) (d : Fin 1024) : iblk m c 1 t (ix3 0 r d) = ybA m c (ix3 (seq t) (row t r) d) := by
  blk_point [iblk, V, idx_val t, seq, row]
theorem load_ga (r : Fin 512) (d : Fin 1024) : iblk m c 2 t (ix3 0 r d) = pA m c (ix3 (seq t) (row t r) (left d)) := by
  blk_point [iblk, V, idx_val t, seq, row, left]
theorem load_gb (r : Fin 512) (d : Fin 1024) : iblk m c 3 t (ix3 0 r d) = pA m c (ix3 (seq t) (row t r) (right d)) := by
  blk_point [iblk, V, idx_val t, seq, row, right]
theorem load_w (k : Fin 1024) (d : Fin 1024) : iblk m c 4 t (ix2 k d) = wA m c (ix2 k d) := by
  blk_point [iblk, V, idx_val t, seq, row]
theorem load_x (r : Fin 512) (d : Fin 1024) : iblk m c 5 t (ix3 0 r d) = xA m c (ix3 (seq t) (row t r) d) := by
  blk_point [iblk, V, idx_val t, seq, row]
theorem load_gt (d : Fin 1024) : iblk m c 6 t (ix3 0 0 d) = gtA m c (ix3 (seq t) 0 d) := by
  blk_point [iblk, V, idx_val t, seq, row]

theorem merged_block (r : Fin 512) (d : Fin 1024) :
    k0_pay2 (F := Ideal) (iblk m c 2 t) (iblk m c 0 t) (iblk m c 3 t) (iblk m c 1 t) (ix2 r d) = merged m c (seq t) (row t r) d :=
  (merged_at _ _ _ _ r d).trans (congrArg₂ (fun u v : EReal => u + v)
    (congrArg₂ (fun u v : EReal => u * v) (congrArg Ideal.logistic (load_ga m c t r d)) (load_ya m c t r d))
    (congrArg₂ (fun u v : EReal => u * v) (congrArg Ideal.logistic (load_gb m c t r d)) (load_yb m c t r d)))

theorem mix_block (r : Fin 512) (d : Fin 1024) :
    k0_pay3 (F := Ideal) (iblk m c 2 t) (iblk m c 0 t) (iblk m c 3 t) (iblk m c 1 t) (iblk m c 4 t) (ix2 r d)
      = mix m c (seq t) (row t r) d :=
  (mix_at _ _ _ _ _ r d).trans (Finset.sum_congr rfl fun k _ =>
    congrArg₂ (fun u v : EReal => u * v) (merged_block m c t r k) (load_w m c t k d))

theorem out_block (r : Fin 512) (d : Fin 1024) :
    k0_pay1 (F := Ideal) (k0_pay3 (iblk m c 2 t) (iblk m c 0 t) (iblk m c 3 t) (iblk m c 1 t) (iblk m c 4 t)) (k0_pay6 (iblk m c 5 t))
      (iblk m c 6 t) (ix3 0 r d) = out m c (seq t) (row t r) d :=
  (out_at _ _ _ r d).trans (congrArg₂ (fun u v : EReal => u + v) (load_x m c t r d)
    (congrArg₂ (fun u v : EReal => u * v) (load_gt m c t d) (mix_block m c t r d)))

theorem ix3_of {n : ℕ} (x : (⟨3, ![1, n, 1024]⟩ : Shape).Idx) : x = ix3 0 (x 1) (x 2) := by
  have h0 : (x 0).val < 1 := (x 0).isLt
  funext a; apply Fin.ext
  match a with
  | ⟨0, _⟩ => show (x 0).val = 0; omega
  | ⟨1, _⟩ => rfl
  | ⟨2, _⟩ => rfl

theorem merged_out (y : S1x512x1024.Idx) : k0_pay4 (F := Ideal) (iblk m c 2 t) (iblk m c 0 t) (iblk m c 3 t) (iblk m c 1 t) y
    = merged m c (seq t) (row t (y 1)) (y 2) :=
  (congrArg (k0_pay4 (F := Ideal) (iblk m c 2 t) (iblk m c 0 t) (iblk m c 3 t) (iblk m c 1 t)) (ix3_of y)).trans
    ((merged_stored _ _ _ _ (y 1) (y 2)).trans (merged_block m c t (y 1) (y 2)))

theorem mix_out (y : S1x512x1024.Idx) :
    k0_pay5 (F := Ideal) (iblk m c 2 t) (iblk m c 0 t) (iblk m c 3 t) (iblk m c 1 t) (iblk m c 4 t) y
      = mix m c (seq t) (row t (y 1)) (y 2) :=
  (congrArg (k0_pay5 (F := Ideal) (iblk m c 2 t) (iblk m c 0 t) (iblk m c 3 t) (iblk m c 1 t) (iblk m c 4 t)) (ix3_of y)).trans
    ((mix_stored _ _ _ _ _ (y 1) (y 2)).trans (mix_block m c t (y 1) (y 2)))

/-- What a step leaves in its blocks of the first two results. -/
theorem stored (x0 x1 x2 x3 : Vec Ideal S1x512x1024 .bf16) (x4 : Vec Ideal S1024x1024 .bf16) (x5 : Vec Ideal S1x512x1024 .f32)
    (x6 : Vec Ideal S1x1x1024 .f32) : out0_7 (F := Ideal) x0 x1 x2 x3 x4 x5 x6 = k0_pay4 x2 x0 x3 x1
      ∧ out0_8 (F := Ideal) x0 x1 x2 x3 x4 x5 x6 = k0_pay5 x2 x0 x3 x1 x4 := by
  frame_out
  refine ⟨?_, ?_⟩ <;> first | exact True.intro | rfl

end Merge.Array

end
-- ==== Proof.MergeArray.lean ====
/- The mixer's merge, from its blocks to its whole results. -/
module

public import proofs.«01_k».proof.Proof.MergeBlock

@[expose] public section

set_option maxRecDepth 16384

noncomputable section

open Idealize.ShloMosaic Idealize.ShloMosaic.TcCoe Idealize.SL.Sem
open Idealize.ShloMosaic.Pipeline (Dat)
open scoped BigOperators

namespace Merge.Array

open Cert.MergeIdeal Cert.MergeIdeal.Gen

variable (m : (ℓ : Loc nD τ sig) → Buf (Elt Ideal) ℓ) (c : Dev nD)

/-- The merged branches, whole. -/
theorem final_7 : (dats m 0 c).arrAt 7 (cfgs 0).N
    = (fun j => merged m c (j 0) (j 1) (j 2) : FVec Ideal S4x2048x1024 .bf16) := by
  refine (dats m 0 c).arrAt_eq_of_covers 7 _ (by decide +kernel) fun t hf y => ?_
  have place : ((cfg0.win 7).blk t).view.emb y = (ix3 (seq t) (row t (y 1)) (y 2) : S4x2048x1024.Idx) := by
    have h0 : (y 0).val < 1 := (y 0).isLt
    blk_ext [idx_val t, seq, row]
  blk_simp; rw [after0_7]
  have e := congrArg (fun j : S4x2048x1024.Idx => merged m c (j 0) (j 1) (j 2)) place.symm
  exact ((congrFun (stored (iblk m c 0 t) (iblk m c 1 t) (iblk m c 2 t) (iblk m c 3 t) (iblk m c 4 t) (iblk m c 5 t) (iblk m c 6 t)).1 y).trans
    (merged_out m c t y)).trans e

/-- The projection, whole. -/
theorem final_8 : (dats m 0 c).arrAt 8 (cfgs 0).N
    = (fun j => mix m c (j 0) (j 1) (j 2) : FVec Ideal S4x2048x1024 .bf16) := by
  refine (dats m 0 c).arrAt_eq_of_covers 8 _ (by decide +kernel) fun t hf y => ?_
  have place : ((cfg0.win 8).blk t).view.emb y = (ix3 (seq t) (row t (y 1)) (y 2) : S4x2048x1024.Idx) := by
    have h0 : (y 0).val < 1 := (y 0).isLt
    blk_ext [idx_val t, seq, row]
  blk_simp; rw [after0_8]
  have e := congrArg (fun j : S4x2048x1024.Idx => mix m c (j 0) (j 1) (j 2)) place.symm
  exact ((congrFun (stored (iblk m c 0 t) (iblk m c 1 t) (iblk m c 2 t) (iblk m c 3 t) (iblk m c 4 t) (iblk m c 5 t) (iblk m c 6 t)).2 y).trans
    (mix_out m c t y)).trans e

/-- The result, whole. -/
theorem final_9 : (dats m 0 c).arrAt 9 (cfgs 0).N
    = (fun j => out m c (j 0) (j 1) (j 2) : FVec Ideal S4x2048x1024 .f32) := by
  refine (dats m 0 c).arrAt_eq_of_covers 9 _ (by decide +kernel) fun t hf y => ?_
  have place : ((cfg0.win 9).blk t).view.emb y = (ix3 (seq t) (row t (y 1)) (y 2) : S4x2048x1024.Idx) := by
    have h0 : (y 0).val < 1 := (y 0).isLt
    blk_ext [idx_val t, seq, row]
  blk_simp; rw [after0_9]
  frame_out
  refine (congrArg (k0_pay1 (F := Ideal) _ _ _) (ix3_of y)).trans ((out_block m c t (y 1) (y 2)).trans ?_)
  exact (congrArg (fun j : S4x2048x1024.Idx => out m c (j 0) (j 1) (j 2)) place.symm)

end Merge.Array

end
-- ==== Proof.MergeEqual.lean ====
/- The blocked merge is the plain one. -/
module

public import proofs.«01_k».proof.Defs
public import proofs.«01_k».proof.Proof.MergeArray
public import proofs.«01_k».proof.Proof.Gen.MergeRefIdeal.Read
public import proofs.«01_k».proof.Proof.Gen.Merge.Frame

@[expose] public section

set_option maxRecDepth 16384

open Idealize.ShloMosaic Idealize.ShloMosaic.TcCoe Idealize.SL.Sem
open scoped BigOperators

namespace Merge.Reference

open Cert.MergeRefIdeal Cert.MergeRefIdeal.Read

variable (x0 x1 : FVec Ideal S4x2048x1024 .bf16) (x2 : FVec Ideal S4x2048x2048 .bf16) (x3 : FVec Ideal S1024x1024 .bf16)
  (x4 : FVec Ideal S4x2048x1024 .f32) (x5 : FVec Ideal S4x1x1024 .f32) (b : Fin 4) (s : Fin 2048) (d : Fin 1024)

theorem gateA : val_main_v10 (F := Ideal) x2 (ix3 b s d) = Ideal.logistic (x2 (ix3 b s (Array.left d))) := by
  unfold val_main_v10 val_main_v9 val_main_cst_0 val_main_v8 val_main_v7 val_main_cst val_main_v6 val_main_v5 val_main_v3 val_main_v2
  pointwise [Array.left]
  rfl

theorem gateB : val_main_v17 (F := Ideal) x2 (ix3 b s d) = Ideal.logistic (x2 (ix3 b s (Array.right d))) := by
  unfold val_main_v17 val_main_v16 val_main_cst_2 val_main_v15 val_main_v14 val_main_cst_1 val_main_v13 val_main_v12 val_main_v4 val_main_v2
  pointwise [Array.right]
  rfl

theorem merged : val_main_v19 (F := Ideal) x0 x1 x2 (ix3 b s d)
    = Ideal.logistic (x2 (ix3 b s (Array.left d))) * x0 (ix3 b s d) + Ideal.logistic (x2 (ix3 b s (Array.right d))) * x1 (ix3 b s d) := by
  rw [← gateA, ← gateB]
  unfold val_main_v19 val_main_v18 val_main_v11 val_main_v1 val_main_v0
  pointwise []

theorem mix : val_main_v21 (F := Ideal) x0 x1 x2 x3 (ix3 b s d)
    = ∑ k : Fin 1024, val_main_v19 (F := Ideal) x0 x1 x2 (ix3 b s k) * x3 (ix2 k d) := by
  unfold val_main_v21 val_main_v20
  pointwise []

theorem stored : val_main_v22 (F := Ideal) x0 x1 x2 (ix3 b s d) = val_main_v19 (F := Ideal) x0 x1 x2 (ix3 b s d) := by
  unfold val_main_v22
  pointwise []

theorem mix_stored : val_main_v23 (F := Ideal) x0 x1 x2 x3 (ix3 b s d) = val_main_v21 (F := Ideal) x0 x1 x2 x3 (ix3 b s d) := by
  unfold val_main_v23
  pointwise []

theorem out : val_main_v26 (F := Ideal) x0 x1 x2 x3 x4 x5 (ix3 b s d)
    = x4 (ix3 b s d) + x5 (ix3 b 0 d) * val_main_v21 (F := Ideal) x0 x1 x2 x3 (ix3 b s d) := by
  unfold val_main_v26 val_main_v25 val_main_v24
  pointwise []

end Merge.Reference

namespace Merge.Equal

/-- Run from inputs that agree, the two programs leave the same three arrays. -/
theorem equal : Cert.algebraic_MergeIdeal_MergeRefIdeal := by
  pair_intro
  · run_from Cert.MergeIdeal.Value.run_blocks m g
  · refine θ_run_mono (Cert.MergeRefIdeal.Value.run (F := Ideal) m' g') fun r hr c => ?_
    obtain ⟨h0, h1, h2, h3⟩ := hr c
    obtain ⟨e0, e1, e2, e3, e4, e5⟩ := hagree c
    have mixed (b : Fin 4) (s : Fin 2048) (d : Fin 1024) :
        Cert.MergeRefIdeal.Read.val_main_v21 (F := Ideal) (Array.yaA m c) (Array.ybA m c) (Array.pA m c) (Array.wA m c) (ix3 b s d)
          = Array.mix m c b s d :=
      (Reference.mix _ _ _ _ b s d).trans (Finset.sum_congr rfl fun k _ =>
        congrArg (fun u : EReal => u * Array.wA m c (ix2 k d)) (Reference.merged _ _ _ b s k))
    refine ⟨(h0.trans (Cert.MergeRefIdeal.Read.val_main_v22_eq ..)).trans ?_, (h1.trans (Cert.MergeRefIdeal.Read.val_main_v23_eq ..)).trans ?_,
      (h2.trans (Cert.MergeRefIdeal.Read.val_main_v26_eq ..)).trans ?_, h3⟩
    · rw [e0, e1, e2]
      refine Eq.trans ?_ (Array.final_7 m c).symm
      funext i
      rw [eq_ix3 i]
      exact (Reference.stored _ _ _ _ _ _).trans (Reference.merged _ _ _ _ _ _)
    · rw [e0, e1, e2, e3]
      refine Eq.trans ?_ (Array.final_8 m c).symm
      funext i
      rw [eq_ix3 i]
      exact (Reference.mix_stored _ _ _ _ _ _ _).trans (mixed _ _ _)
    · rw [e0, e1, e2, e3, e4, e5]
      refine Eq.trans ?_ (Array.final_9 m c).symm
      funext i
      rw [eq_ix3 i]
      exact (Reference.out _ _ _ _ _ _ _ _ _).trans (congrArg (fun u : EReal => _ + _ * u) (mixed _ _ _))

/-- The kernel ends with its arguments as they were and every counter at zero; so does its ideal program. -/
theorem frame : Cert.quiescent_Merge := fun m ρ _ => Cert.Merge.Gen.frame m ρ

theorem ideal_frame : Cert.quiescent_MergeIdeal := fun m ρ _ => Cert.MergeIdeal.Gen.frame m ρ

/-- The reference ends with its arguments as they were; it has no counters. -/
theorem reference_frame : Cert.quiescent_MergeRefIdeal := fun m ρ _ =>
  θ_run_mono (Cert.MergeRefIdeal.Value.run (F := Ideal) m ρ)
    fun r h => ⟨fun c => (h c).2.2.2, sem_eq_zero_of_no_sems (by decide) r.2⟩

end Merge.Equal

end
-- ==== Proof.lean ====
module

public import proofs.«01_k».proof.Defs
public import proofs.«01_k».proof.Proof.ConvEqual
public import proofs.«01_k».proof.Proof.WeightEqual
public import proofs.«01_k».proof.Proof.NormEqual
public import proofs.«01_k».proof.Proof.UpEqual
public import proofs.«01_k».proof.Proof.DownEqual
public import proofs.«01_k».proof.Proof.HiddenEqual
public import proofs.«01_k».proof.Proof.HiddenKernel
public import proofs.«01_k».proof.Proof.MixEqual
public import proofs.«01_k».proof.Proof.WeightInEqual
public import proofs.«01_k».proof.Proof.WeightScanEqual
public import proofs.«01_k».proof.Proof.WeightGateEqual
public import proofs.«01_k».proof.Proof.WeightOutEqual
public import proofs.«01_k».proof.Proof.ProjInEqual
public import proofs.«01_k».proof.Proof.ProjGateEqual
public import proofs.«01_k».proof.Proof.ProjOutEqual
public import proofs.«01_k».proof.Proof.ProjScanEqual
public import proofs.«01_k».proof.Proof.UnmergeEqual
public import proofs.«01_k».proof.Proof.MergeEqual
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Weight.Gen.facts, Cert.WeightIdeal.Gen.facts, Cert.WeightRefIdeal.Gen.facts, Cert.WeightTRefIdeal.Gen.facts,
  Cert.Norm.Gen.facts, Cert.NormIdeal.Gen.facts, Cert.NormRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Hidden.Gen.facts, Cert.HiddenIdeal.Gen.facts, Cert.HiddenRefIdeal.Gen.facts,
  Cert.Mix.Gen.facts, Cert.MixIdeal.Gen.facts, Cert.MixRefIdeal.Gen.facts,
  Cert.WeightIn.Gen.facts, Cert.WeightInIdeal.Gen.facts, Cert.WeightInRefIdeal.Gen.facts,
  Cert.WeightScan.Gen.facts, Cert.WeightScanIdeal.Gen.facts, Cert.WeightScanRefIdeal.Gen.facts,
  Cert.WeightGate.Gen.facts, Cert.WeightGateIdeal.Gen.facts, Cert.WeightGateRefIdeal.Gen.facts,
  Cert.WeightOut.Gen.facts, Cert.WeightOutIdeal.Gen.facts, Cert.WeightOutRefIdeal.Gen.facts,
  Cert.ProjIn.Gen.facts, Cert.ProjInIdeal.Gen.facts, Cert.ProjInRefIdeal.Gen.facts,
  Cert.ProjGate.Gen.facts, Cert.ProjGateIdeal.Gen.facts, Cert.ProjGateRefIdeal.Gen.facts,
  Cert.ProjOut.Gen.facts, Cert.ProjOutIdeal.Gen.facts, Cert.ProjOutRefIdeal.Gen.facts,
  Cert.ProjScan.Gen.facts, Cert.ProjScanIdeal.Gen.facts, Cert.ProjScanRefIdeal.Gen.facts,
  Cert.Unmerge.Gen.facts, Cert.UnmergeIdeal.Gen.facts, Cert.UnmergeRefIdeal.Gen.facts,
  Cert.Merge.Gen.facts, Cert.MergeIdeal.Gen.facts, Cert.MergeRefIdeal.Gen.facts,
  Norm.Equal.facts, Up.Equal.facts, Hidden.Equal.facts, Mix.Equal.facts,
  Conv.Equal.frame, Conv.Equal.ideal_frame, Conv.Equal.reference_frame,
  Weight.Equal.frame, Weight.Equal.ideal_frame, Weight.Equal.reference_frame, Weight.Equal.transposed_frame,
  Norm.Equal.frame, Norm.Equal.ideal_frame, Norm.Equal.ideal_frame_finite, Norm.Equal.reference_frame,
  Norm.Equal.reference_frame_finite,
  Up.Equal.frame, Up.Equal.ideal_frame, Up.Equal.ideal_frame_finite, Up.Equal.reference_frame, Up.Equal.reference_frame_finite,
  Down.Equal.frame, Down.Equal.ideal_frame, Down.Equal.reference_frame,
  Hidden.Equal.frame, Hidden.Equal.ideal_frame, Hidden.Equal.ideal_frame_finite, Hidden.Equal.reference_frame,
  Hidden.Equal.reference_frame_finite,
  Mix.Equal.frame, Mix.Equal.ideal_frame, Mix.Equal.ideal_frame_finite, Mix.Equal.reference_frame, Mix.Equal.reference_frame_finite,
  WeightIn.Equal.frame, WeightIn.Equal.ideal_frame, WeightIn.Equal.reference_frame,
  WeightScan.Equal.frame, WeightScan.Equal.ideal_frame, WeightScan.Equal.reference_frame,
  WeightGate.Equal.frame, WeightGate.Equal.ideal_frame, WeightGate.Equal.reference_frame,
  WeightOut.Equal.frame, WeightOut.Equal.ideal_frame, WeightOut.Equal.reference_frame,
  ProjIn.Equal.frame, ProjIn.Equal.ideal_frame, ProjIn.Equal.reference_frame,
  ProjGate.Equal.frame, ProjGate.Equal.ideal_frame, ProjGate.Equal.reference_frame,
  ProjOut.Equal.frame, ProjOut.Equal.ideal_frame, ProjOut.Equal.reference_frame,
  ProjScan.Equal.frame, ProjScan.Equal.ideal_frame, ProjScan.Equal.reference_frame,
  Unmerge.Equal.frame, Unmerge.Equal.ideal_frame, Unmerge.Equal.reference_frame,
  Merge.Equal.frame, Merge.Equal.ideal_frame, Merge.Equal.reference_frame,
  trivial, Conv.Equal.equal, trivial, Weight.Equal.equal, Weight.Equal.equal_transposed, trivial, Norm.Equal.equal,
  trivial, Up.Equal.equal, trivial, Down.Equal.equal, trivial, Hidden.Equal.equal,
  trivial, Mix.Equal.equal, trivial, WeightIn.Equal.equal, trivial, WeightScan.Equal.equal,
  trivial, WeightGate.Equal.equal, trivial, WeightOut.Equal.equal,
  trivial, ProjIn.Equal.equal,
  trivial, ProjGate.Equal.equal,
  trivial, ProjOut.Equal.equal,
  trivial, ProjScan.Equal.equal,
  trivial, Unmerge.Equal.equal,
  trivial, Merge.Equal.equal⟩

end Cert.Proof

end
